-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_XReferenceIdeal (m : (ℓ : Loc Cert.XReferenceIdeal.nD Cert.XReferenceIdeal.τ Cert.XReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_ProjectionsIdeal (m : (ℓ : Loc Cert.ProjectionsIdeal.nD Cert.ProjectionsIdeal.τ Cert.ProjectionsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_QuantX_QuantXIdeal : Prop :=
  True

def algebraic_QuantXIdeal_XReferenceIdeal [hQuantXIdeal : Cert.QuantXIdeal.Facts] [hXReferenceIdeal : Cert.XReferenceIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_QuantXIdeal m →
    (∀ c : Dev Cert.QuantXIdeal.nD,
      m' ((c.tc : Thread Cert.XReferenceIdeal.nD Cert.XReferenceIdeal.τ).loc Cert.XReferenceIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v1_0)) (v1 : (c : Dev Cert.QuantXIdeal.nD) → Buf (Elt Ideal) ((c.tc : Thread Cert.QuantXIdeal.nD Cert.QuantXIdeal.τ).loc Cert.QuantXIdeal.main_v1_1)) (v2 : (c : Dev Cert.QuantXIdeal.nD) → Buf (Elt Ideal) ((c.tc : Thread Cert.QuantXIdeal.nD Cert.QuantXIdeal.τ).loc Cert.QuantXIdeal.main_v1_2)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v1_0) = v0 c
          ∧ r.2.mem ((c.tc : Thread Cert.QuantXIdeal.nD Cert.QuantXIdeal.τ).loc Cert.QuantXIdeal.main_v1_1) = v1 c
          ∧ r.2.mem ((c.tc : Thread Cert.QuantXIdeal.nD Cert.QuantXIdeal.τ).loc Cert.QuantXIdeal.main_v1_2) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v1_0) = v0 c
          ∧ r.2.mem ((c.tc : Thread Cert.XReferenceIdeal.nD Cert.XReferenceIdeal.τ).loc Cert.XReferenceIdeal.main_v1_1) = v1 c
          ∧ r.2.mem ((c.tc : Thread Cert.XReferenceIdeal.nD Cert.XReferenceIdeal.τ).loc Cert.XReferenceIdeal.main_v1_2) = v2 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0))

def preserves_Mixer_MixerIdeal : Prop :=
  True

def algebraic_MixerIdeal_ProjectionsIdeal [hMixerIdeal : Cert.MixerIdeal.Facts] [hProjectionsIdeal : Cert.ProjectionsIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_MixerIdeal m →
    (∀ c : Dev Cert.MixerIdeal.nD,
      m' ((c.tc : Thread Cert.ProjectionsIdeal.nD Cert.ProjectionsIdeal.τ).loc Cert.ProjectionsIdeal.main_arg0) = m ((c.tc : Thread Cert.MixerIdeal.nD Cert.MixerIdeal.τ).loc Cert.MixerIdeal.main_arg0)
      ∧ m' ((c.tc : Thread Cert.ProjectionsIdeal.nD Cert.ProjectionsIdeal.τ).loc Cert.ProjectionsIdeal.main_arg1) = m ((c.tc : Thread Cert.MixerIdeal.nD Cert.MixerIdeal.τ).loc Cert.MixerIdeal.main_arg1)
      ∧ m' ((c.tc : Thread Cert.ProjectionsIdeal.nD Cert.ProjectionsIdeal.τ).loc Cert.ProjectionsIdeal.main_arg2) = m ((c.tc : Thread Cert.MixerIdeal.nD Cert.MixerIdeal.τ).loc Cert.MixerIdeal.main_arg2)
      ∧ m' ((c.tc : Thread Cert.ProjectionsIdeal.nD Cert.ProjectionsIdeal.τ).loc Cert.ProjectionsIdeal.main_arg3) = m ((c.tc : Thread Cert.MixerIdeal.nD Cert.MixerIdeal.τ).loc Cert.MixerIdeal.main_arg3)
      ∧ m' ((c.tc : Thread Cert.ProjectionsIdeal.nD Cert.ProjectionsIdeal.τ).loc Cert.ProjectionsIdeal.main_arg4) = m ((c.tc : Thread Cert.MixerIdeal.nD Cert.MixerIdeal.τ).loc Cert.MixerIdeal.main_arg4)
      ∧ m' ((c.tc : Thread Cert.ProjectionsIdeal.nD Cert.ProjectionsIdeal.τ).loc Cert.ProjectionsIdeal.main_arg5) = m ((c.tc : Thread Cert.MixerIdeal.nD Cert.MixerIdeal.τ).loc Cert.MixerIdeal.main_arg5)
      ∧ m' ((c.tc : Thread Cert.ProjectionsIdeal.nD Cert.ProjectionsIdeal.τ).loc Cert.ProjectionsIdeal.main_arg6) = m ((c.tc : Thread Cert.MixerIdeal.nD Cert.MixerIdeal.τ).loc Cert.MixerIdeal.main_arg6)
      ∧ m' ((c.tc : Thread Cert.ProjectionsIdeal.nD Cert.ProjectionsIdeal.τ).loc Cert.ProjectionsIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v6_0)) (v1 : (c : Dev Cert.MixerIdeal.nD) → Buf (Elt Ideal) ((c.tc : Thread Cert.MixerIdeal.nD Cert.MixerIdeal.τ).loc Cert.MixerIdeal.main_v6_1)) (v2 : (c : Dev Cert.MixerIdeal.nD) → Buf (Elt Ideal) ((c.tc : Thread Cert.MixerIdeal.nD Cert.MixerIdeal.τ).loc Cert.MixerIdeal.main_v6_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v6_0) = v0 c
          ∧ r.2.mem ((c.tc : Thread Cert.MixerIdeal.nD Cert.MixerIdeal.τ).loc Cert.MixerIdeal.main_v6_1) = v1 c
          ∧ r.2.mem ((c.tc : Thread Cert.MixerIdeal.nD Cert.MixerIdeal.τ).loc Cert.MixerIdeal.main_v6_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v5_0) = v0 c
          ∧ r.2.mem ((c.tc : Thread Cert.ProjectionsIdeal.nD Cert.ProjectionsIdeal.τ).loc Cert.ProjectionsIdeal.main_v5_1) = v1 c
          ∧ r.2.mem ((c.tc : Thread Cert.ProjectionsIdeal.nD Cert.ProjectionsIdeal.τ).loc Cert.ProjectionsIdeal.main_v5_2) = v2 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m' ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m' ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m' ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m' ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m' ((c.tc : Thread Cert.ProjectionsIdeal.nD Cert.ProjectionsIdeal.τ).loc Cert.ProjectionsIdeal.main_arg7))

def Claim : Prop :=
  ∃ (hKernel : Cert.Kernel.Facts) (hKernelIdeal : Cert.KernelIdeal.Facts) (hReferenceIdeal : Cert.ReferenceIdeal.Facts) (hQuantX : Cert.QuantX.Facts) (hQuantXIdeal : Cert.QuantXIdeal.Facts) (hXReferenceIdeal : Cert.XReferenceIdeal.Facts) (hMixer : Cert.Mixer.Facts) (hMixerIdeal : Cert.MixerIdeal.Facts) (hProjectionsIdeal : Cert.ProjectionsIdeal.Facts),
    quiescent_Kernel (hKernel := hKernel)
    ∧ quiescent_KernelIdeal (hKernelIdeal := hKernelIdeal)
    ∧ quiescent_ReferenceIdeal (hReferenceIdeal := hReferenceIdeal)
    ∧ quiescent_QuantX (hQuantX := hQuantX)
    ∧ quiescent_QuantXIdeal (hQuantXIdeal := hQuantXIdeal)
    ∧ quiescent_XReferenceIdeal (hXReferenceIdeal := hXReferenceIdeal)
    ∧ quiescent_Mixer (hMixer := hMixer)
    ∧ quiescent_MixerIdeal (hMixerIdeal := hMixerIdeal)
    ∧ quiescent_ProjectionsIdeal (hProjectionsIdeal := hProjectionsIdeal)
    ∧ preserves_Kernel_KernelIdeal
    ∧ algebraic_KernelIdeal_ReferenceIdeal (hKernelIdeal := hKernelIdeal) (hReferenceIdeal := hReferenceIdeal)
    ∧ preserves_QuantX_QuantXIdeal
    ∧ algebraic_QuantXIdeal_XReferenceIdeal (hQuantXIdeal := hQuantXIdeal) (hXReferenceIdeal := hXReferenceIdeal)
    ∧ preserves_Mixer_MixerIdeal
    ∧ algebraic_MixerIdeal_ProjectionsIdeal (hMixerIdeal := hMixerIdeal) (hProjectionsIdeal := hProjectionsIdeal)
-- ==== Kernel.lean ====
abbrev S8192x6912 : Shape := ⟨2, ![8192, 6912]⟩
abbrev S2x6912 : Shape := ⟨2, ![2, 6912]⟩
abbrev S6912x5120 : Shape := ⟨2, ![6912, 5120]⟩
abbrev S5120 : Shape := ⟨1, ![5120]⟩
abbrev S1x5120 : Shape := ⟨2, ![1, 5120]⟩
abbrev S32x2x128 : Shape := ⟨3, ![32, 2, 128]⟩
abbrev S8192x5120 : Shape := ⟨2, ![8192, 5120]⟩
abbrev S2x54 : Shape := ⟨2, ![2, 54]⟩
abbrev S64x6912 : Shape := ⟨2, ![64, 6912]⟩
abbrev S1x1280 : Shape := ⟨2, ![1, 1280]⟩
abbrev S1x2x128 : Shape := ⟨3, ![1, 2, 128]⟩
abbrev S256x1280 : Shape := ⟨2, ![256, 1280]⟩
abbrev S256x6912 : Shape := ⟨2, ![256, 6912]⟩
abbrev S256x128 : Shape := ⟨2, ![256, 128]⟩
abbrev S2x128 : Shape := ⟨2, ![2, 128]⟩
abbrev S2 : Shape := ⟨1, ![2]⟩
abbrev S2x1 : Shape := ⟨2, ![2, 1]⟩
abbrev S32x6912 : Shape := ⟨2, ![32, 6912]⟩
abbrev S32 : Shape := ⟨1, ![32]⟩
abbrev S32x1 : Shape := ⟨2, ![32, 1]⟩
abbrev S32x128 : Shape := ⟨2, ![32, 128]⟩
abbrev S6912x256 : Shape := ⟨2, ![6912, 256]⟩
abbrev S256x256 : Shape := ⟨2, ![256, 256]⟩
abbrev S1x128 : Shape := ⟨2, ![1, 128]⟩
abbrev S128x128 : Shape := ⟨2, ![128, 128]⟩
abbrev S128 : Shape := ⟨1, ![128]⟩

abbrev nBuf : Space → Nat
  | .hbm => 12
  | .vmem => 20
  | .smem => 0
  | _ => 0

abbrev bufTy : (tb : Table) → Fin (tcTables nBuf tb) → BufTy
  | .hbm, ⟨0, _⟩ => ⟨S8192x6912, .f32⟩
  | .hbm, ⟨1, _⟩ => ⟨S2x6912, .f32⟩
  | .hbm, ⟨2, _⟩ => ⟨S6912x5120, .i8⟩
  | .hbm, ⟨3, _⟩ => ⟨S5120, .f32⟩
  | .hbm, ⟨4, _⟩ => ⟨S5120, .f32⟩
  | .hbm, ⟨5, _⟩ => ⟨S1x5120, .f32⟩
  | .hbm, ⟨6, _⟩ => ⟨S1x5120, .f32⟩
  | .hbm, ⟨7, _⟩ => ⟨S8192x6912, .i8⟩
  | .hbm, ⟨8, _⟩ => ⟨S32x2x128, .f32⟩
  | .hbm, ⟨9, _⟩ => ⟨S8192x5120, .bf16⟩
  | .hbm, ⟨10, _⟩ => ⟨S2x6912, .fp8e4m3⟩
  | .hbm, ⟨11, _⟩ => ⟨S2x54, .f32⟩
  | .local _ .vmem, ⟨0, _⟩ => ⟨S64x6912, .f32⟩
  | .local _ .vmem, ⟨1, _⟩ => ⟨S64x6912, .f32⟩
  | .local _ .vmem, ⟨2, _⟩ => ⟨S2x6912, .f32⟩
  | .local _ .vmem, ⟨3, _⟩ => ⟨S6912x5120, .i8⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S64x6912, .i8⟩
  | .local _ .vmem, ⟨9, _⟩ => ⟨S64x6912, .i8⟩
  | .local _ .vmem, ⟨10, _⟩ => ⟨S1x2x128, .f32⟩
  | .local _ .vmem, ⟨11, _⟩ => ⟨S1x2x128, .f32⟩
  | .local _ .vmem, ⟨12, _⟩ => ⟨S256x1280, .bf16⟩
  | .local _ .vmem, ⟨13, _⟩ => ⟨S256x1280, .bf16⟩
  | .local _ .vmem, ⟨14, _⟩ => ⟨S2x6912, .fp8e4m3⟩
  | .local _ .vmem, ⟨15, _⟩ => ⟨S2x54, .f32⟩
  | .local _ .vmem, ⟨16, _⟩ => ⟨S256x6912, .bf16⟩
  | .local _ .vmem, ⟨17, _⟩ => ⟨S256x6912, .bf16⟩
  | .local _ .vmem, ⟨18, _⟩ => ⟨S256x128, .f32⟩
  | .local _ .vmem, ⟨19, _⟩ => ⟨S256x128, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![132], ![false]⟩

def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi arg0 c4_i32_5
  let c0_i32_10 : BitVec 32 := 0#32
  let v26 : BitVec 1 := Scalar.cmpi .ne v25 c0_i32_10
  let v27 : BitVec 1 := Scalar.andi v24 v26
  let v13 : BitVec 32 := Scalar.divsi arg0 c4_i32_5
  let c1_i32_11 : BitVec 32 := 1#32
  let v28 : BitVec 32 := Scalar.subi v13 c1_i32_11
  let v29 : BitVec 32 := Scalar.select v27 v28 v13
  let c2_i32 : BitVec 32 := 2#32
  let c0_i32_12 : BitVec 32 := 0#32
  let v30 : BitVec 1 := Scalar.cmpi .eq c2_i32 c0_i32_12
  let c1_i32_13 : BitVec 32 := 1#32
  let v31 : BitVec 32 := Scalar.select v30 c1_i32_13 c2_i32
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c0_i32_17 : BitVec 32 := 0#32
  let v40 : BitVec 1 := Scalar.cmpi .eq v39 c0_i32_17
  let v41 : BitVec 32 := Scalar.extui v40
  let c0_i32_18 : BitVec 32 := 0#32
  let v42 : BitVec 1 := Scalar.cmpi .ne v41 c0_i32_18
  v42

def k0_mult1 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v65 : BitVec 32 := Scalar.muli v9 c64_i32
  let c0_i32_29 : BitVec 32 := 0#32
  let v66 : BitVec 32 := Scalar.addi v65 c0_i32_29
  v66
def k0_off1 (i : grid0.Coords) (c0_i32_29 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v65 : BitVec 32 := Scalar.muli v9 c64_i32
  let v66 : BitVec 32 := Scalar.addi v65 c0_i32_29
  let v67 : BitVec 32 := v66
  let v69 : Index := Scalar.indexCast v67
  let c0_30 : Index := 0#32
  ![v69.toNat, 0]
def k0_off2 (i : grid0.Coords) (c0_i32_29 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v65 : BitVec 32 := Scalar.muli v9 c64_i32
  let v66 : BitVec 32 := Scalar.addi v65 c0_i32_29
  let v67 : BitVec 32 := v66
  let v75 : Index := Scalar.indexCast v67
  let c0_31 : Index := 0#32
  ![v75.toNat, 0]
def k0_mult2 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_41 : BitVec 32 := 64#32
  let v98 : BitVec 32 := Scalar.muli v9 c64_i32_41
  let c32_i32 : BitVec 32 := 32#32
  let v99 : BitVec 32 := Scalar.addi v98 c32_i32
  v99
def k0_mult3 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32 : BitVec 32 := 1280#32
  let v112 : BitVec 32 := Scalar.muli v9 c1280_i32
  let c0_i32_44 : BitVec 32 := 0#32
  let v113 : BitVec 32 := Scalar.addi v112 c0_i32_44
  v113
def k0_off3 (i : grid0.Coords) (c0_i32_44 : BitVec 32) : Fin 2 → Nat :=
  let c0_45 : Index := 0#32
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32 : BitVec 32 := 1280#32
  let v112 : BitVec 32 := Scalar.muli v9 c1280_i32
  let v113 : BitVec 32 := Scalar.addi v112 c0_i32_44
  let v114 : BitVec 32 := v113
  let v115 : Index := Scalar.indexCast v114
  ![0, v115.toNat]
def k0_mult4 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_64 : BitVec 32 := 1280#32
  let v147 : BitVec 32 := Scalar.muli v9 c1280_i32_64
  let c256_i32 : BitVec 32 := 256#32
  let v148 : BitVec 32 := Scalar.addi v147 c256_i32
  v148
def k0_mult5 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_83 : BitVec 32 := 1280#32
  let v182 : BitVec 32 := Scalar.muli v9 c1280_i32_83
  let c512_i32 : BitVec 32 := 512#32
  let v183 : BitVec 32 := Scalar.addi v182 c512_i32
  v183
def k0_mult6 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_102 : BitVec 32 := 1280#32
  let v217 : BitVec 32 := Scalar.muli v9 c1280_i32_102
  let c768_i32 : BitVec 32 := 768#32
  let v218 : BitVec 32 := Scalar.addi v217 c768_i32
  v218
def k0_mult7 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_121 : BitVec 32 := 1280#32
  let v252 : BitVec 32 := Scalar.muli v9 c1280_i32_121
  let c1024_i32 : BitVec 32 := 1024#32
  let v253 : BitVec 32 := Scalar.addi v252 c1024_i32
  v253
def k0_cond3 (i : grid0.Coords) : BitVec 1 :=
  let arg0 : BitVec 32 := BitVec.ofNat 32 (i 0).val
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi arg0 c4_i32_5
  let c0_i32_10 : BitVec 32 := 0#32
  let v26 : BitVec 1 := Scalar.cmpi .ne v25 c0_i32_10
  let v27 : BitVec 1 := Scalar.andi v24 v26
  let v13 : BitVec 32 := Scalar.divsi arg0 c4_i32_5
  let c1_i32_11 : BitVec 32 := 1#32
  let v28 : BitVec 32 := Scalar.subi v13 c1_i32_11
  let v29 : BitVec 32 := Scalar.select v27 v28 v13
  let c2_i32 : BitVec 32 := 2#32
  let c0_i32_12 : BitVec 32 := 0#32
  let v30 : BitVec 1 := Scalar.cmpi .eq c2_i32 c0_i32_12
  let c1_i32_13 : BitVec 32 := 1#32
  let v31 : BitVec 32 := Scalar.select v30 c1_i32_13 c2_i32
  let v32 : BitVec 32 := Scalar.remsi v29 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c1_i32_19 : BitVec 32 := 1#32
  let v43 : BitVec 1 := Scalar.cmpi .eq v39 c1_i32_19
  let v44 : BitVec 32 := Scalar.extui v43
  let c0_i32_20 : BitVec 32 := 0#32
  let v45 : BitVec 1 := Scalar.cmpi .ne v44 c0_i32_20
  v45

def k0_mult8 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v65 : BitVec 32 := Scalar.muli v9 c64_i32
  let c0_i32_29 : BitVec 32 := 0#32
  let v66 : BitVec 32 := Scalar.addi v65 c0_i32_29
  v66
def k0_off4 (i : grid0.Coords) (c0_i32_29 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v65 : BitVec 32 := Scalar.muli v9 c64_i32
  let v66 : BitVec 32 := Scalar.addi v65 c0_i32_29
  let v67 : BitVec 32 := v66
  let v69 : Index := Scalar.indexCast v67
  let c0_30 : Index := 0#32
  ![v69.toNat, 0]
def k0_off5 (i : grid0.Coords) (c0_i32_29 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v65 : BitVec 32 := Scalar.muli v9 c64_i32
  let v66 : BitVec 32 := Scalar.addi v65 c0_i32_29
  let v67 : BitVec 32 := v66
  let v75 : Index := Scalar.indexCast v67
  let c0_31 : Index := 0#32
  ![v75.toNat, 0]
def k0_mult9 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_41 : BitVec 32 := 64#32
  let v98 : BitVec 32 := Scalar.muli v9 c64_i32_41
  let c32_i32 : BitVec 32 := 32#32
  let v99 : BitVec 32 := Scalar.addi v98 c32_i32
  v99
def k0_mult10 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32 : BitVec 32 := 1280#32
  let v112 : BitVec 32 := Scalar.muli v9 c1280_i32
  let c0_i32_44 : BitVec 32 := 0#32
  let v113 : BitVec 32 := Scalar.addi v112 c0_i32_44
  v113
def k0_off6 (i : grid0.Coords) (c0_i32_44 : BitVec 32) : Fin 2 → Nat :=
  let c0_45 : Index := 0#32
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32 : BitVec 32 := 1280#32
  let v112 : BitVec 32 := Scalar.muli v9 c1280_i32
  let v113 : BitVec 32 := Scalar.addi v112 c0_i32_44
  let v114 : BitVec 32 := v113
  let v115 : Index := Scalar.indexCast v114
  ![0, v115.toNat]
def k0_mult11 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_64 : BitVec 32 := 1280#32
  let v147 : BitVec 32 := Scalar.muli v9 c1280_i32_64
  let c256_i32 : BitVec 32 := 256#32
  let v148 : BitVec 32 := Scalar.addi v147 c256_i32
  v148
def k0_mult12 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_83 : BitVec 32 := 1280#32
  let v182 : BitVec 32 := Scalar.muli v9 c1280_i32_83
  let c512_i32 : BitVec 32 := 512#32
  let v183 : BitVec 32 := Scalar.addi v182 c512_i32
  v183
def k0_mult13 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_102 : BitVec 32 := 1280#32
  let v217 : BitVec 32 := Scalar.muli v9 c1280_i32_102
  let c768_i32 : BitVec 32 := 768#32
  let v218 : BitVec 32 := Scalar.addi v217 c768_i32
  v218
def k0_mult14 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1280_i32_121 : BitVec 32 := 1280#32
  let v252 : BitVec 32 := Scalar.muli v9 c1280_i32_121
  let c1024_i32 : BitVec 32 := 1024#32
  let v253 : BitVec 32 := Scalar.addi v252 c1024_i32
  v253
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c0_i32_5 : BitVec 32 := 0#32
  let v18 : BitVec 32 := Scalar.maxsi v17 c0_i32_5
  let c0_i32_6 : BitVec 32 := 0#32
  let c0_i32_7 : BitVec 32 := 0#32
  let c0_i32_8 : BitVec 32 := 0#32
  ![v18.toNat, c0_i32_6.toNat, c0_i32_7.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c0_i32_5 : BitVec 32 := 0#32
  let v18 : BitVec 32 := Scalar.maxsi v17 c0_i32_5
  let c4_i32_6 : BitVec 32 := 4#32
  let v19 : BitVec 1 := Scalar.cmpi .slt arg0 c4_i32_6
  let c4_i32_7 : BitVec 32 := 4#32
  let c0_i32_8 : BitVec 32 := 0#32
  let v20 : BitVec 1 := Scalar.cmpi .eq c4_i32_7 c0_i32_8
  let c1_i32_9 : BitVec 32 := 1#32
  let v21 : BitVec 32 := Scalar.select v20 c1_i32_9 c4_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let v30 : BitVec 32 := Scalar.select v19 c0_i32_13 v29
  let c0_i32_14 : BitVec 32 := 0#32
  ![v18.toNat, v30.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x6912 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6912x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x6912 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x6912 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x54 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x6912 : Shape := ⟨2, ![8192, 6912]⟩
abbrev S2x6912 : Shape := ⟨2, ![2, 6912]⟩
abbrev S6912x5120 : Shape := ⟨2, ![6912, 5120]⟩
abbrev S5120 : Shape := ⟨1, ![5120]⟩
abbrev S1x5120 : Shape := ⟨2, ![1, 5120]⟩
abbrev S32x2x128 : Shape := ⟨3, ![32, 2, 128]⟩
abbrev S8192x5120 : Shape := ⟨2, ![8192, 5120]⟩
abbrev S2x54 : Shape := ⟨2, ![2, 54]⟩
abbrev S8192 : Shape := ⟨1, ![8192]⟩
abbrev S8192x1 : Shape := ⟨2, ![8192, 1]⟩
abbrev S2x54x128 : Shape := ⟨3, ![2, 54, 128]⟩
abbrev S2x54x1 : Shape := ⟨3, ![2, 54, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x6912, .f32⟩
  | .hbm, ⟨1, _⟩ => ⟨S2x6912, .f32⟩
  | .hbm, ⟨2, _⟩ => ⟨S6912x5120, .i8⟩
  | .hbm, ⟨3, _⟩ => ⟨S5120, .f32⟩
  | .hbm, ⟨4, _⟩ => ⟨S5120, .f32⟩
  | .hbm, ⟨5, _⟩ => ⟨S1x5120, .f32⟩
  | .hbm, ⟨6, _⟩ => ⟨S1x5120, .f32⟩
  | .hbm, ⟨7, _⟩ => ⟨S8192x6912, .i8⟩
  | .hbm, ⟨8, _⟩ => ⟨S32x2x128, .f32⟩
  | .hbm, ⟨9, _⟩ => ⟨S8192x5120, .bf16⟩
  | .hbm, ⟨10, _⟩ => ⟨S2x6912, .fp8e4m3⟩
  | .hbm, ⟨11, _⟩ => ⟨S2x54, .f32⟩
  | .local _ .vmem, ⟨0, _⟩ => ⟨S8192x6912, .f32⟩
  | .local _ .vmem, ⟨1, _⟩ => ⟨S2x6912, .f32⟩
  | .local _ .vmem, ⟨2, _⟩ => ⟨S6912x5120, .i8⟩
  | .local _ .vmem, ⟨3, _⟩ => ⟨S1x5120, .f32⟩
  | .local _ .vmem, ⟨4, _⟩ => ⟨S1x5120, .f32⟩
  | .local _ .vmem, ⟨5, _⟩ => ⟨S8192x6912, .i8⟩
  | .local _ .vmem, ⟨6, _⟩ => ⟨S32x2x128, .f32⟩
  | .local _ .vmem, ⟨7, _⟩ => ⟨S8192x5120, .bf16⟩
  | .local _ .vmem, ⟨8, _⟩ => ⟨S2x6912, .fp8e4m3⟩
  | .local _ .vmem, ⟨9, _⟩ => ⟨S2x54, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x6912 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x6912 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x54 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== QuantX.lean ====
abbrev S2x4096x5120 : Shape := ⟨3, ![2, 4096, 5120]⟩
abbrev S8192x5120 : Shape := ⟨2, ![8192, 5120]⟩
abbrev S8192x128 : Shape := ⟨2, ![8192, 128]⟩
abbrev S32x2x128 : Shape := ⟨3, ![32, 2, 128]⟩
abbrev S256x5120 : Shape := ⟨2, ![256, 5120]⟩
abbrev S256x128 : Shape := ⟨2, ![256, 128]⟩
abbrev S1x2x128 : Shape := ⟨3, ![1, 2, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S2x128 : Shape := ⟨2, ![2, 128]⟩

abbrev nBuf : Space → Nat
  | .hbm => 5
  | .vmem => 8
  | .smem => 0
  | _ => 0

abbrev bufTy : (tb : Table) → Fin (tcTables nBuf tb) → BufTy
  | .hbm, ⟨0, _⟩ => ⟨S2x4096x5120, .bf16⟩
  | .hbm, ⟨1, _⟩ => ⟨S8192x5120, .bf16⟩
  | .hbm, ⟨2, _⟩ => ⟨S8192x5120, .i8⟩
  | .hbm, ⟨3, _⟩ => ⟨S8192x128, .f32⟩
  | .hbm, ⟨4, _⟩ => ⟨S32x2x128, .f32⟩
  | .local _ .vmem, ⟨0, _⟩ => ⟨S256x5120, .bf16⟩
  | .local _ .vmem, ⟨1, _⟩ => ⟨S256x5120, .bf16⟩
  | .local _ .vmem, ⟨2, _⟩ => ⟨S256x5120, .i8⟩
  | .local _ .vmem, ⟨3, _⟩ => ⟨S256x5120, .i8⟩
  | .local _ .vmem, ⟨4, _⟩ => ⟨S256x128, .f32⟩
  | .local _ .vmem, ⟨5, _⟩ => ⟨S256x128, .f32⟩
  | .local _ .vmem, ⟨6, _⟩ => ⟨S1x2x128, .f32⟩
  | .local _ .vmem, ⟨7, _⟩ => ⟨S1x2x128, .f32⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XReferenceIdeal.lean ====
abbrev S2x4096x5120 : Shape := ⟨3, ![2, 4096, 5120]⟩
abbrev S8192x5120 : Shape := ⟨2, ![8192, 5120]⟩
abbrev S8192x128 : Shape := ⟨2, ![8192, 128]⟩
abbrev S32x2x128 : Shape := ⟨3, ![32, 2, 128]⟩
abbrev S8192 : Shape := ⟨1, ![8192]⟩
abbrev S8192x1 : Shape := ⟨2, ![8192, 1]⟩

abbrev nBuf : Space → Nat
  | .hbm => 5
  | .vmem => 4
  | .smem => 0
  | _ => 0

abbrev bufTy : (tb : Table) → Fin (tcTables nBuf tb) → BufTy
  | .hbm, ⟨0, _⟩ => ⟨S2x4096x5120, .bf16⟩
  | .hbm, ⟨1, _⟩ => ⟨S8192x5120, .bf16⟩
  | .hbm, ⟨2, _⟩ => ⟨S8192x5120, .i8⟩
  | .hbm, ⟨3, _⟩ => ⟨S8192x128, .f32⟩
  | .hbm, ⟨4, _⟩ => ⟨S32x2x128, .f32⟩
  | .local _ .vmem, ⟨0, _⟩ => ⟨S8192x5120, .bf16⟩
  | .local _ .vmem, ⟨1, _⟩ => ⟨S8192x5120, .i8⟩
  | .local _ .vmem, ⟨2, _⟩ => ⟨S8192x128, .f32⟩
  | .local _ .vmem, ⟨3, _⟩ => ⟨S32x2x128, .f32⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Mixer.lean ====
abbrev S8192x5120 : Shape := ⟨2, ![8192, 5120]⟩
abbrev S8192 : Shape := ⟨1, ![8192]⟩
abbrev S5120x6912 : Shape := ⟨2, ![5120, 6912]⟩
abbrev S6912 : Shape := ⟨1, ![6912]⟩
abbrev S8192x1 : Shape := ⟨2, ![8192, 1]⟩
abbrev S8192x128 : Shape := ⟨2, ![8192, 128]⟩
abbrev S1x6912 : Shape := ⟨2, ![1, 6912]⟩
abbrev S8192x6912 : Shape := ⟨2, ![8192, 6912]⟩
abbrev S2x8x6912 : Shape := ⟨3, ![2, 8, 6912]⟩
abbrev S256x5120 : Shape := ⟨2, ![256, 5120]⟩
abbrev S256x128 : Shape := ⟨2, ![256, 128]⟩
abbrev S5120x768 : Shape := ⟨2, ![5120, 768]⟩
abbrev S1x768 : Shape := ⟨2, ![1, 768]⟩
abbrev S256x768 : Shape := ⟨2, ![256, 768]⟩
abbrev S1x8x768 : Shape := ⟨3, ![1, 8, 768]⟩
abbrev S256x1536 : Shape := ⟨2, ![256, 1536]⟩
abbrev S8x768 : Shape := ⟨2, ![8, 768]⟩
abbrev S5120x256 : Shape := ⟨2, ![5120, 256]⟩
abbrev S256x256 : Shape := ⟨2, ![256, 256]⟩
abbrev S32x128 : Shape := ⟨2, ![32, 128]⟩
abbrev S1x128 : Shape := ⟨2, ![1, 128]⟩
abbrev S8x128 : Shape := ⟨2, ![8, 128]⟩

abbrev nBuf : Space → Nat
  | .hbm => 17
  | .vmem => 26
  | .smem => 0
  | _ => 0

abbrev bufTy : (tb : Table) → Fin (tcTables nBuf tb) → BufTy
  | .hbm, ⟨0, _⟩ => ⟨S8192x5120, .i8⟩
  | .hbm, ⟨1, _⟩ => ⟨S8192, .f32⟩
  | .hbm, ⟨2, _⟩ => ⟨S5120x6912, .i8⟩
  | .hbm, ⟨3, _⟩ => ⟨S5120x6912, .i8⟩
  | .hbm, ⟨4, _⟩ => ⟨S6912, .f32⟩
  | .hbm, ⟨5, _⟩ => ⟨S6912, .f32⟩
  | .hbm, ⟨6, _⟩ => ⟨S6912, .f32⟩
  | .hbm, ⟨7, _⟩ => ⟨S6912, .f32⟩
  | .hbm, ⟨8, _⟩ => ⟨S8192x1, .f32⟩
  | .hbm, ⟨9, _⟩ => ⟨S8192x128, .f32⟩
  | .hbm, ⟨10, _⟩ => ⟨S1x6912, .f32⟩
  | .hbm, ⟨11, _⟩ => ⟨S1x6912, .f32⟩
  | .hbm, ⟨12, _⟩ => ⟨S1x6912, .f32⟩
  | .hbm, ⟨13, _⟩ => ⟨S1x6912, .f32⟩
  | .hbm, ⟨14, _⟩ => ⟨S8192x6912, .f32⟩
  | .hbm, ⟨15, _⟩ => ⟨S8192x6912, .f32⟩
  | .hbm, ⟨16, _⟩ => ⟨S2x8x6912, .f32⟩
  | .local _ .vmem, ⟨0, _⟩ => ⟨S256x5120, .i8⟩
  | .local _ .vmem, ⟨1, _⟩ => ⟨S256x5120, .i8⟩
  | .local _ .vmem, ⟨2, _⟩ => ⟨S256x128, .f32⟩
  | .local _ .vmem, ⟨3, _⟩ => ⟨S256x128, .f32⟩
  | .local _ .vmem, ⟨4, _⟩ => ⟨S5120x768, .i8⟩
  | .local _ .vmem, ⟨5, _⟩ => ⟨S5120x768, .i8⟩
  | .local _ .vmem, ⟨6, _⟩ => ⟨S5120x768, .i8⟩
  | .local _ .vmem, ⟨7, _⟩ => ⟨S5120x768, .i8⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S1x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S1x8x768, .f32⟩
  | .local _ .vmem, ⟨21, _⟩ => ⟨S1x8x768, .f32⟩
  | .local _ .vmem, ⟨22, _⟩ => ⟨S256x5120, .bf16⟩
  | .local _ .vmem, ⟨23, _⟩ => ⟨S256x1536, .f32⟩
  | .local _ .vmem, ⟨24, _⟩ => ⟨S256x1536, .f32⟩
  | .local _ .vmem, ⟨25, _⟩ => ⟨S8x768, .f32⟩
  | _, _ => ⟨S8192x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![289], ![false]⟩

def k0_cond3 (i : grid0.Coords) : BitVec 1 :=
  let arg0 : BitVec 32 := BitVec.ofNat 32 (i 0).val
  let c2_i32 : BitVec 32 := 2#32
  let c0_i32_9 : BitVec 32 := 0#32
  let v19 : BitVec 1 := Scalar.cmpi .eq c2_i32 c0_i32_9
  let c1_i32_10 : BitVec 32 := 1#32
  let v20 : BitVec 32 := Scalar.select v19 c1_i32_10 c2_i32
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c0_i32_14 : BitVec 32 := 0#32
  let v29 : BitVec 1 := Scalar.cmpi .eq v28 c0_i32_14
  let v30 : BitVec 32 := Scalar.extui v29
  let c0_i32_15 : BitVec 32 := 0#32
  let v31 : BitVec 1 := Scalar.cmpi .ne v30 c0_i32_15
  v31

def k0_cond4 (i : grid0.Coords) : BitVec 1 :=
  let arg0 : BitVec 32 := BitVec.ofNat 32 (i 0).val
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi arg0 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_22 : BitVec 32 := 1#32
  let v42 : BitVec 1 := Scalar.cmpi .eq v41 c1_i32_22
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_2 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  ![c0_i32_4.toNat, v17.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c32_i32_7 : BitVec 32 := 32#32
  let v14 : BitVec 32 := Scalar.divsi v13 c32_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c32_i32_7 c0_i32_10
  let v21 : BitVec 32 := Scalar.extui v20
  let c0_i32_11 : BitVec 32 := 0#32
  let v22 : BitVec 1 := Scalar.cmpi .slt c32_i32_7 c0_i32_11
  let v23 : BitVec 32 := Scalar.extui v22
  let v24 : BitVec 32 := Scalar.subi v21 v23
  let v25 : BitVec 1 := Scalar.cmpi .ne v19 v24
  let v26 : BitVec 32 := Scalar.remsi v13 c32_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c16_i32 : BitVec 32 := 16#32
  let v12 : BitVec 32 := Scalar.divsi v11 c16_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c16_i32 c0_i32_7
  let v19 : BitVec 32 := Scalar.extui v18
  let c0_i32_8 : BitVec 32 := 0#32
  let v20 : BitVec 1 := Scalar.cmpi .slt c16_i32 c0_i32_8
  let v21 : BitVec 32 := Scalar.extui v20
  let v22 : BitVec 32 := Scalar.subi v19 v21
  let v23 : BitVec 1 := Scalar.cmpi .ne v17 v22
  let v24 : BitVec 32 := Scalar.remsi v11 c16_i32
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi arg0 c1_i32_11
  let c0_i32_12 : BitVec 32 := 0#32
  let v30 : BitVec 32 := Scalar.maxsi v29 c0_i32_12
  let c32_i32_13 : BitVec 32 := 32#32
  let v31 : BitVec 32 := Scalar.divsi v30 c32_i32_13
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c0_i32_16 : BitVec 32 := 0#32
  let v37 : BitVec 1 := Scalar.cmpi .sgt c32_i32_13 c0_i32_16
  let v38 : BitVec 32 := Scalar.extui v37
  let c0_i32_17 : BitVec 32 := 0#32
  let v39 : BitVec 1 := Scalar.cmpi .slt c32_i32_13 c0_i32_17
  let v40 : BitVec 32 := Scalar.extui v39
  let v41 : BitVec 32 := Scalar.subi v38 v40
  let v42 : BitVec 1 := Scalar.cmpi .ne v36 v41
  let v43 : BitVec 32 := Scalar.remsi v30 c32_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c0_i32_20 : BitVec 32 := 0#32
  let c0_i32_21 : BitVec 32 := 0#32
  ![v28.toNat, c0_i32_20.toNat, v47.toNat]

abbrev stage0_0 : Fin 2 → Memref sig .tc .vmem S256x5120 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5120x768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjectionsIdeal.lean ====
abbrev S8192x5120 : Shape := ⟨2, ![8192, 5120]⟩
abbrev S8192 : Shape := ⟨1, ![8192]⟩
abbrev S5120x6912 : Shape := ⟨2, ![5120, 6912]⟩
abbrev S6912 : Shape := ⟨1, ![6912]⟩
abbrev S8192x1 : Shape := ⟨2, ![8192, 1]⟩
abbrev S1x6912 : Shape := ⟨2, ![1, 6912]⟩
abbrev S8192x6912 : Shape := ⟨2, ![8192, 6912]⟩
abbrev S2x8x6912 : Shape := ⟨3, ![2, 8, 6912]⟩
abbrev S2x4096x6912 : Shape := ⟨3, ![2, 4096, 6912]⟩

abbrev nBuf : Space → Nat
  | .hbm => 16
  | .vmem => 11
  | .smem => 0
  | _ => 0

abbrev bufTy : (tb : Table) → Fin (tcTables nBuf tb) → BufTy
  | .hbm, ⟨0, _⟩ => ⟨S8192x5120, .i8⟩
  | .hbm, ⟨1, _⟩ => ⟨S8192, .f32⟩
  | .hbm, ⟨2, _⟩ => ⟨S5120x6912, .i8⟩
  | .hbm, ⟨3, _⟩ => ⟨S5120x6912, .i8⟩
  | .hbm, ⟨4, _⟩ => ⟨S6912, .f32⟩
  | .hbm, ⟨5, _⟩ => ⟨S6912, .f32⟩
  | .hbm, ⟨6, _⟩ => ⟨S6912, .f32⟩
  | .hbm, ⟨7, _⟩ => ⟨S6912, .f32⟩
  | .hbm, ⟨8, _⟩ => ⟨S8192x1, .f32⟩
  | .hbm, ⟨9, _⟩ => ⟨S1x6912, .f32⟩
  | .hbm, ⟨10, _⟩ => ⟨S1x6912, .f32⟩
  | .hbm, ⟨11, _⟩ => ⟨S1x6912, .f32⟩
  | .hbm, ⟨12, _⟩ => ⟨S1x6912, .f32⟩
  | .hbm, ⟨13, _⟩ => ⟨S8192x6912, .f32⟩
  | .hbm, ⟨14, _⟩ => ⟨S8192x6912, .f32⟩
  | .hbm, ⟨15, _⟩ => ⟨S2x8x6912, .f32⟩
  | .local _ .vmem, ⟨0, _⟩ => ⟨S8192x5120, .i8⟩
  | .local _ .vmem, ⟨1, _⟩ => ⟨S8192x1, .f32⟩
  | .local _ .vmem, ⟨2, _⟩ => ⟨S5120x6912, .i8⟩
  | .local _ .vmem, ⟨3, _⟩ => ⟨S5120x6912, .i8⟩
  | .local _ .vmem, ⟨4, _⟩ => ⟨S1x6912, .f32⟩
  | .local _ .vmem, ⟨5, _⟩ => ⟨S1x6912, .f32⟩
  | .local _ .vmem, ⟨6, _⟩ => ⟨S1x6912, .f32⟩
  | .local _ .vmem, ⟨7, _⟩ => ⟨S1x6912, .f32⟩
  | .local _ .vmem, ⟨8, _⟩ => ⟨S8192x6912, .f32⟩
  | .local _ .vmem, ⟨9, _⟩ => ⟨S8192x6912, .f32⟩
  | .local _ .vmem, ⟨10, _⟩ => ⟨S2x8x6912, .f32⟩
  | _, _ => ⟨S8192x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x5120 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x6912 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x6912 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6912 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x6912 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x6912 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Windows.lean ====
/-
  Loads and stores at unit-stride rectangles, by values: what a load of a held buffer reads (`win`), what a store
  leaves (`VecWindow.put`), with the value's type independent of the offsets so that offsets can be rewritten.
-/
module

public import Idealize.ShloMosaic.Lib.VecWindow
public import Idealize.ShloMosaic.Lib.Pipeline.Frame

@[expose] public section

noncomputable section

namespace Cert.Proof

open Idealize.ShloMosaic

variable {s : Shape} {α : Type}

/-- The window of `x` of sizes `size` at offsets `off`. -/
def win (x : s.Idx → α) (off size : Fin s.rank → ℕ) (inb : ∀ a, off a + size a ≤ s.size a) : ((a : Fin s.rank) → Fin (size a)) → α :=
  fun y => x ((Rect.unit off size inb).emb y)

theorem win_congr (x : s.Idx → α) {off off' : Fin s.rank → ℕ} (size : Fin s.rank → ℕ) (inb : ∀ a, off a + size a ≤ s.size a)
    (h : off = off') (inb' : ∀ a, off' a + size a ≤ s.size a) : win x off size inb = win x off' size inb' := by
  subst h; rfl

/-- A put read inside its window, and outside it. -/
theorem put_in (x : s.Idx → α) (off size : Fin s.rank → ℕ) (w : ((a : Fin s.rank) → Fin (size a)) → α) {y : s.Idx}
    (h : ∀ a, off a ≤ (y a).val ∧ (y a).val < off a + size a) :
    VecWindow.put x off size w y = w (fun a => ⟨(y a).val - off a, by have := h a; omega⟩) := by
  unfold VecWindow.put; rw [dif_pos h]; rfl
theorem put_out (x : s.Idx → α) (off size : Fin s.rank → ℕ) (w : ((a : Fin s.rank) → Fin (size a)) → α) {y : s.Idx}
    (h : ¬ ∀ a, off a ≤ (y a).val ∧ (y a).val < off a + size a) : VecWindow.put x off size w y = x y := by
  unfold VecWindow.put; rw [dif_neg h]

variable {sig : RefSig} {κ : Kind} {sp : Space} {e : EltTy} {Val : EltTy → Type}

/-- A load of a whole buffer held at `x` reads a window of `x`. -/
theorem readAt_unread_unit {m : Memref sig κ sp s e} (h : m.IsWhole) (x : s.Idx → Val e) {off size : Fin s.rank → ℕ}
    (inb : ∀ a, off a + size a ≤ s.size a) :
    m.view.readAt Val (Rect.unit off size inb).toLoadRect (h.unread x) = win x off size inb := by
  rw [View.readAt_unit _ _ inb rfl inb, h.read_unread]; rfl

/-- The same at offsets given by an equation. -/
theorem readAt_unread_at {m : Memref sig κ sp s e} (h : m.IsWhole) (x : s.Idx → Val e) {off off' size : Fin s.rank → ℕ}
    (inb : ∀ a, off a + size a ≤ s.size a) (ho : off = off') (inb' : ∀ a, off' a + size a ≤ s.size a) :
    m.view.readAt Val (Rect.unit off size inb).toLoadRect (h.unread x) = win x off' size inb' := by
  subst ho; exact readAt_unread_unit h x inb

/-- A load of all of a whole buffer held at `x` reads `x`. -/
theorem readAt_unread_full {m : Memref sig κ sp s e} (h : m.IsWhole) (x : s.Idx → Val e) {off : Fin s.rank → ℕ}
    (inb : ∀ a, off a + s.size a ≤ s.size a) :
    m.view.readAt Val (Rect.unit off s.size inb).toLoadRect (h.unread x) = x := by
  rw [View.readAt_full, h.read_unread]

/-- Two stores over a buffer held at `x` leave `x` with the two payloads put there. -/
theorem read_two_puts {m : Memref sig κ sp s e} (h : m.IsWhole) (x : s.Idx → Val e) {off₁ off₁' off₂ off₂' size : Fin s.rank → ℕ}
    (inb₁ : ∀ a, off₁ a + size a ≤ s.size a) (inb₂ : ∀ a, off₂ a + size a ≤ s.size a)
    {w₁ w₂ w₁' w₂' : ((a : Fin s.rank) → Fin (size a)) → Val e} (h₁ : off₁ = off₁') (h₂ : off₂ = off₂') (e₁ : w₁ = w₁') (e₂ : w₂ = w₂') :
    m.view.read Val (m.view.writes Val (h.unread x) [⟨Rect.unit off₂ size inb₂, w₂⟩, ⟨Rect.unit off₁ size inb₁, w₁⟩])
      = VecWindow.put (VecWindow.put x off₁' size w₁') off₂' size w₂' := by
  subst e₁ e₂
  rw [View.read_writes_cons_put _ _ inb₂ w₂ _ h₂, View.read_writes_cons_put _ _ inb₁ w₁ _ h₁, View.writes_nil, h.read_unread]

theorem congr5 {A B C D E R : Type} (f : A → B → C → D → E → R) {a a' : A} {b b' : B} {c c' : C} {d d' : D} {x x' : E}
    (ha : a = a') (hb : b = b') (hc : c = c') (hd : d = d') (hx : x = x') : f a b c d x = f a' b' c' d' x' := by
  subst ha hb hc hd hx; rfl

/-- What a covering list of stores leaves, the payloads restated. -/
theorem read_canon [∀ e, Nonempty (Val e)] (v : View sig κ sp s e) (f : v.ty.Contents Val) {L L' : List (View.Piece Val s e)} (h : L = L')
    (hc : ∀ y, ∃ p ∈ L', y ∈ p.1.set) : v.read Val (v.writes Val f L) = View.canon L' := by
  subst h; exact View.read_writes_eq_canon v f L hc

end Cert.Proof

end
-- ==== Proof.KernelBody.lean ====
/-
  What one grid point of the output projection computes, by values: the codes, the lane-spread scales, the products.
-/
module

public import proofs.«01_k».proof.Proof.Gen.Kernel.Frame
public import proofs.«01_k».proof.Proof.Gen.Kernel.Skeleton
public import proofs.«01_k».proof.Proof.Windows

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, by values -/

/-- The row of the code scratch a point's block starts at. -/
def qrow (i : grid0.Coords) : ℕ := 64 * ((i 0).val % 4)
/-- The first column of the weight the point's product takes. -/
def wcol (i : grid0.Coords) : ℕ := 1280 * ((i 0).val % 4)

theorem k0_off1_0 : ∀ i : grid0.Coords, k0_off1 i 0#32 = ![qrow i, 0] := by decide +kernel
theorem k0_off1_1 : ∀ i : grid0.Coords, k0_off1 i 32#32 = ![qrow i + 32, 0] := by decide +kernel
theorem k0_off2_0 : ∀ i : grid0.Coords, k0_off2 i 0#32 = ![qrow i, 0] := by decide +kernel
theorem k0_off2_1 : ∀ i : grid0.Coords, k0_off2 i 32#32 = ![qrow i + 32, 0] := by decide +kernel
theorem k0_off4_0 : ∀ i : grid0.Coords, k0_off4 i 0#32 = ![qrow i, 0] := by decide +kernel
theorem k0_off4_1 : ∀ i : grid0.Coords, k0_off4 i 32#32 = ![qrow i + 32, 0] := by decide +kernel
theorem k0_off5_0 : ∀ i : grid0.Coords, k0_off5 i 0#32 = ![qrow i, 0] := by decide +kernel
theorem k0_off5_1 : ∀ i : grid0.Coords, k0_off5 i 32#32 = ![qrow i + 32, 0] := by decide +kernel
theorem k0_off3_eq : ∀ (i : grid0.Coords) (r : Fin 5), k0_off3 i (BitVec.ofNat 32 (256 * r.val)) = ![0, wcol i + 256 * r.val] := by decide +kernel
theorem k0_off6_eq : ∀ (i : grid0.Coords) (r : Fin 5), k0_off6 i (BitVec.ofNat 32 (256 * r.val)) = ![0, wcol i + 256 * r.val] := by decide +kernel
theorem wcol_inb (i : grid0.Coords) (r : Fin 5) : ∀ a : Fin 2, (![0, wcol i + 256 * r.val] : Fin 2 → ℕ) a + S6912x256.size a ≤ S6912x5120.size a := by
  have hr := r.isLt
  have h4 : (i 0).val % 4 < 4 := Nat.mod_lt _ (by decide)
  have hw : wcol i ≤ 3840 := by unfold wcol; omega
  intro a
  match a with
  | 0 => exact (by decide : 0 + 6912 ≤ 6912)
  | 1 => exact (show wcol i + 256 * r.val + 256 ≤ 5120 by omega)

/-- 32 rows of the activation block, from row `o`. -/
abbrev half (x : Vec F S64x6912 .f32) (o : ℕ) (inb : ∀ a, (![o, 0] : Fin 2 → ℕ) a + S32x6912.size a ≤ S64x6912.size a) : Vec F S32x6912 .f32 :=
  Cert.Proof.win x ![o, 0] S32x6912.size inb
abbrev half0 (x : Vec F S64x6912 .f32) : Vec F S32x6912 .f32 := half x 0 inb_S64x6912_S32x6912_0_0
abbrev half1 (x : Vec F S64x6912 .f32) : Vec F S32x6912 .f32 := half x 32 inb_S64x6912_S32x6912_32_0
/-- The codes of 32 rows as stored, as scratch holds them, and their scales spread over the lanes. -/
abbrev codesI (v : Vec F S32x6912 .f32) : Vec F S32x6912 .i8 := k0_pay380 v
abbrev codesB (v : Vec F S32x6912 .f32) : Vec F S32x6912 .bf16 := k0_pay381 v
abbrev lanes (v : Vec F S32x6912 .f32) : Vec F S32x128 .f32 := k0_pay382 v
/-- What a point stores in the codes' block. -/
def oqL (x : Vec F S64x6912 .f32) : List (View.Piece (Elt F) S64x6912 .i8) :=
  [⟨Rect.unit ![32, 0] S32x6912.size inb_S64x6912_S32x6912_32_0, codesI (half1 x)⟩, ⟨Rect.unit ![0, 0] S32x6912.size inb_S64x6912_S32x6912_0_0, codesI (half0 x)⟩]
/-- What a point leaves in the code scratch and in the scale scratch it fills. -/
def putC (i : grid0.Coords) (e : Vec F S256x6912 .bf16) (x : Vec F S64x6912 .f32) : Vec F S256x6912 .bf16 :=
  VecWindow.put (VecWindow.put e ![qrow i, 0] S32x6912.size (codesB (half0 x))) ![qrow i + 32, 0] S32x6912.size (codesB (half1 x))
def putS (i : grid0.Coords) (e : Vec F S256x128 .f32) (x : Vec F S64x6912 .f32) : Vec F S256x128 .f32 :=
  VecWindow.put (VecWindow.put e ![qrow i, 0] S32x128.size (lanes (half0 x))) ![qrow i + 32, 0] S32x128.size (lanes (half1 x))
/-- The weight block of the `r`-th product of a point. -/
abbrev wblk (i : grid0.Coords) (w : Vec F S6912x5120 .i8) (r : Fin 5) : Vec F S6912x256 .i8 :=
  Cert.Proof.win w ![0, wcol i + 256 * r.val] S6912x256.size (wcol_inb i r)
abbrev srow (s : Vec F S1x1280 .f32) (o : ℕ) (inb : ∀ a, (![0, o] : Fin 2 → ℕ) a + S1x128.size a ≤ S1x1280.size a) : Vec F S1x128 .f32 :=
  Cert.Proof.win s ![0, o] S1x128.size inb
/-- The two halves of a product's 256 columns, scaled, biased and rounded. -/
abbrev outLo (w : Vec F S6912x256 .i8) (c : Vec F S256x6912 .bf16) (s : Vec F S256x128 .f32) (so bo : Vec F S1x128 .f32) : Vec F S256x128 .bf16 :=
  k0_pay392 (k0_pay391 w c s) so bo
abbrev outHi (w : Vec F S6912x256 .i8) (c : Vec F S256x6912 .bf16) (s : Vec F S256x128 .f32) (so bo : Vec F S1x128 .f32) : Vec F S256x128 .bf16 :=
  k0_pay393 (k0_pay390 w c) s so bo
/-- What a point stores in the result's block. -/
def outL (i : grid0.Coords) (w : Vec F S6912x5120 .i8) (so bo : Vec F S1x1280 .f32) (c : Vec F S256x6912 .bf16) (s : Vec F S256x128 .f32) :
    List (View.Piece (Elt F) S256x1280 .bf16) :=
  [⟨Rect.unit ![0, 1152] S256x128.size inb_S256x1280_S256x128_0_1152, outHi (wblk i w 4) c s (srow so 1152 inb_S1x1280_S1x128_0_1152) (srow bo 1152 inb_S1x1280_S1x128_0_1152)⟩,
    ⟨Rect.unit ![0, 1024] S256x128.size inb_S256x1280_S256x128_0_1024, outLo (wblk i w 4) c s (srow so 1024 inb_S1x1280_S1x128_0_1024) (srow bo 1024 inb_S1x1280_S1x128_0_1024)⟩,
    ⟨Rect.unit ![0, 896] S256x128.size inb_S256x1280_S256x128_0_896, outHi (wblk i w 3) c s (srow so 896 inb_S1x1280_S1x128_0_896) (srow bo 896 inb_S1x1280_S1x128_0_896)⟩,
    ⟨Rect.unit ![0, 768] S256x128.size inb_S256x1280_S256x128_0_768, outLo (wblk i w 3) c s (srow so 768 inb_S1x1280_S1x128_0_768) (srow bo 768 inb_S1x1280_S1x128_0_768)⟩,
    ⟨Rect.unit ![0, 640] S256x128.size inb_S256x1280_S256x128_0_640, outHi (wblk i w 2) c s (srow so 640 inb_S1x1280_S1x128_0_640) (srow bo 640 inb_S1x1280_S1x128_0_640)⟩,
    ⟨Rect.unit ![0, 512] S256x128.size inb_S256x1280_S256x128_0_512, outLo (wblk i w 2) c s (srow so 512 inb_S1x1280_S1x128_0_512) (srow bo 512 inb_S1x1280_S1x128_0_512)⟩,
    ⟨Rect.unit ![0, 384] S256x128.size inb_S256x1280_S256x128_0_384, outHi (wblk i w 1) c s (srow so 384 inb_S1x1280_S1x128_0_384) (srow bo 384 inb_S1x1280_S1x128_0_384)⟩,
    ⟨Rect.unit ![0, 256] S256x128.size inb_S256x1280_S256x128_0_256, outLo (wblk i w 1) c s (srow so 256 inb_S1x1280_S1x128_0_256) (srow bo 256 inb_S1x1280_S1x128_0_256)⟩,
    ⟨Rect.unit ![0, 128] S256x128.size inb_S256x1280_S256x128_0_128, outHi (wblk i w 0) c s (srow so 128 inb_S1x1280_S1x128_0_128) (srow bo 128 inb_S1x1280_S1x128_0_128)⟩,
    ⟨Rect.unit ![0, 0] S256x128.size inb_S256x1280_S256x128_0_0, outLo (wblk i w 0) c s (srow so 0 inb_S1x1280_S1x128_0_0) (srow bo 0 inb_S1x1280_S1x128_0_0)⟩]
/-- 128 columns of the state, from column `o`; their codes and their scale. -/
abbrev hseg (x : Vec F S2x6912 .f32) (o : ℕ) (inb : ∀ a, (![0, o] : Fin 2 → ℕ) a + S2x128.size a ≤ S2x6912.size a) : Vec F S2x128 .f32 :=
  Cert.Proof.win x ![0, o] S2x128.size inb
def hcode (v : Vec F S2x128 .f32) : Vec F S2x128 .fp8e4m3 :=
  k0_pay14 v (k0_pay5 v) (k0_pay7 v) (k0_pay8 v) k0_pay9 k0_pay10 k0_pay11
def hscl (v : Vec F S2x128 .f32) : Vec F S2x1 .f32 :=
  k0_pay13 (k0_pay5 v) (k0_pay7 v) (k0_pay8 v) k0_pay9 k0_pay10 k0_pay11
/-- What the first point stores of the state's codes, and of their scales. -/
def hcL (x : Vec F S2x6912 .f32) : List (View.Piece (Elt F) S2x6912 .fp8e4m3) :=
  [⟨Rect.unit ![0, 6784] S2x128.size inb_S2x6912_S2x128_0_6784, hcode (hseg x 6784 inb_S2x6912_S2x128_0_6784)⟩,
    ⟨Rect.unit ![0, 6656] S2x128.size inb_S2x6912_S2x128_0_6656, hcode (hseg x 6656 inb_S2x6912_S2x128_0_6656)⟩,
    ⟨Rect.unit ![0, 6528] S2x128.size inb_S2x6912_S2x128_0_6528, hcode (hseg x 6528 inb_S2x6912_S2x128_0_6528)⟩,
    ⟨Rect.unit ![0, 6400] S2x128.size inb_S2x6912_S2x128_0_6400, hcode (hseg x 6400 inb_S2x6912_S2x128_0_6400)⟩,
    ⟨Rect.unit ![0, 6272] S2x128.size inb_S2x6912_S2x128_0_6272, hcode (hseg x 6272 inb_S2x6912_S2x128_0_6272)⟩,
    ⟨Rect.unit ![0, 6144] S2x128.size inb_S2x6912_S2x128_0_6144, hcode (hseg x 6144 inb_S2x6912_S2x128_0_6144)⟩,
    ⟨Rect.unit ![0, 6016] S2x128.size inb_S2x6912_S2x128_0_6016, hcode (hseg x 6016 inb_S2x6912_S2x128_0_6016)⟩,
    ⟨Rect.unit ![0, 5888] S2x128.size inb_S2x6912_S2x128_0_5888, hcode (hseg x 5888 inb_S2x6912_S2x128_0_5888)⟩,
    ⟨Rect.unit ![0, 5760] S2x128.size inb_S2x6912_S2x128_0_5760, hcode (hseg x 5760 inb_S2x6912_S2x128_0_5760)⟩,
    ⟨Rect.unit ![0, 5632] S2x128.size inb_S2x6912_S2x128_0_5632, hcode (hseg x 5632 inb_S2x6912_S2x128_0_5632)⟩,
    ⟨Rect.unit ![0, 5504] S2x128.size inb_S2x6912_S2x128_0_5504, hcode (hseg x 5504 inb_S2x6912_S2x128_0_5504)⟩,
    ⟨Rect.unit ![0, 5376] S2x128.size inb_S2x6912_S2x128_0_5376, hcode (hseg x 5376 inb_S2x6912_S2x128_0_5376)⟩,
    ⟨Rect.unit ![0, 5248] S2x128.size inb_S2x6912_S2x128_0_5248, hcode (hseg x 5248 inb_S2x6912_S2x128_0_5248)⟩,
    ⟨Rect.unit ![0, 5120] S2x128.size inb_S2x6912_S2x128_0_5120, hcode (hseg x 5120 inb_S2x6912_S2x128_0_5120)⟩,
    ⟨Rect.unit ![0, 4992] S2x128.size inb_S2x6912_S2x128_0_4992, hcode (hseg x 4992 inb_S2x6912_S2x128_0_4992)⟩,
    ⟨Rect.unit ![0, 4864] S2x128.size inb_S2x6912_S2x128_0_4864, hcode (hseg x 4864 inb_S2x6912_S2x128_0_4864)⟩,
    ⟨Rect.unit ![0, 4736] S2x128.size inb_S2x6912_S2x128_0_4736, hcode (hseg x 4736 inb_S2x6912_S2x128_0_4736)⟩,
    ⟨Rect.unit ![0, 4608] S2x128.size inb_S2x6912_S2x128_0_4608, hcode (hseg x 4608 inb_S2x6912_S2x128_0_4608)⟩,
    ⟨Rect.unit ![0, 4480] S2x128.size inb_S2x6912_S2x128_0_4480, hcode (hseg x 4480 inb_S2x6912_S2x128_0_4480)⟩,
    ⟨Rect.unit ![0, 4352] S2x128.size inb_S2x6912_S2x128_0_4352, hcode (hseg x 4352 inb_S2x6912_S2x128_0_4352)⟩,
    ⟨Rect.unit ![0, 4224] S2x128.size inb_S2x6912_S2x128_0_4224, hcode (hseg x 4224 inb_S2x6912_S2x128_0_4224)⟩,
    ⟨Rect.unit ![0, 4096] S2x128.size inb_S2x6912_S2x128_0_4096, hcode (hseg x 4096 inb_S2x6912_S2x128_0_4096)⟩,
    ⟨Rect.unit ![0, 3968] S2x128.size inb_S2x6912_S2x128_0_3968, hcode (hseg x 3968 inb_S2x6912_S2x128_0_3968)⟩,
    ⟨Rect.unit ![0, 3840] S2x128.size inb_S2x6912_S2x128_0_3840, hcode (hseg x 3840 inb_S2x6912_S2x128_0_3840)⟩,
    ⟨Rect.unit ![0, 3712] S2x128.size inb_S2x6912_S2x128_0_3712, hcode (hseg x 3712 inb_S2x6912_S2x128_0_3712)⟩,
    ⟨Rect.unit ![0, 3584] S2x128.size inb_S2x6912_S2x128_0_3584, hcode (hseg x 3584 inb_S2x6912_S2x128_0_3584)⟩,
    ⟨Rect.unit ![0, 3456] S2x128.size inb_S2x6912_S2x128_0_3456, hcode (hseg x 3456 inb_S2x6912_S2x128_0_3456)⟩,
    ⟨Rect.unit ![0, 3328] S2x128.size inb_S2x6912_S2x128_0_3328, hcode (hseg x 3328 inb_S2x6912_S2x128_0_3328)⟩,
    ⟨Rect.unit ![0, 3200] S2x128.size inb_S2x6912_S2x128_0_3200, hcode (hseg x 3200 inb_S2x6912_S2x128_0_3200)⟩,
    ⟨Rect.unit ![0, 3072] S2x128.size inb_S2x6912_S2x128_0_3072, hcode (hseg x 3072 inb_S2x6912_S2x128_0_3072)⟩,
    ⟨Rect.unit ![0, 2944] S2x128.size inb_S2x6912_S2x128_0_2944, hcode (hseg x 2944 inb_S2x6912_S2x128_0_2944)⟩,
    ⟨Rect.unit ![0, 2816] S2x128.size inb_S2x6912_S2x128_0_2816, hcode (hseg x 2816 inb_S2x6912_S2x128_0_2816)⟩,
    ⟨Rect.unit ![0, 2688] S2x128.size inb_S2x6912_S2x128_0_2688, hcode (hseg x 2688 inb_S2x6912_S2x128_0_2688)⟩,
    ⟨Rect.unit ![0, 2560] S2x128.size inb_S2x6912_S2x128_0_2560, hcode (hseg x 2560 inb_S2x6912_S2x128_0_2560)⟩,
    ⟨Rect.unit ![0, 2432] S2x128.size inb_S2x6912_S2x128_0_2432, hcode (hseg x 2432 inb_S2x6912_S2x128_0_2432)⟩,
    ⟨Rect.unit ![0, 2304] S2x128.size inb_S2x6912_S2x128_0_2304, hcode (hseg x 2304 inb_S2x6912_S2x128_0_2304)⟩,
    ⟨Rect.unit ![0, 2176] S2x128.size inb_S2x6912_S2x128_0_2176, hcode (hseg x 2176 inb_S2x6912_S2x128_0_2176)⟩,
    ⟨Rect.unit ![0, 2048] S2x128.size inb_S2x6912_S2x128_0_2048, hcode (hseg x 2048 inb_S2x6912_S2x128_0_2048)⟩,
    ⟨Rect.unit ![0, 1920] S2x128.size inb_S2x6912_S2x128_0_1920, hcode (hseg x 1920 inb_S2x6912_S2x128_0_1920)⟩,
    ⟨Rect.unit ![0, 1792] S2x128.size inb_S2x6912_S2x128_0_1792, hcode (hseg x 1792 inb_S2x6912_S2x128_0_1792)⟩,
    ⟨Rect.unit ![0, 1664] S2x128.size inb_S2x6912_S2x128_0_1664, hcode (hseg x 1664 inb_S2x6912_S2x128_0_1664)⟩,
    ⟨Rect.unit ![0, 1536] S2x128.size inb_S2x6912_S2x128_0_1536, hcode (hseg x 1536 inb_S2x6912_S2x128_0_1536)⟩,
    ⟨Rect.unit ![0, 1408] S2x128.size inb_S2x6912_S2x128_0_1408, hcode (hseg x 1408 inb_S2x6912_S2x128_0_1408)⟩,
    ⟨Rect.unit ![0, 1280] S2x128.size inb_S2x6912_S2x128_0_1280, hcode (hseg x 1280 inb_S2x6912_S2x128_0_1280)⟩,
    ⟨Rect.unit ![0, 1152] S2x128.size inb_S2x6912_S2x128_0_1152, hcode (hseg x 1152 inb_S2x6912_S2x128_0_1152)⟩,
    ⟨Rect.unit ![0, 1024] S2x128.size inb_S2x6912_S2x128_0_1024, hcode (hseg x 1024 inb_S2x6912_S2x128_0_1024)⟩,
    ⟨Rect.unit ![0, 896] S2x128.size inb_S2x6912_S2x128_0_896, hcode (hseg x 896 inb_S2x6912_S2x128_0_896)⟩,
    ⟨Rect.unit ![0, 768] S2x128.size inb_S2x6912_S2x128_0_768, hcode (hseg x 768 inb_S2x6912_S2x128_0_768)⟩,
    ⟨Rect.unit ![0, 640] S2x128.size inb_S2x6912_S2x128_0_640, hcode (hseg x 640 inb_S2x6912_S2x128_0_640)⟩,
    ⟨Rect.unit ![0, 512] S2x128.size inb_S2x6912_S2x128_0_512, hcode (hseg x 512 inb_S2x6912_S2x128_0_512)⟩,
    ⟨Rect.unit ![0, 384] S2x128.size inb_S2x6912_S2x128_0_384, hcode (hseg x 384 inb_S2x6912_S2x128_0_384)⟩,
    ⟨Rect.unit ![0, 256] S2x128.size inb_S2x6912_S2x128_0_256, hcode (hseg x 256 inb_S2x6912_S2x128_0_256)⟩,
    ⟨Rect.unit ![0, 128] S2x128.size inb_S2x6912_S2x128_0_128, hcode (hseg x 128 inb_S2x6912_S2x128_0_128)⟩,
    ⟨Rect.unit ![0, 0] S2x128.size inb_S2x6912_S2x128_0_0, hcode (hseg x 0 inb_S2x6912_S2x128_0_0)⟩]
def hscB (x : Vec F S2x6912 .f32) : Vec F S2x54 .f32 :=
  k0_pay447 (hscl (hseg x 0 inb_S2x6912_S2x128_0_0))
    (hscl (hseg x 128 inb_S2x6912_S2x128_0_128))
    (hscl (hseg x 256 inb_S2x6912_S2x128_0_256))
    (hscl (hseg x 384 inb_S2x6912_S2x128_0_384))
    (hscl (hseg x 512 inb_S2x6912_S2x128_0_512))
    (hscl (hseg x 640 inb_S2x6912_S2x128_0_640))
    (hscl (hseg x 768 inb_S2x6912_S2x128_0_768))
    (hscl (hseg x 896 inb_S2x6912_S2x128_0_896))
    (hscl (hseg x 1024 inb_S2x6912_S2x128_0_1024))
    (hscl (hseg x 1152 inb_S2x6912_S2x128_0_1152))
    (hscl (hseg x 1280 inb_S2x6912_S2x128_0_1280))
    (hscl (hseg x 1408 inb_S2x6912_S2x128_0_1408))
    (hscl (hseg x 1536 inb_S2x6912_S2x128_0_1536))
    (hscl (hseg x 1664 inb_S2x6912_S2x128_0_1664))
    (hscl (hseg x 1792 inb_S2x6912_S2x128_0_1792))
    (hscl (hseg x 1920 inb_S2x6912_S2x128_0_1920))
    (hscl (hseg x 2048 inb_S2x6912_S2x128_0_2048))
    (hscl (hseg x 2176 inb_S2x6912_S2x128_0_2176))
    (hscl (hseg x 2304 inb_S2x6912_S2x128_0_2304))
    (hscl (hseg x 2432 inb_S2x6912_S2x128_0_2432))
    (hscl (hseg x 2560 inb_S2x6912_S2x128_0_2560))
    (hscl (hseg x 2688 inb_S2x6912_S2x128_0_2688))
    (hscl (hseg x 2816 inb_S2x6912_S2x128_0_2816))
    (hscl (hseg x 2944 inb_S2x6912_S2x128_0_2944))
    (hscl (hseg x 3072 inb_S2x6912_S2x128_0_3072))
    (hscl (hseg x 3200 inb_S2x6912_S2x128_0_3200))
    (hscl (hseg x 3328 inb_S2x6912_S2x128_0_3328))
    (hscl (hseg x 3456 inb_S2x6912_S2x128_0_3456))
    (hscl (hseg x 3584 inb_S2x6912_S2x128_0_3584))
    (hscl (hseg x 3712 inb_S2x6912_S2x128_0_3712))
    (hscl (hseg x 3840 inb_S2x6912_S2x128_0_3840))
    (hscl (hseg x 3968 inb_S2x6912_S2x128_0_3968))
    (hscl (hseg x 4096 inb_S2x6912_S2x128_0_4096))
    (hscl (hseg x 4224 inb_S2x6912_S2x128_0_4224))
    (hscl (hseg x 4352 inb_S2x6912_S2x128_0_4352))
    (hscl (hseg x 4480 inb_S2x6912_S2x128_0_4480))
    (hscl (hseg x 4608 inb_S2x6912_S2x128_0_4608))
    (hscl (hseg x 4736 inb_S2x6912_S2x128_0_4736))
    (hscl (hseg x 4864 inb_S2x6912_S2x128_0_4864))
    (hscl (hseg x 4992 inb_S2x6912_S2x128_0_4992))
    (hscl (hseg x 5120 inb_S2x6912_S2x128_0_5120))
    (hscl (hseg x 5248 inb_S2x6912_S2x128_0_5248))
    (hscl (hseg x 5376 inb_S2x6912_S2x128_0_5376))
    (hscl (hseg x 5504 inb_S2x6912_S2x128_0_5504))
    (hscl (hseg x 5632 inb_S2x6912_S2x128_0_5632))
    (hscl (hseg x 5760 inb_S2x6912_S2x128_0_5760))
    (hscl (hseg x 5888 inb_S2x6912_S2x128_0_5888))
    (hscl (hseg x 6016 inb_S2x6912_S2x128_0_6016))
    (hscl (hseg x 6144 inb_S2x6912_S2x128_0_6144))
    (hscl (hseg x 6272 inb_S2x6912_S2x128_0_6272))
    (hscl (hseg x 6400 inb_S2x6912_S2x128_0_6400))
    (hscl (hseg x 6528 inb_S2x6912_S2x128_0_6528))
    (hscl (hseg x 6656 inb_S2x6912_S2x128_0_6656))
    (hscl (hseg x 6784 inb_S2x6912_S2x128_0_6784))
theorem hcL_cover (x : Vec F S2x6912 .f32) : ∀ y, ∃ p ∈ hcL x, y ∈ p.1.set := View.cover_of_tiledL (hcL x) S2x128.size (by rfl)
/-- What a point stores in the scales' block. -/
def osB (s : Vec F S256x128 .f32) : Vec F S1x2x128 .f32 := k0_pay1 (k0_pay411 s)
theorem oqL_cover (x : Vec F S64x6912 .f32) : ∀ y, ∃ p ∈ oqL x, y ∈ p.1.set := View.cover_of_tiledL (oqL x) S32x6912.size (by rfl)
theorem outL_cover (i : grid0.Coords) (w : Vec F S6912x5120 .i8) (so bo : Vec F S1x1280 .f32) (c : Vec F S256x6912 .bf16) (s : Vec F S256x128 .f32) :
    ∀ y, ∃ p ∈ outL i w so bo c s, y ∈ p.1.set := View.cover_of_tiledL (outL i w so bo c s) S256x128.size (by rfl)

end Cert.Kernel.Gen

end
-- ==== Proof.KernelState.lean ====
/-
  What the two pairs of scratches hold between grid points: one pair is being filled with the codes and scales of the
  current 256 rows, the other holds those of the 256 rows before (zeros at first).
-/
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An index of 32 rows' codes, of 32 rows' lane-spread scales. -/
def ixC (r : ℕ) (hr : r < 32) (l : Fin 6912) : S32x6912.Idx := fun a => match a with | 0 => ⟨r, hr⟩ | 1 => l
def ixS (r : ℕ) (hr : r < 32) (l : Fin 128) : S32x128.Idx := fun a => match a with | 0 => ⟨r, hr⟩ | 1 => l

theorem idx2 {y : Fin 2 → ℕ} {o n w : ℕ} (h : o ≤ y 0) (h' : y 0 < o + n) (hb : y 1 < w) :
    ∀ k : Fin 2, (![o, 0] : Fin 2 → ℕ) k ≤ y k ∧ y k < (![o, 0] : Fin 2 → ℕ) k + (![n, w] : Fin 2 → ℕ) k := by
  intro k
  match k with
  | 0 => exact ⟨h, h'⟩
  | 1 => exact ⟨Nat.zero_le _, show y 1 < 0 + w by omega⟩

/-- The codes of 256 rows given as four blocks of 64. -/
def tileC (X : ℕ → Vec F S64x6912 .f32) : Vec F S256x6912 .bf16 := fun y =>
  codesB (if (y 0).val % 64 < 32 then half0 (X ((y 0).val / 64)) else half1 (X ((y 0).val / 64)))
    (ixC ((y 0).val % 32) (Nat.mod_lt _ (by decide)) (y 1))
/-- The first `k` blocks of a scratch hold their codes. -/
def DoneC (e : Vec F S256x6912 .bf16) (X : ℕ → Vec F S64x6912 .f32) (k : ℕ) : Prop := ∀ y : S256x6912.Idx, (y 0).val < 64 * k → e y = tileC X y
theorem DoneC.all {e : Vec F S256x6912 .bf16} {X : ℕ → Vec F S64x6912 .f32} (h : DoneC e X 4) : e = tileC X :=
  funext fun y => h y (show (y 0).val < 256 from (y 0).isLt)
theorem DoneC.put {i : grid0.Coords} {e : Vec F S256x6912 .bf16} {X : ℕ → Vec F S64x6912 .f32} {q : ℕ} (hq : qrow i = 64 * q)
    (h : DoneC e X q) : DoneC (putC i e (X q)) X (q + 1) := by
  intro y hy
  unfold putC
  rw [hq]
  have h1 : (y 1).val < 6912 := (y 1).isLt
  by_cases hb : 64 * q + 32 ≤ (y 0).val
  · rw [Cert.Proof.put_in _ _ _ _ (idx2 (y := fun k => (y k).val) hb (by omega) h1)]
    unfold tileC
    rw [show (y 0).val / 64 = q by omega, if_neg (by omega)]
    refine congrArg (codesB (half1 (X q))) (funext fun a => Fin.ext ?_)
    match a with
    | 0 => exact (show (y 0).val - (64 * q + 32) = (y 0).val % 32 by omega)
    | 1 => exact (show (y 1).val - 0 = (y 1).val from Nat.sub_zero _)
  · rw [Cert.Proof.put_out _ _ _ _ (fun hh => hb (hh 0).1)]
    by_cases ha : 64 * q ≤ (y 0).val
    · rw [Cert.Proof.put_in _ _ _ _ (idx2 (y := fun k => (y k).val) ha (by omega) h1)]
      unfold tileC
      rw [show (y 0).val / 64 = q by omega, if_pos (by omega)]
      refine congrArg (codesB (half0 (X q))) (funext fun a => Fin.ext ?_)
      match a with
      | 0 => exact (show (y 0).val - 64 * q = (y 0).val % 32 by omega)
      | 1 => exact (show (y 1).val - 0 = (y 1).val from Nat.sub_zero _)
    · rw [Cert.Proof.put_out _ _ _ _ (fun hh => ha (hh 0).1)]
      exact h y (by omega)

/-- The lane-spread scales of 256 rows given as four blocks of 64. -/
def tileS (X : ℕ → Vec F S64x6912 .f32) : Vec F S256x128 .f32 := fun y =>
  lanes (if (y 0).val % 64 < 32 then half0 (X ((y 0).val / 64)) else half1 (X ((y 0).val / 64)))
    (ixS ((y 0).val % 32) (Nat.mod_lt _ (by decide)) (y 1))
/-- The first `k` blocks of a scratch hold their lane-spread scales. -/
def DoneS (e : Vec F S256x128 .f32) (X : ℕ → Vec F S64x6912 .f32) (k : ℕ) : Prop := ∀ y : S256x128.Idx, (y 0).val < 64 * k → e y = tileS X y
theorem DoneS.all {e : Vec F S256x128 .f32} {X : ℕ → Vec F S64x6912 .f32} (h : DoneS e X 4) : e = tileS X :=
  funext fun y => h y (show (y 0).val < 256 from (y 0).isLt)
theorem DoneS.put {i : grid0.Coords} {e : Vec F S256x128 .f32} {X : ℕ → Vec F S64x6912 .f32} {q : ℕ} (hq : qrow i = 64 * q)
    (h : DoneS e X q) : DoneS (putS i e (X q)) X (q + 1) := by
  intro y hy
  unfold putS
  rw [hq]
  have h1 : (y 1).val < 128 := (y 1).isLt
  by_cases hb : 64 * q + 32 ≤ (y 0).val
  · rw [Cert.Proof.put_in _ _ _ _ (idx2 (y := fun k => (y k).val) hb (by omega) h1)]
    unfold tileS
    rw [show (y 0).val / 64 = q by omega, if_neg (by omega)]
    refine congrArg (lanes (half1 (X q))) (funext fun a => Fin.ext ?_)
    match a with
    | 0 => exact (show (y 0).val - (64 * q + 32) = (y 0).val % 32 by omega)
    | 1 => exact (show (y 1).val - 0 = (y 1).val from Nat.sub_zero _)
  · rw [Cert.Proof.put_out _ _ _ _ (fun hh => hb (hh 0).1)]
    by_cases ha : 64 * q ≤ (y 0).val
    · rw [Cert.Proof.put_in _ _ _ _ (idx2 (y := fun k => (y k).val) ha (by omega) h1)]
      unfold tileS
      rw [show (y 0).val / 64 = q by omega, if_pos (by omega)]
      refine congrArg (lanes (half0 (X q))) (funext fun a => Fin.ext ?_)
      match a with
      | 0 => exact (show (y 0).val - 64 * q = (y 0).val % 32 by omega)
      | 1 => exact (show (y 1).val - 0 = (y 1).val from Nat.sub_zero _)
    · rw [Cert.Proof.put_out _ _ _ _ (fun hh => ha (hh 0).1)]
      exact h y (by omega)

variable (m : (ℓ : Loc nD τ sig) → Buf (Elt F) ℓ)

/-- Grid point `n` (the last one past the end). -/
def pnt (n : ℕ) : Fin cfg0.N := ⟨min n 131, lt_of_le_of_lt (Nat.min_le_right _ _) (by rw [show cfg0.N = 132 from N_0]; decide)⟩
theorem pnt_val {n : ℕ} (h : n < 132) : (pnt n).val = n := Nat.min_eq_left (by omega)
theorem pnt_self (t : Fin cfg0.N) : pnt t.val = t := Fin.ext (pnt_val (lt_of_lt_of_eq t.isLt N_0))

/-- The four activation blocks of tile `u`. -/
def xblk (c : Dev nD) (u k : ℕ) : Vec F S64x6912 .f32 := iblk m c 0 (pnt (4 * u + k))
theorem xblk_point (c : Dev nD) (n : ℕ) : xblk m c (n / 4) (n % 4) = iblk m c 0 (pnt n) := by
  unfold xblk; rw [show 4 * (n / 4) + n % 4 = n by omega]

/-- What the pair of scratches multiplied from at point `n` holds. -/
def cOld (c : Dev nD) (n : ℕ) : Vec F S256x6912 .bf16 := if n / 4 = 0 then k0_pay3 else tileC (xblk m c (n / 4 - 1))
def sOld (c : Dev nD) (n : ℕ) : Vec F S256x128 .f32 := if n / 4 = 0 then k0_pay4 else tileS (xblk m c (n / 4 - 1))

/-- After point `n`: the first pair filled as far as the point says, the second complete. -/
structure Half (c : Dev nD) (n : ℕ) (cn : Vec F S256x6912 .bf16) (sn : Vec F S256x128 .f32) (co : Vec F S256x6912 .bf16) (so : Vec F S256x128 .f32) : Prop where
  newC : DoneC cn (xblk m c (n / 4)) (n % 4 + 1)
  newS : DoneS sn (xblk m c (n / 4)) (n % 4 + 1)
  oldC : co = cOld m c n
  oldS : so = sOld m c n

/-- After point `n`: at an even tile the first pair is being filled, at an odd one the second. -/
def Inv (c : Dev nD) (n : ℕ) (e0 e1 : Vec F S256x6912 .bf16) (e2 e3 : Vec F S256x128 .f32) : Prop :=
  if n / 4 % 2 = 0 then Half m c n e0 e2 e1 e3 else Half m c n e1 e3 e0 e2

/-- The next point of the same tile. -/
theorem Half.next {c : Dev nD} {n : ℕ} {cn co : Vec F S256x6912 .bf16} {sn so : Vec F S256x128 .f32} (h : Half m c n cn sn co so)
    (hs : (n + 1) / 4 = n / 4) {i : grid0.Coords} (hi : qrow i = 64 * ((n + 1) % 4)) :
    Half m c (n + 1) (putC i cn (iblk m c 0 (pnt (n + 1)))) (putS i sn (iblk m c 0 (pnt (n + 1)))) co so where
  newC := by
    rw [← xblk_point, hs]
    refine DoneC.put hi ?_
    have := h.newC
    rwa [show n % 4 + 1 = (n + 1) % 4 by omega] at this
  newS := by
    rw [← xblk_point, hs]
    refine DoneS.put hi ?_
    have := h.newS
    rwa [show n % 4 + 1 = (n + 1) % 4 by omega] at this
  oldC := by rw [h.oldC]; unfold cOld; rw [hs]
  oldS := by rw [h.oldS]; unfold sOld; rw [hs]

/-- The first point of the next tile: the pairs change places. -/
theorem Half.swap {c : Dev nD} {n : ℕ} {cn co : Vec F S256x6912 .bf16} {sn so : Vec F S256x128 .f32} (h : Half m c n cn sn co so)
    (hs : ¬ (n + 1) / 4 = n / 4) {i : grid0.Coords} (hi : qrow i = 64 * ((n + 1) % 4)) :
    Half m c (n + 1) (putC i co (iblk m c 0 (pnt (n + 1)))) (putS i so (iblk m c 0 (pnt (n + 1)))) cn sn where
  newC := by
    rw [← xblk_point]
    refine DoneC.put hi ?_
    rw [show (n + 1) % 4 = 0 by omega]
    exact fun y hy => absurd hy (by omega)
  newS := by
    rw [← xblk_point]
    refine DoneS.put hi ?_
    rw [show (n + 1) % 4 = 0 by omega]
    exact fun y hy => absurd hy (by omega)
  oldC := by
    have := h.newC
    rw [show n % 4 + 1 = 4 by omega] at this
    rw [this.all]; unfold cOld; rw [if_neg (by omega), show (n + 1) / 4 - 1 = n / 4 by omega]
  oldS := by
    have := h.newS
    rw [show n % 4 + 1 = 4 by omega] at this
    rw [this.all]; unfold sOld; rw [if_neg (by omega), show (n + 1) / 4 - 1 = n / 4 by omega]

theorem Inv.zero (c : Dev nD) {i : grid0.Coords} (hi : qrow i = 0) (e0 : Vec F S256x6912 .bf16) (e2 : Vec F S256x128 .f32) :
    Inv m c 0 (putC i e0 (iblk m c 0 (pnt 0))) k0_pay3 (putS i e2 (iblk m c 0 (pnt 0))) k0_pay4 := by
  unfold Inv
  rw [if_pos rfl, ← xblk_point]
  have hc : cOld m c 0 = k0_pay3 := by unfold cOld; exact if_pos rfl
  have hs : sOld m c 0 = k0_pay4 := by unfold sOld; exact if_pos rfl
  exact ⟨DoneC.put (X := xblk m c (0 / 4)) (q := 0 % 4) hi fun y hy => absurd hy (by omega),
    DoneS.put (X := xblk m c (0 / 4)) (q := 0 % 4) hi fun y hy => absurd hy (by omega), hc.symm, hs.symm⟩

/-- A later point of an even tile: what it leaves, and what it multiplies from. -/
theorem Inv.even {c : Dev nD} {n : ℕ} {e0 e1 : Vec F S256x6912 .bf16} {e2 e3 : Vec F S256x128 .f32} (h : Inv m c n e0 e1 e2 e3)
    (hp : (n + 1) / 4 % 2 = 0) {i : grid0.Coords} (hi : qrow i = 64 * ((n + 1) % 4)) :
    Half m c (n + 1) (putC i e0 (iblk m c 0 (pnt (n + 1)))) (putS i e2 (iblk m c 0 (pnt (n + 1)))) e1 e3 := by
  unfold Inv at h
  by_cases hs : (n + 1) / 4 = n / 4
  · rw [if_pos (by omega)] at h; exact h.next m hs hi
  · rw [if_neg (by omega)] at h; exact h.swap m hs hi
/-- The same at an odd tile. -/
theorem Inv.odd {c : Dev nD} {n : ℕ} {e0 e1 : Vec F S256x6912 .bf16} {e2 e3 : Vec F S256x128 .f32} (h : Inv m c n e0 e1 e2 e3)
    (hp : ¬ (n + 1) / 4 % 2 = 0) {i : grid0.Coords} (hi : qrow i = 64 * ((n + 1) % 4)) :
    Half m c (n + 1) (putC i e1 (iblk m c 0 (pnt (n + 1)))) (putS i e3 (iblk m c 0 (pnt (n + 1)))) e0 e2 := by
  unfold Inv at h
  by_cases hs : (n + 1) / 4 = n / 4
  · rw [if_neg (by omega)] at h; exact h.next m hs hi
  · rw [if_pos (by omega)] at h; exact h.swap m hs hi

end Cert.Kernel.Gen

end
-- ==== Proof.KernelRunA.lean ====
/-
  The body at the first grid point: the old code scratch is zeroed, the state is coded, one block of rows is coded.
-/
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof

set_option maxHeartbeats 12000000 in
/-- The first point zeroes the second pair of scratches and codes the state. -/
theorem run_A (c : Dev nD) (i : grid0.Coords) (arg1 : Memref sig .tc .vmem S64x6912 .f32) (harg1 : arg1.IsWhole) (arg2 : Memref sig .tc .vmem S2x6912 .f32) (harg2 : arg2.IsWhole) (arg3 : Memref sig .tc .vmem S6912x5120 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S64x6912 .i8) (harg6 : arg6.IsWhole) (arg7 : Memref sig .tc .vmem S1x2x128 .f32) (harg7 : arg7.IsWhole) (arg8 : Memref sig .tc .vmem S256x1280 .bf16) (harg8 : arg8.IsWhole) (arg9 : Memref sig .tc .vmem S2x6912 .fp8e4m3) (harg9 : arg9.IsWhole) (arg10 : Memref sig .tc .vmem S2x54 .f32) (harg10 : arg10.IsWhole) (arg11 : Memref sig .tc .vmem S256x6912 .bf16) (harg11 : arg11.IsWhole) (arg12 : Memref sig .tc .vmem S256x6912 .bf16) (harg12 : arg12.IsWhole) (arg13 : Memref sig .tc .vmem S256x128 .f32) (harg13 : arg13.IsWhole) (arg14 : Memref sig .tc .vmem S256x128 .f32) (harg14 : arg14.IsWhole)
    (hc1 : k0_cond1 i = 1#1) (hc2 : k0_cond2 i = 1#1) (hc3 : ¬ k0_cond3 i = 1#1)
    (x0 : Vec F S64x6912 .f32) (x1 : Vec F S2x6912 .f32) (x2 : Vec F S6912x5120 .i8) (x3 : Vec F S1x1280 .f32) (x4 : Vec F S1x1280 .f32) (e0 : Vec F S256x6912 .bf16) (e2 : Vec F S256x128 .f32) :
    ∀ (E : Set ℕ) (K : PUnit → sProp 𝕄),
      iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (e0) ∗ (∃ d, owns (c : Thread nD τ) arg12 fullShare d) ∗ owns (c : Thread nD τ) arg13 fullShare (e2) ∗ (∃ d, owns (c : Thread nD τ) arg14 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (View.canon (oqL x0)) ∗ owns (c : Thread nD τ) arg7 fullShare (osB (k0_pay4 (F := F))) ∗ owns (c : Thread nD τ) arg8 fullShare (View.canon (outL i x2 x3 x4 (k0_pay3 (F := F)) (k0_pay4 (F := F)))) ∗ owns (c : Thread nD τ) arg9 fullShare (View.canon (hcL x1)) ∗ owns (c : Thread nD τ) arg10 fullShare (hscB x1) ∗ owns (c : Thread nD τ) arg11 fullShare (putC i e0 x0) ∗ owns (c : Thread nD τ) arg12 fullShare ((k0_pay3 (F := F))) ∗ owns (c : Thread nD τ) arg13 fullShare (putS i e2 x0) ∗ owns (c : Thread nD τ) arg14 fullShare ((k0_pay4 (F := F)))) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_out_proj_eq_skeleton]; unfold cc0_out_proj_skel
  simp only [k0_part101_eq_skeleton, k0_part85_eq_skeleton, k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part87_eq_skeleton, k0_part88_eq_skeleton, k0_part89_eq_skeleton, k0_part90_eq_skeleton, k0_part91_eq_skeleton, k0_part92_eq_skeleton, k0_part93_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg11.eq_unread hf11; obtain rfl := harg13.eq_unread hf13
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; rotate_left; · iexact H6
    ipureintro; refine read_canon _ _ (L' := oqL x0) ?_ (oqL_cover x0)
    unfold oqL
    refine congrArg₂ List.cons (congrArg (Sigma.mk _) ?_) (congrArg₂ List.cons (congrArg (Sigma.mk _) ?_) rfl)
    · exact congrArg codesI (readAt_unread_unit harg1 x0 _)
    · exact congrArg codesI (readAt_unread_unit harg1 x0 _)
  isplitl [H7]
  · iexists _; isplitr; rotate_left; · iexact H7
    ipureintro; exact (View.read_writes_full _ _ _ _ _).trans (congrArg osB (View.readCov_full _ _ _ _ _))
  isplitl [H8]
  · iexists _; isplitr; rotate_left; · iexact H8
    ipureintro; refine read_canon _ _ (L' := outL i x2 x3 x4 (k0_pay3 (F := F)) (k0_pay4 (F := F))) ?_ (outL_cover i x2 x3 x4 (k0_pay3 (F := F)) (k0_pay4 (F := F)))
    unfold outL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))
    · exact congr5 outHi (readAt_unread_at harg3 x2 _ (k0_off3_eq i 4) (wcol_inb i 4)) (View.readCov_full _ _ _ _ _) (View.readCov_full _ _ _ _ _) (readAt_unread_unit harg4 x3 _) (readAt_unread_unit harg5 x4 _)
    · exact congr5 outLo (readAt_unread_at harg3 x2 _ (k0_off3_eq i 4) (wcol_inb i 4)) (View.readCov_full _ _ _ _ _) (View.readCov_full _ _ _ _ _) (readAt_unread_unit harg4 x3 _) (readAt_unread_unit harg5 x4 _)
    · exact congr5 outHi (readAt_unread_at harg3 x2 _ (k0_off3_eq i 3) (wcol_inb i 3)) (View.readCov_full _ _ _ _ _) (View.readCov_full _ _ _ _ _) (readAt_unread_unit harg4 x3 _) (readAt_unread_unit harg5 x4 _)
    · exact congr5 outLo (readAt_unread_at harg3 x2 _ (k0_off3_eq i 3) (wcol_inb i 3)) (View.readCov_full _ _ _ _ _) (View.readCov_full _ _ _ _ _) (readAt_unread_unit harg4 x3 _) (readAt_unread_unit harg5 x4 _)
    · exact congr5 outHi (readAt_unread_at harg3 x2 _ (k0_off3_eq i 2) (wcol_inb i 2)) (View.readCov_full _ _ _ _ _) (View.readCov_full _ _ _ _ _) (readAt_unread_unit harg4 x3 _) (readAt_unread_unit harg5 x4 _)
    · exact congr5 outLo (readAt_unread_at harg3 x2 _ (k0_off3_eq i 2) (wcol_inb i 2)) (View.readCov_full _ _ _ _ _) (View.readCov_full _ _ _ _ _) (readAt_unread_unit harg4 x3 _) (readAt_unread_unit harg5 x4 _)
    · exact congr5 outHi (readAt_unread_at harg3 x2 _ (k0_off3_eq i 1) (wcol_inb i 1)) (View.readCov_full _ _ _ _ _) (View.readCov_full _ _ _ _ _) (readAt_unread_unit harg4 x3 _) (readAt_unread_unit harg5 x4 _)
    · exact congr5 outLo (readAt_unread_at harg3 x2 _ (k0_off3_eq i 1) (wcol_inb i 1)) (View.readCov_full _ _ _ _ _) (View.readCov_full _ _ _ _ _) (readAt_unread_unit harg4 x3 _) (readAt_unread_unit harg5 x4 _)
    · exact congr5 outHi (readAt_unread_at harg3 x2 _ (k0_off3_eq i 0) (wcol_inb i 0)) (View.readCov_full _ _ _ _ _) (View.readCov_full _ _ _ _ _) (readAt_unread_unit harg4 x3 _) (readAt_unread_unit harg5 x4 _)
    · exact congr5 outLo (readAt_unread_at harg3 x2 _ (k0_off3_eq i 0) (wcol_inb i 0)) (View.readCov_full _ _ _ _ _) (View.readCov_full _ _ _ _ _) (readAt_unread_unit harg4 x3 _) (readAt_unread_unit harg5 x4 _)
  isplitl [H9]
  · iexists _; isplitr; rotate_left; · iexact H9
    ipureintro; refine read_canon _ _ (L' := hcL x1) ?_ (hcL_cover x1)
    unfold hcL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))))))))))))))))))))))))))))))))))))))))))))))))))))) <;> exact congrArg hcode (readAt_unread_unit harg2 x1 _)
  isplitl [H10]
  · iexists _; isplitr; rotate_left; · iexact H10
    ipureintro; refine (View.read_writes_full _ _ _ _ _).trans ?_
    unfold hscB
    refine congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congrArg k0_pay447 ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_ <;> exact congrArg hscl (readAt_unread_unit harg2 x1 _)
  isplitl [H11]
  · iexists _; isplitr; rotate_left; · iexact H11
    ipureintro; refine read_two_puts harg11 _ _ _ (k0_off1_0 i) (k0_off1_1 i) ?_ ?_
    · exact congrArg codesB (readAt_unread_unit harg1 x0 _)
    · exact congrArg codesB (readAt_unread_unit harg1 x0 _)
  isplitl [H12]
  · iexists _; isplitr; rotate_left; · iexact H12
    ipureintro; exact View.read_writes_full _ _ _ _ _
  isplitl [H13]
  · iexists _; isplitr; rotate_left; · iexact H13
    ipureintro; refine read_two_puts harg13 _ _ _ (k0_off2_0 i) (k0_off2_1 i) ?_ ?_
    · exact congrArg lanes (readAt_unread_unit harg1 x0 _)
    · exact congrArg lanes (readAt_unread_unit harg1 x0 _)
  · iexists _; isplitr; rotate_left; · iexact H14
    ipureintro; exact View.read_writes_full _ _ _ _ _

end Cert.Kernel.Gen

end
-- ==== Proof.KernelRunB.lean ====
/-
  The body at a grid point of an even tile, the first point apart.
-/
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof

set_option maxHeartbeats 12000000 in
/-- A point of an even tile fills the first pair of scratches and multiplies from the second. -/
theorem run_B (c : Dev nD) (i : grid0.Coords) (arg1 : Memref sig .tc .vmem S64x6912 .f32) (harg1 : arg1.IsWhole) (arg2 : Memref sig .tc .vmem S2x6912 .f32) (harg2 : arg2.IsWhole) (arg3 : Memref sig .tc .vmem S6912x5120 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S64x6912 .i8) (harg6 : arg6.IsWhole) (arg7 : Memref sig .tc .vmem S1x2x128 .f32) (harg7 : arg7.IsWhole) (arg8 : Memref sig .tc .vmem S256x1280 .bf16) (harg8 : arg8.IsWhole) (arg9 : Memref sig .tc .vmem S2x6912 .fp8e4m3) (harg9 : arg9.IsWhole) (arg10 : Memref sig .tc .vmem S2x54 .f32) (harg10 : arg10.IsWhole) (arg11 : Memref sig .tc .vmem S256x6912 .bf16) (harg11 : arg11.IsWhole) (arg12 : Memref sig .tc .vmem S256x6912 .bf16) (harg12 : arg12.IsWhole) (arg13 : Memref sig .tc .vmem S256x128 .f32) (harg13 : arg13.IsWhole) (arg14 : Memref sig .tc .vmem S256x128 .f32) (harg14 : arg14.IsWhole)
    (hc1 : ¬ k0_cond1 i = 1#1) (hc2 : k0_cond2 i = 1#1) (hc3 : ¬ k0_cond3 i = 1#1)
    (x0 : Vec F S64x6912 .f32) (x1 : Vec F S2x6912 .f32) (x2 : Vec F S6912x5120 .i8) (x3 : Vec F S1x1280 .f32) (x4 : Vec F S1x1280 .f32) (h8 : Vec F S2x6912 .fp8e4m3) (h9 : Vec F S2x54 .f32) (e0 e1 : Vec F S256x6912 .bf16) (e2 e3 : Vec F S256x128 .f32) :
    ∀ (E : Set ℕ) (K : PUnit → sProp 𝕄),
      iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (h8) ∗ owns (c : Thread nD τ) arg10 fullShare (h9) ∗ owns (c : Thread nD τ) arg11 fullShare (e0) ∗ owns (c : Thread nD τ) arg12 fullShare (e1) ∗ owns (c : Thread nD τ) arg13 fullShare (e2) ∗ owns (c : Thread nD τ) arg14 fullShare (e3)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (View.canon (oqL x0)) ∗ owns (c : Thread nD τ) arg7 fullShare (osB e3) ∗ owns (c : Thread nD τ) arg8 fullShare (View.canon (outL i x2 x3 x4 e1 e3)) ∗ owns (c : Thread nD τ) arg9 fullShare (h8) ∗ owns (c : Thread nD τ) arg10 fullShare (h9) ∗ owns (c : Thread nD τ) arg11 fullShare (putC i e0 x0) ∗ owns (c : Thread nD τ) arg12 fullShare (e1) ∗ owns (c : Thread nD τ) arg13 fullShare (putS i e2 x0) ∗ owns (c : Thread nD τ) arg14 fullShare (e3)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_out_proj_eq_skeleton]; unfold cc0_out_proj_skel
  simp only [k0_part101_eq_skeleton, k0_part87_eq_skeleton, k0_part88_eq_skeleton, k0_part89_eq_skeleton, k0_part90_eq_skeleton, k0_part91_eq_skeleton, k0_part92_eq_skeleton, k0_part93_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; rotate_left; · iexact H6
    ipureintro; refine read_canon _ _ (L' := oqL x0) ?_ (oqL_cover x0)
    unfold oqL
    refine congrArg₂ List.cons (congrArg (Sigma.mk _) ?_) (congrArg₂ List.cons (congrArg (Sigma.mk _) ?_) rfl)
    · exact congrArg codesI (readAt_unread_unit harg1 x0 _)
    · exact congrArg codesI (readAt_unread_unit harg1 x0 _)
  isplitl [H7]
  · iexists _; isplitr; rotate_left; · iexact H7
    ipureintro; exact (View.read_writes_full _ _ _ _ _).trans (congrArg osB (readAt_unread_full harg14 e3 _))
  isplitl [H8]
  · iexists _; isplitr; rotate_left; · iexact H8
    ipureintro; refine read_canon _ _ (L' := outL i x2 x3 x4 e1 e3) ?_ (outL_cover i x2 x3 x4 e1 e3)
    unfold outL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))
    · exact congr5 outHi (readAt_unread_at harg3 x2 _ (k0_off3_eq i 4) (wcol_inb i 4)) (readAt_unread_full harg12 e1 _) (readAt_unread_full harg14 e3 _) (readAt_unread_unit harg4 x3 _) (readAt_unread_unit harg5 x4 _)
    · exact congr5 outLo (readAt_unread_at harg3 x2 _ (k0_off3_eq i 4) (wcol_inb i 4)) (readAt_unread_full harg12 e1 _) (readAt_unread_full harg14 e3 _) (readAt_unread_unit harg4 x3 _) (readAt_unread_unit harg5 x4 _)
    · exact congr5 outHi (readAt_unread_at harg3 x2 _ (k0_off3_eq i 3) (wcol_inb i 3)) (readAt_unread_full harg12 e1 _) (readAt_unread_full harg14 e3 _) (readAt_unread_unit harg4 x3 _) (readAt_unread_unit harg5 x4 _)
    · exact congr5 outLo (readAt_unread_at harg3 x2 _ (k0_off3_eq i 3) (wcol_inb i 3)) (readAt_unread_full harg12 e1 _) (readAt_unread_full harg14 e3 _) (readAt_unread_unit harg4 x3 _) (readAt_unread_unit harg5 x4 _)
    · exact congr5 outHi (readAt_unread_at harg3 x2 _ (k0_off3_eq i 2) (wcol_inb i 2)) (readAt_unread_full harg12 e1 _) (readAt_unread_full harg14 e3 _) (readAt_unread_unit harg4 x3 _) (readAt_unread_unit harg5 x4 _)
    · exact congr5 outLo (readAt_unread_at harg3 x2 _ (k0_off3_eq i 2) (wcol_inb i 2)) (readAt_unread_full harg12 e1 _) (readAt_unread_full harg14 e3 _) (readAt_unread_unit harg4 x3 _) (readAt_unread_unit harg5 x4 _)
    · exact congr5 outHi (readAt_unread_at harg3 x2 _ (k0_off3_eq i 1) (wcol_inb i 1)) (readAt_unread_full harg12 e1 _) (readAt_unread_full harg14 e3 _) (readAt_unread_unit harg4 x3 _) (readAt_unread_unit harg5 x4 _)
    · exact congr5 outLo (readAt_unread_at harg3 x2 _ (k0_off3_eq i 1) (wcol_inb i 1)) (readAt_unread_full harg12 e1 _) (readAt_unread_full harg14 e3 _) (readAt_unread_unit harg4 x3 _) (readAt_unread_unit harg5 x4 _)
    · exact congr5 outHi (readAt_unread_at harg3 x2 _ (k0_off3_eq i 0) (wcol_inb i 0)) (readAt_unread_full harg12 e1 _) (readAt_unread_full harg14 e3 _) (readAt_unread_unit harg4 x3 _) (readAt_unread_unit harg5 x4 _)
    · exact congr5 outLo (readAt_unread_at harg3 x2 _ (k0_off3_eq i 0) (wcol_inb i 0)) (readAt_unread_full harg12 e1 _) (readAt_unread_full harg14 e3 _) (readAt_unread_unit harg4 x3 _) (readAt_unread_unit harg5 x4 _)
  isplitl [H9]
  · iexists _; isplitr; · ipureintro; exact harg9.read_unread _
    iexact H9
  isplitl [H10]
  · iexists _; isplitr; · ipureintro; exact harg10.read_unread _
    iexact H10
  isplitl [H11]
  · iexists _; isplitr; rotate_left; · iexact H11
    ipureintro; refine read_two_puts harg11 _ _ _ (k0_off1_0 i) (k0_off1_1 i) ?_ ?_
    · exact congrArg codesB (readAt_unread_unit harg1 x0 _)
    · exact congrArg codesB (readAt_unread_unit harg1 x0 _)
  isplitl [H12]
  · iexists _; isplitr; · ipureintro; exact harg12.read_unread _
    iexact H12
  isplitl [H13]
  · iexists _; isplitr; rotate_left; · iexact H13
    ipureintro; refine read_two_puts harg13 _ _ _ (k0_off2_0 i) (k0_off2_1 i) ?_ ?_
    · exact congrArg lanes (readAt_unread_unit harg1 x0 _)
    · exact congrArg lanes (readAt_unread_unit harg1 x0 _)
  · iexists _; isplitr; · ipureintro; exact harg14.read_unread _
    iexact H14

end Cert.Kernel.Gen

end
-- ==== Proof.KernelRunC.lean ====
/-
  The body at a grid point of an odd tile.
-/
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof

set_option maxHeartbeats 12000000 in
/-- A point of an odd tile fills the second pair of scratches and multiplies from the first. -/
theorem run_C (c : Dev nD) (i : grid0.Coords) (arg1 : Memref sig .tc .vmem S64x6912 .f32) (harg1 : arg1.IsWhole) (arg2 : Memref sig .tc .vmem S2x6912 .f32) (harg2 : arg2.IsWhole) (arg3 : Memref sig .tc .vmem S6912x5120 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S64x6912 .i8) (harg6 : arg6.IsWhole) (arg7 : Memref sig .tc .vmem S1x2x128 .f32) (harg7 : arg7.IsWhole) (arg8 : Memref sig .tc .vmem S256x1280 .bf16) (harg8 : arg8.IsWhole) (arg9 : Memref sig .tc .vmem S2x6912 .fp8e4m3) (harg9 : arg9.IsWhole) (arg10 : Memref sig .tc .vmem S2x54 .f32) (harg10 : arg10.IsWhole) (arg11 : Memref sig .tc .vmem S256x6912 .bf16) (harg11 : arg11.IsWhole) (arg12 : Memref sig .tc .vmem S256x6912 .bf16) (harg12 : arg12.IsWhole) (arg13 : Memref sig .tc .vmem S256x128 .f32) (harg13 : arg13.IsWhole) (arg14 : Memref sig .tc .vmem S256x128 .f32) (harg14 : arg14.IsWhole)
    (hc1 : ¬ k0_cond1 i = 1#1) (hc2 : ¬ k0_cond2 i = 1#1) (hc3 : k0_cond3 i = 1#1)
    (x0 : Vec F S64x6912 .f32) (x1 : Vec F S2x6912 .f32) (x2 : Vec F S6912x5120 .i8) (x3 : Vec F S1x1280 .f32) (x4 : Vec F S1x1280 .f32) (h8 : Vec F S2x6912 .fp8e4m3) (h9 : Vec F S2x54 .f32) (e0 e1 : Vec F S256x6912 .bf16) (e2 e3 : Vec F S256x128 .f32) :
    ∀ (E : Set ℕ) (K : PUnit → sProp 𝕄),
      iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (h8) ∗ owns (c : Thread nD τ) arg10 fullShare (h9) ∗ owns (c : Thread nD τ) arg11 fullShare (e0) ∗ owns (c : Thread nD τ) arg12 fullShare (e1) ∗ owns (c : Thread nD τ) arg13 fullShare (e2) ∗ owns (c : Thread nD τ) arg14 fullShare (e3)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (View.canon (oqL x0)) ∗ owns (c : Thread nD τ) arg7 fullShare (osB e2) ∗ owns (c : Thread nD τ) arg8 fullShare (View.canon (outL i x2 x3 x4 e0 e2)) ∗ owns (c : Thread nD τ) arg9 fullShare (h8) ∗ owns (c : Thread nD τ) arg10 fullShare (h9) ∗ owns (c : Thread nD τ) arg11 fullShare (e0) ∗ owns (c : Thread nD τ) arg12 fullShare (putC i e1 x0) ∗ owns (c : Thread nD τ) arg13 fullShare (e2) ∗ owns (c : Thread nD τ) arg14 fullShare (putS i e3 x0)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_out_proj_eq_skeleton]; unfold cc0_out_proj_skel
  simp only [k0_part101_eq_skeleton, k0_part94_eq_skeleton, k0_part95_eq_skeleton, k0_part96_eq_skeleton, k0_part97_eq_skeleton, k0_part98_eq_skeleton, k0_part99_eq_skeleton, k0_part100_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; rotate_left; · iexact H6
    ipureintro; refine read_canon _ _ (L' := oqL x0) ?_ (oqL_cover x0)
    unfold oqL
    refine congrArg₂ List.cons (congrArg (Sigma.mk _) ?_) (congrArg₂ List.cons (congrArg (Sigma.mk _) ?_) rfl)
    · exact congrArg codesI (readAt_unread_unit harg1 x0 _)
    · exact congrArg codesI (readAt_unread_unit harg1 x0 _)
  isplitl [H7]
  · iexists _; isplitr; rotate_left; · iexact H7
    ipureintro; exact (View.read_writes_full _ _ _ _ _).trans (congrArg osB (readAt_unread_full harg13 e2 _))
  isplitl [H8]
  · iexists _; isplitr; rotate_left; · iexact H8
    ipureintro; refine read_canon _ _ (L' := outL i x2 x3 x4 e0 e2) ?_ (outL_cover i x2 x3 x4 e0 e2)
    unfold outL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))
    · exact congr5 outHi (readAt_unread_at harg3 x2 _ (k0_off6_eq i 4) (wcol_inb i 4)) (readAt_unread_full harg11 e0 _) (readAt_unread_full harg13 e2 _) (readAt_unread_unit harg4 x3 _) (readAt_unread_unit harg5 x4 _)
    · exact congr5 outLo (readAt_unread_at harg3 x2 _ (k0_off6_eq i 4) (wcol_inb i 4)) (readAt_unread_full harg11 e0 _) (readAt_unread_full harg13 e2 _) (readAt_unread_unit harg4 x3 _) (readAt_unread_unit harg5 x4 _)
    · exact congr5 outHi (readAt_unread_at harg3 x2 _ (k0_off6_eq i 3) (wcol_inb i 3)) (readAt_unread_full harg11 e0 _) (readAt_unread_full harg13 e2 _) (readAt_unread_unit harg4 x3 _) (readAt_unread_unit harg5 x4 _)
    · exact congr5 outLo (readAt_unread_at harg3 x2 _ (k0_off6_eq i 3) (wcol_inb i 3)) (readAt_unread_full harg11 e0 _) (readAt_unread_full harg13 e2 _) (readAt_unread_unit harg4 x3 _) (readAt_unread_unit harg5 x4 _)
    · exact congr5 outHi (readAt_unread_at harg3 x2 _ (k0_off6_eq i 2) (wcol_inb i 2)) (readAt_unread_full harg11 e0 _) (readAt_unread_full harg13 e2 _) (readAt_unread_unit harg4 x3 _) (readAt_unread_unit harg5 x4 _)
    · exact congr5 outLo (readAt_unread_at harg3 x2 _ (k0_off6_eq i 2) (wcol_inb i 2)) (readAt_unread_full harg11 e0 _) (readAt_unread_full harg13 e2 _) (readAt_unread_unit harg4 x3 _) (readAt_unread_unit harg5 x4 _)
    · exact congr5 outHi (readAt_unread_at harg3 x2 _ (k0_off6_eq i 1) (wcol_inb i 1)) (readAt_unread_full harg11 e0 _) (readAt_unread_full harg13 e2 _) (readAt_unread_unit harg4 x3 _) (readAt_unread_unit harg5 x4 _)
    · exact congr5 outLo (readAt_unread_at harg3 x2 _ (k0_off6_eq i 1) (wcol_inb i 1)) (readAt_unread_full harg11 e0 _) (readAt_unread_full harg13 e2 _) (readAt_unread_unit harg4 x3 _) (readAt_unread_unit harg5 x4 _)
    · exact congr5 outHi (readAt_unread_at harg3 x2 _ (k0_off6_eq i 0) (wcol_inb i 0)) (readAt_unread_full harg11 e0 _) (readAt_unread_full harg13 e2 _) (readAt_unread_unit harg4 x3 _) (readAt_unread_unit harg5 x4 _)
    · exact congr5 outLo (readAt_unread_at harg3 x2 _ (k0_off6_eq i 0) (wcol_inb i 0)) (readAt_unread_full harg11 e0 _) (readAt_unread_full harg13 e2 _) (readAt_unread_unit harg4 x3 _) (readAt_unread_unit harg5 x4 _)
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro; refine read_two_puts harg12 _ _ _ (k0_off4_0 i) (k0_off4_1 i) ?_ ?_
    · exact congrArg codesB (readAt_unread_unit harg1 x0 _)
    · exact congrArg codesB (readAt_unread_unit harg1 x0 _)
  isplitl [H13]
  · iexists _; isplitr; · ipureintro; exact harg13.read_unread _
    iexact H13
  · iexists _; isplitr; rotate_left; · iexact H14
    ipureintro; refine read_two_puts harg14 _ _ _ (k0_off5_0 i) (k0_off5_1 i) ?_ ?_
    · exact congrArg lanes (readAt_unread_unit harg1 x0 _)
    · exact congrArg lanes (readAt_unread_unit harg1 x0 _)

end Cert.Kernel.Gen

end
-- ==== Proof.KernelFrame.lean ====
/-
  The frame of the call: what every grid point is handed and leaves, the body's triple at every point from the three
  runs, the launch, and the frame claim.
-/
module

public import proofs.«01_k».proof.Proof.KernelState
public import proofs.«01_k».proof.Proof.KernelRunA
public import proofs.«01_k».proof.Proof.KernelRunB
public import proofs.«01_k».proof.Proof.KernelRunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val / 4 % 2 = 0 :=
  (by decide +kernel : ∀ t : Fin grid0.N, k0_cond2 (grid0.coords t) = 1#1 ↔ t.val / 4 % 2 = 0)
theorem hcond3 : ∀ t : Fin cfg0.N, k0_cond3 (grid0.coords t) = 1#1 ↔ ¬ t.val / 4 % 2 = 0 :=
  (by decide +kernel : ∀ t : Fin grid0.N, k0_cond3 (grid0.coords t) = 1#1 ↔ ¬ t.val / 4 % 2 = 0)
theorem hqrow : ∀ t : Fin cfg0.N, qrow (grid0.coords t) = 64 * (t.val % 4) :=
  (by decide +kernel : ∀ t : Fin grid0.N, qrow (grid0.coords t) = 64 * (t.val % 4))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false :=
  (by decide +kernel : ∀ t : Fin grid0.N, idle0 5 (grid0.coords t) = false)
theorem liveAt0_6 : ∀ t : Fin cfg0.N, cfg0.idle 6 (grid0.coords t) = false :=
  (by decide +kernel : ∀ t : Fin grid0.N, idle0 6 (grid0.coords t) = false)
theorem liveAt0_7 : ∀ t : Fin cfg0.N, cfg0.idle 7 (grid0.coords t) = false :=
  (by decide +kernel : ∀ t : Fin grid0.N, idle0 7 (grid0.coords t) = false)
theorem idleAt0_8 : ∀ t : Fin cfg0.N, cfg0.idle 8 (grid0.coords t) = !decide (t.val = 0) :=
  (by decide +kernel : ∀ t : Fin grid0.N, idle0 8 (grid0.coords t) = !decide (t.val = 0))
theorem idleAt0_9 : ∀ t : Fin cfg0.N, cfg0.idle 9 (grid0.coords t) = !decide (t.val = 0) :=
  (by decide +kernel : ∀ t : Fin grid0.N, idle0 9 (grid0.coords t) = !decide (t.val = 0))
abbrev ms0_0 (t : Fin cfg0.N) : Memref sig .tc .vmem S64x6912 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x6912 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x6912 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x6912 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x54 .f32 := win0_9.stage (cfg0.slots t 9)
abbrev hs0_9 (t : Fin cfg0.N) : (ms0_9 t).IsWhole := hstage0_9 ((cfg0.slots t 9).cast nbuf0_9)
abbrev scM0_0 : Memref sig .tc .vmem S256x6912 .bf16 := Memref.whole cc0_scratch0
abbrev scM0_1 : Memref sig .tc .vmem S256x6912 .bf16 := Memref.whole cc0_scratch1
abbrev scM0_2 : Memref sig .tc .vmem S256x128 .f32 := Memref.whole cc0_scratch2
abbrev scM0_3 : Memref sig .tc .vmem S256x128 .f32 := Memref.whole cc0_scratch3

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant before position `n`: before the first point every scratch at anything, afterwards the scratches at
    contents that `Inv` describes. -/
def PhiS (c : Dev nD) : (n : ℕ) → n ≤ cfg0.N → sProp 𝕄
  | 0, _ => Pipeline.ΦA spec0 c
  | n + 1, _ => iprop((∃ e0, ∃ e1, ∃ e2, ∃ e3, ⌜Inv m c n e0 e1 e2 e3⌝ ∗ owns (c : Thread nD τ) scM0_0 fullShare e0 ∗ owns (c : Thread nD τ) scM0_1 fullShare e1 ∗ owns (c : Thread nD τ) scM0_2 fullShare e2 ∗ owns (c : Thread nD τ) scM0_3 fullShare e3) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (h : n + 1 ≤ cfg0.N) :
    PhiS m c (n + 1) h = iprop((∃ e0, ∃ e1, ∃ e2, ∃ e3, ⌜Inv m c n e0 e1 e2 e3⌝ ∗ owns (c : Thread nD τ) scM0_0 fullShare e0 ∗ owns (c : Thread nD τ) scM0_1 fullShare e1 ∗ owns (c : Thread nD τ) scM0_2 fullShare e2 ∗ owns (c : Thread nD τ) scM0_3 fullShare e3) ∗ (∃ r, prngReg c r)) := rfl

/-- What every window's staging buffer holds after the body at a point: an input its block; the codes; the scales of
    the tile before; its products with the weight's columns, scaled; the state's codes and scales, stored once. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (oqL (iblk m c 0 t))
    | ⟨6, _⟩ => osB (sOld m c t.val)
    | ⟨7, _⟩ => View.canon (outL (grid0.coords t) (iblk m c 2 t) (iblk m c 3 t) (iblk m c 4 t) (cOld m c t.val) (sOld m c t.val))
    | ⟨8, _⟩ => View.canon (hcL (iblk m c 1 (pnt 0)))
    | ⟨9, _⟩ => hscB (iblk m c 1 (pnt 0))
    | ⟨_ + 10, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = View.canon (oqL (iblk m c 0 t)) := by dsimp only [dats]
theorem after0_6 (c : Dev nD) (t : Fin cfg0.N) : (dats m 0 c).after 6 t = osB (sOld m c t.val) := by dsimp only [dats]
theorem after0_7 (c : Dev nD) (t : Fin cfg0.N) : (dats m 0 c).after 7 t = View.canon (outL (grid0.coords t) (iblk m c 2 t) (iblk m c 3 t) (iblk m c 4 t) (cOld m c t.val) (sOld m c t.val)) := by dsimp only [dats]
theorem after0_8 (c : Dev nD) (t : Fin cfg0.N) : (dats m 0 c).after 8 t = View.canon (hcL (iblk m c 1 (pnt 0))) := by dsimp only [dats]
theorem after0_9 (c : Dev nD) (t : Fin cfg0.N) : (dats m 0 c).after 9 t = hscB (iblk m c 1 (pnt 0)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem flushAt0_8 (t : Fin cfg0.N) (h : t.val ≠ 131) : (cfg0.win 8).flush t = false :=
  Bool.eq_false_iff.mpr fun hf => by
    have := (flush0_8 t).mp hf
    have hN : t.val < 132 := lt_of_lt_of_eq t.isLt N_0
    omega
/-- Window 8, written once at the first point, still holds that at every later point. -/
theorem before0_8 (c : Dev nD) (d) : ∀ (n : ℕ) (h : n + 1 < cfg0.N), (dats m 0 c).before 8 ⟨n + 1, h⟩ d = View.canon (hcL (iblk m c 1 (pnt 0))) := by
  intro n
  induction n with
  | zero =>
    intro h
    rw [(dats m 0 c).before_of_pos 8 ⟨0 + 1, h⟩ (Nat.succ_ne_zero _) ((cfg0.win 8).fetch_out rfl _), flushAt0_8 _ (by simp), if_neg Bool.false_ne_true]
    unfold Dat.left
    rw [idleAt0_8]
    exact ((cfg0.win 8).fill_cut _ _).trans (after0_8 m c _)
  | succ n ih =>
    intro h
    have hN : n + 1 + 1 < 132 := lt_of_lt_of_eq h N_0
    rw [(dats m 0 c).before_of_pos 8 ⟨n + 1 + 1, h⟩ (Nat.succ_ne_zero _) ((cfg0.win 8).fetch_out rfl _), flushAt0_8 _ (by simp only; omega), if_neg Bool.false_ne_true]
    unfold Dat.left
    rw [idleAt0_8]
    exact ih (Nat.lt_of_succ_lt h)
theorem held0_8 (c : Dev nD) (t : Fin cfg0.N) (ht : t.val ≠ 0) (d) : (dats m 0 c).before 8 t d = View.canon (hcL (iblk m c 1 (pnt 0))) := by
  obtain ⟨n, hn⟩ : ∃ n, t.val = n + 1 := ⟨t.val - 1, by omega⟩
  have : t = ⟨n + 1, hn ▸ t.isLt⟩ := Fin.ext hn
  rw [this]; exact before0_8 m c d n _
theorem flushAt0_9 (t : Fin cfg0.N) (h : t.val ≠ 131) : (cfg0.win 9).flush t = false :=
  Bool.eq_false_iff.mpr fun hf => by
    have := (flush0_9 t).mp hf
    have hN : t.val < 132 := lt_of_lt_of_eq t.isLt N_0
    omega
/-- Window 9, written once at the first point, still holds that at every later point. -/
theorem before0_9 (c : Dev nD) (d) : ∀ (n : ℕ) (h : n + 1 < cfg0.N), (dats m 0 c).before 9 ⟨n + 1, h⟩ d = hscB (iblk m c 1 (pnt 0)) := by
  intro n
  induction n with
  | zero =>
    intro h
    rw [(dats m 0 c).before_of_pos 9 ⟨0 + 1, h⟩ (Nat.succ_ne_zero _) ((cfg0.win 9).fetch_out rfl _), flushAt0_9 _ (by simp), if_neg Bool.false_ne_true]
    unfold Dat.left
    rw [idleAt0_9]
    exact ((cfg0.win 9).fill_cut _ _).trans (after0_9 m c _)
  | succ n ih =>
    intro h
    have hN : n + 1 + 1 < 132 := lt_of_lt_of_eq h N_0
    rw [(dats m 0 c).before_of_pos 9 ⟨n + 1 + 1, h⟩ (Nat.succ_ne_zero _) ((cfg0.win 9).fetch_out rfl _), flushAt0_9 _ (by simp only; omega), if_neg Bool.false_ne_true]
    unfold Dat.left
    rw [idleAt0_9]
    exact ih (Nat.lt_of_succ_lt h)
theorem held0_9 (c : Dev nD) (t : Fin cfg0.N) (ht : t.val ≠ 0) (d) : (dats m 0 c).before 9 t d = hscB (iblk m c 1 (pnt 0)) := by
  obtain ⟨n, hn⟩ : ∃ n, t.val = n + 1 := ⟨t.val - 1, by omega⟩
  have : t = ⟨n + 1, hn ▸ t.isLt⟩ := Fin.ext hn
  rw [this]; exact before0_9 m c d n _

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (View.canon (oqL (iblk m c 0 t))) := by
  unfold Dat.leavesExact; rw [liveAt0_5 t, after0_5]
theorem leaves0_6 (c : Dev nD) (t : Fin cfg0.N) : (dats m 0 c).leavesExact 6 t = owns (c : Thread nD τ) (ms0_6 t) fullShare (osB (sOld m c t.val)) := by
  unfold Dat.leavesExact; rw [liveAt0_6 t, after0_6]
theorem leaves0_7 (c : Dev nD) (t : Fin cfg0.N) : (dats m 0 c).leavesExact 7 t = owns (c : Thread nD τ) (ms0_7 t) fullShare (View.canon (outL (grid0.coords t) (iblk m c 2 t) (iblk m c 3 t) (iblk m c 4 t) (cOld m c t.val) (sOld m c t.val))) := by
  unfold Dat.leavesExact; rw [liveAt0_7 t, after0_7]
theorem leaves0_8 (c : Dev nD) (t : Fin cfg0.N) (ht : t.val = 0) : (dats m 0 c).leavesExact 8 t = owns (c : Thread nD τ) (ms0_8 t) fullShare (View.canon (hcL (iblk m c 1 (pnt 0)))) := by
  unfold Dat.leavesExact; rw [idleAt0_8 t, ht, after0_8]; rfl
theorem keep0_8 (c : Dev nD) (t : Fin cfg0.N) (ht : t.val ≠ 0) :
    owns (c : Thread nD τ) (ms0_8 t) fullShare (View.canon (hcL (iblk m c 1 (pnt 0)))) ⊢ (dats m 0 c).leavesExact 8 t := by
  have hi : cfg0.idle 8 (grid0.coords t) = true := by rw [idleAt0_8, decide_eq_false ht]; rfl
  by_cases hl : t.val = 131
  · have he : (dats m 0 c).leavesExact 8 t = owns (c : Thread nD τ) (ms0_8 t) fullShare (View.canon (hcL (iblk m c 1 (pnt 0)))) := by
      unfold Dat.leavesExact; rw [hi, after0_8, show (cfg0.win 8).flush t = true from (flush0_8 t).mpr (by omega)]
    rw [he]
  · rw [(dats m 0 c).leavesExact_idle 8 t hi (flushAt0_8 t hl)]
    iintro H
    iexists (View.canon (hcL (iblk m c 1 (pnt 0))))
    rw [held0_8 m c t ht]
    iexact H
theorem leaves0_9 (c : Dev nD) (t : Fin cfg0.N) (ht : t.val = 0) : (dats m 0 c).leavesExact 9 t = owns (c : Thread nD τ) (ms0_9 t) fullShare (hscB (iblk m c 1 (pnt 0))) := by
  unfold Dat.leavesExact; rw [idleAt0_9 t, ht, after0_9]; rfl
theorem keep0_9 (c : Dev nD) (t : Fin cfg0.N) (ht : t.val ≠ 0) :
    owns (c : Thread nD τ) (ms0_9 t) fullShare (hscB (iblk m c 1 (pnt 0))) ⊢ (dats m 0 c).leavesExact 9 t := by
  have hi : cfg0.idle 9 (grid0.coords t) = true := by rw [idleAt0_9, decide_eq_false ht]; rfl
  by_cases hl : t.val = 131
  · have he : (dats m 0 c).leavesExact 9 t = owns (c : Thread nD τ) (ms0_9 t) fullShare (hscB (iblk m c 1 (pnt 0))) := by
      unfold Dat.leavesExact; rw [hi, after0_9, show (cfg0.win 9).flush t = true from (flush0_9 t).mpr (by omega)]
    rw [he]
  · rw [(dats m 0 c).leavesExact_idle 9 t hi (flushAt0_9 t hl)]
    iintro H
    iexists (hscB (iblk m c 1 (pnt 0)))
    rw [held0_9 m c t ht]
    iexact H

theorem PhiS_cast (c : Dev nD) (t : Fin cfg0.N) {n : ℕ} (hn : t.val = n + 1) :
    PhiS m c t.val (Nat.le_of_lt t.isLt) = PhiS m c (n + 1) (hn ▸ Nat.le_of_lt t.isLt) := by
  congr 1

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_0, leaves0_1, leaves0_2, leaves0_3, leaves0_4, leaves0_5, leaves0_6, leaves0_7]
  have hN : t.val < 132 := lt_of_lt_of_eq t.isLt (show cfg0.N = 132 from N_0)
  by_cases hz : t.val = 0
  · have hc : cOld m c t.val = k0_pay3 := by unfold cOld; rw [hz]; exact if_pos rfl
    have hs : sOld m c t.val = k0_pay4 := by unfold sOld; rw [hz]; exact if_pos rfl
    have hp0 : pnt 0 = t := hz ▸ pnt_self t
    have hp : t.val / 4 % 2 = 0 := by rw [hz]
    rw [hc, hs]
    rw [leaves0_8 m c t hz, leaves0_9 m c t hz, hp0, PhiS_zero m c _ _ hz, PhiA0_eq]
    iintro ⟨⟨⟨⟨%e0, HS0⟩, HS1, ⟨%e2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ _ _ _ _ _ _ _ _ ((hcond1 t).mpr hz) ((hcond2 t).mpr hp) (fun h => (hcond3 t).mp h hp) (iblk m c 0 t) (iblk m c 1 t) (iblk m c 2 t) (iblk m c 3 t) (iblk m c 4 t) e0 e2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · iexists _, _, _, _
        isplitr; rotate_left
        · isplitl [HS0]; · iexact HS0
          isplitl [HS1]; · iexact HS1
          isplitl [HS2]; · iexact HS2
          iexact HS3
        ipureintro
        have hP := Inv.zero m c (i := grid0.coords t) (by rw [hqrow, hz]) e0 e2
        rw [show pnt 0 = t from hz ▸ pnt_self t] at hP
        rw [hz]; exact hP
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases hp : t.val / 4 % 2 = 0
  · obtain ⟨n, hn⟩ : ∃ n, t.val = n + 1 := ⟨t.val - 1, by omega⟩
    rw [PhiS_cast m c t hn, PhiS_succ]
    simp only [held0_8 m c t hz, held0_9 m c t hz]
    iintro ⟨⟨⟨%e0, %e1, %e2, %e3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hH := hI.even m (hn ▸ hp) (i := grid0.coords t) (by rw [hqrow, hn])
    rw [← hn, pnt_self] at hH
    rw [← hH.oldC, ← hH.oldS]
    iapply (run_B c (grid0.coords t) _ _ _ _ _ _ _ _ _ _ _ _ _ _ _ _ _ _ _ _ _ _ _ _ _ _ _ _ (fun h => hz ((hcond1 t).mp h)) ((hcond2 t).mpr hp) (fun h => (hcond3 t).mp h hp) (iblk m c 0 t) (iblk m c 1 t) (iblk m c 2 t) (iblk m c 3 t) (iblk m c 4 t) (View.canon (hcL (iblk m c 1 (pnt 0)))) (hscB (iblk m c 1 (pnt 0))) e0 e1 e2 e3 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · iexists _, _, _, _
        isplitr; rotate_left
        · isplitl [HS0]; · iexact HS0
          isplitl [HS1]; · iexact HS1
          isplitl [HS2]; · iexact HS2
          iexact HS3
        ipureintro
        unfold Inv; rw [if_pos hp]; exact hH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep0_8 m c t hz); iexact H8
    iapply (keep0_9 m c t hz); iexact H9
  · obtain ⟨n, hn⟩ : ∃ n, t.val = n + 1 := ⟨t.val - 1, by omega⟩
    rw [PhiS_cast m c t hn, PhiS_succ]
    simp only [held0_8 m c t hz, held0_9 m c t hz]
    iintro ⟨⟨⟨%e0, %e1, %e2, %e3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hH := hI.odd m (hn ▸ hp) (i := grid0.coords t) (by rw [hqrow, hn])
    rw [← hn, pnt_self] at hH
    rw [← hH.oldC, ← hH.oldS]
    iapply (run_C c (grid0.coords t) _ _ _ _ _ _ _ _ _ _ _ _ _ _ _ _ _ _ _ _ _ _ _ _ _ _ _ _ (fun h => hz ((hcond1 t).mp h)) (fun h => hp ((hcond2 t).mp h)) ((hcond3 t).mpr hp) (iblk m c 0 t) (iblk m c 1 t) (iblk m c 2 t) (iblk m c 3 t) (iblk m c 4 t) (View.canon (hcL (iblk m c 1 (pnt 0)))) (hscB (iblk m c 1 (pnt 0))) e0 e1 e2 e3 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · iexists _, _, _, _
        isplitr; rotate_left
        · isplitl [HS0]; · iexact HS0
          isplitl [HS1]; · iexact HS1
          isplitl [HS2]; · iexact HS2
          iexact HS3
        ipureintro
        unfold Inv; rw [if_neg hp]; exact hH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep0_8 m c t hz); iexact H8
    iapply (keep0_9 m c t hz); iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hl : (Fin.last cfg0.N).val = 131 + 1 := by rw [Fin.val_last]; exact N_0
  have he : (dats m 0 c).Φ (Fin.last cfg0.N) = PhiS m c (131 + 1) (le_of_eq (show cfg0.N = 132 from N_0).symm) := by
    rw [show (dats m 0 c).Φ (Fin.last cfg0.N) = PhiS m c (Fin.last cfg0.N).val (Nat.le_of_lt_succ (Fin.last cfg0.N).isLt) from rfl]
    congr 1
  rw [he, PhiS_succ, PhiA0_eq]
  iintro ⟨⟨%e0, %e1, %e2, %e3, -, HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

-- the run's implicit arguments are found by unfolding plain definitions in a metavariable's type
set_option backward.isDefEq.respectTransparency.types false in
/-- The launch: every window's array ends as the proof data says, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelIdealBody.lean ====
/-
  What one grid point of the output projection computes, by values: the codes, the lane-spread scales, the products.
-/
module

public import proofs.«01_k».proof.Proof.Gen.KernelIdeal.Frame
public import proofs.«01_k».proof.Proof.Gen.KernelIdeal.Skeleton
public import proofs.«01_k».proof.Proof.Windows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, by values -/

/-- The row of the code scratch a point's block starts at. -/
def qrow (i : grid0.Coords) : ℕ := 64 * ((i 0).val % 4)
/-- The first column of the weight the point's product takes. -/
def wcol (i : grid0.Coords) : ℕ := 1280 * ((i 0).val % 4)

theorem k0_off1_0 : ∀ i : grid0.Coords, k0_off1 i 0#32 = ![qrow i, 0] := by decide +kernel
theorem k0_off1_1 : ∀ i : grid0.Coords, k0_off1 i 32#32 = ![qrow i + 32, 0] := by decide +kernel
theorem k0_off2_0 : ∀ i : grid0.Coords, k0_off2 i 0#32 = ![qrow i, 0] := by decide +kernel
theorem k0_off2_1 : ∀ i : grid0.Coords, k0_off2 i 32#32 = ![qrow i + 32, 0] := by decide +kernel
theorem k0_off4_0 : ∀ i : grid0.Coords, k0_off4 i 0#32 = ![qrow i, 0] := by decide +kernel
theorem k0_off4_1 : ∀ i : grid0.Coords, k0_off4 i 32#32 = ![qrow i + 32, 0] := by decide +kernel
theorem k0_off5_0 : ∀ i : grid0.Coords, k0_off5 i 0#32 = ![qrow i, 0] := by decide +kernel
theorem k0_off5_1 : ∀ i : grid0.Coords, k0_off5 i 32#32 = ![qrow i + 32, 0] := by decide +kernel
theorem k0_off3_eq : ∀ (i : grid0.Coords) (r : Fin 5), k0_off3 i (BitVec.ofNat 32 (256 * r.val)) = ![0, wcol i + 256 * r.val] := by decide +kernel
theorem k0_off6_eq : ∀ (i : grid0.Coords) (r : Fin 5), k0_off6 i (BitVec.ofNat 32 (256 * r.val)) = ![0, wcol i + 256 * r.val] := by decide +kernel
theorem wcol_inb (i : grid0.Coords) (r : Fin 5) : ∀ a : Fin 2, (![0, wcol i + 256 * r.val] : Fin 2 → ℕ) a + S6912x256.size a ≤ S6912x5120.size a := by
  have hr := r.isLt
  have h4 : (i 0).val % 4 < 4 := Nat.mod_lt _ (by decide)
  have hw : wcol i ≤ 3840 := by unfold wcol; omega
  intro a
  match a with
  | 0 => exact (by decide : 0 + 6912 ≤ 6912)
  | 1 => exact (show wcol i + 256 * r.val + 256 ≤ 5120 by omega)

/-- 32 rows of the activation block, from row `o`. -/
abbrev half (x : Vec F S64x6912 .f32) (o : ℕ) (inb : ∀ a, (![o, 0] : Fin 2 → ℕ) a + S32x6912.size a ≤ S64x6912.size a) : Vec F S32x6912 .f32 :=
  Cert.Proof.win x ![o, 0] S32x6912.size inb
abbrev half0 (x : Vec F S64x6912 .f32) : Vec F S32x6912 .f32 := half x 0 inb_S64x6912_S32x6912_0_0
abbrev half1 (x : Vec F S64x6912 .f32) : Vec F S32x6912 .f32 := half x 32 inb_S64x6912_S32x6912_32_0
/-- The codes of 32 rows as stored, as scratch holds them, and their scales spread over the lanes. -/
abbrev codesI (v : Vec F S32x6912 .f32) : Vec F S32x6912 .i8 := k0_pay380 v
abbrev codesB (v : Vec F S32x6912 .f32) : Vec F S32x6912 .bf16 := k0_pay381 v
abbrev lanes (v : Vec F S32x6912 .f32) : Vec F S32x128 .f32 := k0_pay382 v
/-- What a point stores in the codes' block. -/
def oqL (x : Vec F S64x6912 .f32) : List (View.Piece (Elt F) S64x6912 .i8) :=
  [⟨Rect.unit ![32, 0] S32x6912.size inb_S64x6912_S32x6912_32_0, codesI (half1 x)⟩, ⟨Rect.unit ![0, 0] S32x6912.size inb_S64x6912_S32x6912_0_0, codesI (half0 x)⟩]
/-- What a point leaves in the code scratch and in the scale scratch it fills. -/
def putC (i : grid0.Coords) (e : Vec F S256x6912 .bf16) (x : Vec F S64x6912 .f32) : Vec F S256x6912 .bf16 :=
  VecWindow.put (VecWindow.put e ![qrow i, 0] S32x6912.size (codesB (half0 x))) ![qrow i + 32, 0] S32x6912.size (codesB (half1 x))
def putS (i : grid0.Coords) (e : Vec F S256x128 .f32) (x : Vec F S64x6912 .f32) : Vec F S256x128 .f32 :=
  VecWindow.put (VecWindow.put e ![qrow i, 0] S32x128.size (lanes (half0 x))) ![qrow i + 32, 0] S32x128.size (lanes (half1 x))
/-- The weight block of the `r`-th product of a point. -/
abbrev wblk (i : grid0.Coords) (w : Vec F S6912x5120 .i8) (r : Fin 5) : Vec F S6912x256 .i8 :=
  Cert.Proof.win w ![0, wcol i + 256 * r.val] S6912x256.size (wcol_inb i r)
abbrev srow (s : Vec F S1x1280 .f32) (o : ℕ) (inb : ∀ a, (![0, o] : Fin 2 → ℕ) a + S1x128.size a ≤ S1x1280.size a) : Vec F S1x128 .f32 :=
  Cert.Proof.win s ![0, o] S1x128.size inb
/-- The two halves of a product's 256 columns, scaled, biased and rounded. -/
abbrev outLo (w : Vec F S6912x256 .i8) (c : Vec F S256x6912 .bf16) (s : Vec F S256x128 .f32) (so bo : Vec F S1x128 .f32) : Vec F S256x128 .bf16 :=
  k0_pay392 (k0_pay391 w c s) so bo
abbrev outHi (w : Vec F S6912x256 .i8) (c : Vec F S256x6912 .bf16) (s : Vec F S256x128 .f32) (so bo : Vec F S1x128 .f32) : Vec F S256x128 .bf16 :=
  k0_pay393 (k0_pay390 w c) s so bo
/-- What a point stores in the result's block. -/
def outL (i : grid0.Coords) (w : Vec F S6912x5120 .i8) (so bo : Vec F S1x1280 .f32) (c : Vec F S256x6912 .bf16) (s : Vec F S256x128 .f32) :
    List (View.Piece (Elt F) S256x1280 .bf16) :=
  [⟨Rect.unit ![0, 1152] S256x128.size inb_S256x1280_S256x128_0_1152, outHi (wblk i w 4) c s (srow so 1152 inb_S1x1280_S1x128_0_1152) (srow bo 1152 inb_S1x1280_S1x128_0_1152)⟩,
    ⟨Rect.unit ![0, 1024] S256x128.size inb_S256x1280_S256x128_0_1024, outLo (wblk i w 4) c s (srow so 1024 inb_S1x1280_S1x128_0_1024) (srow bo 1024 inb_S1x1280_S1x128_0_1024)⟩,
    ⟨Rect.unit ![0, 896] S256x128.size inb_S256x1280_S256x128_0_896, outHi (wblk i w 3) c s (srow so 896 inb_S1x1280_S1x128_0_896) (srow bo 896 inb_S1x1280_S1x128_0_896)⟩,
    ⟨Rect.unit ![0, 768] S256x128.size inb_S256x1280_S256x128_0_768, outLo (wblk i w 3) c s (srow so 768 inb_S1x1280_S1x128_0_768) (srow bo 768 inb_S1x1280_S1x128_0_768)⟩,
    ⟨Rect.unit ![0, 640] S256x128.size inb_S256x1280_S256x128_0_640, outHi (wblk i w 2) c s (srow so 640 inb_S1x1280_S1x128_0_640) (srow bo 640 inb_S1x1280_S1x128_0_640)⟩,
    ⟨Rect.unit ![0, 512] S256x128.size inb_S256x1280_S256x128_0_512, outLo (wblk i w 2) c s (srow so 512 inb_S1x1280_S1x128_0_512) (srow bo 512 inb_S1x1280_S1x128_0_512)⟩,
    ⟨Rect.unit ![0, 384] S256x128.size inb_S256x1280_S256x128_0_384, outHi (wblk i w 1) c s (srow so 384 inb_S1x1280_S1x128_0_384) (srow bo 384 inb_S1x1280_S1x128_0_384)⟩,
    ⟨Rect.unit ![0, 256] S256x128.size inb_S256x1280_S256x128_0_256, outLo (wblk i w 1) c s (srow so 256 inb_S1x1280_S1x128_0_256) (srow bo 256 inb_S1x1280_S1x128_0_256)⟩,
    ⟨Rect.unit ![0, 128] S256x128.size inb_S256x1280_S256x128_0_128, outHi (wblk i w 0) c s (srow so 128 inb_S1x1280_S1x128_0_128) (srow bo 128 inb_S1x1280_S1x128_0_128)⟩,
    ⟨Rect.unit ![0, 0] S256x128.size inb_S256x1280_S256x128_0_0, outLo (wblk i w 0) c s (srow so 0 inb_S1x1280_S1x128_0_0) (srow bo 0 inb_S1x1280_S1x128_0_0)⟩]
/-- 128 columns of the state, from column `o`; their codes and their scale. -/
abbrev hseg (x : Vec F S2x6912 .f32) (o : ℕ) (inb : ∀ a, (![0, o] : Fin 2 → ℕ) a + S2x128.size a ≤ S2x6912.size a) : Vec F S2x128 .f32 :=
  Cert.Proof.win x ![0, o] S2x128.size inb
def hcode (v : Vec F S2x128 .f32) : Vec F S2x128 .fp8e4m3 :=
  k0_pay14 v (k0_pay5 v) (k0_pay7 v) (k0_pay8 v) k0_pay9 k0_pay10 k0_pay11
def hscl (v : Vec F S2x128 .f32) : Vec F S2x1 .f32 :=
  k0_pay13 (k0_pay5 v) (k0_pay7 v) (k0_pay8 v) k0_pay9 k0_pay10 k0_pay11
/-- What the first point stores of the state's codes, and of their scales. -/
def hcL (x : Vec F S2x6912 .f32) : List (View.Piece (Elt F) S2x6912 .fp8e4m3) :=
  [⟨Rect.unit ![0, 6784] S2x128.size inb_S2x6912_S2x128_0_6784, hcode (hseg x 6784 inb_S2x6912_S2x128_0_6784)⟩,
    ⟨Rect.unit ![0, 6656] S2x128.size inb_S2x6912_S2x128_0_6656, hcode (hseg x 6656 inb_S2x6912_S2x128_0_6656)⟩,
    ⟨Rect.unit ![0, 6528] S2x128.size inb_S2x6912_S2x128_0_6528, hcode (hseg x 6528 inb_S2x6912_S2x128_0_6528)⟩,
    ⟨Rect.unit ![0, 6400] S2x128.size inb_S2x6912_S2x128_0_6400, hcode (hseg x 6400 inb_S2x6912_S2x128_0_6400)⟩,
    ⟨Rect.unit ![0, 6272] S2x128.size inb_S2x6912_S2x128_0_6272, hcode (hseg x 6272 inb_S2x6912_S2x128_0_6272)⟩,
    ⟨Rect.unit ![0, 6144] S2x128.size inb_S2x6912_S2x128_0_6144, hcode (hseg x 6144 inb_S2x6912_S2x128_0_6144)⟩,
    ⟨Rect.unit ![0, 6016] S2x128.size inb_S2x6912_S2x128_0_6016, hcode (hseg x 6016 inb_S2x6912_S2x128_0_6016)⟩,
    ⟨Rect.unit ![0, 5888] S2x128.size inb_S2x6912_S2x128_0_5888, hcode (hseg x 5888 inb_S2x6912_S2x128_0_5888)⟩,
    ⟨Rect.unit ![0, 5760] S2x128.size inb_S2x6912_S2x128_0_5760, hcode (hseg x 5760 inb_S2x6912_S2x128_0_5760)⟩,
    ⟨Rect.unit ![0, 5632] S2x128.size inb_S2x6912_S2x128_0_5632, hcode (hseg x 5632 inb_S2x6912_S2x128_0_5632)⟩,
    ⟨Rect.unit ![0, 5504] S2x128.size inb_S2x6912_S2x128_0_5504, hcode (hseg x 5504 inb_S2x6912_S2x128_0_5504)⟩,
    ⟨Rect.unit ![0, 5376] S2x128.size inb_S2x6912_S2x128_0_5376, hcode (hseg x 5376 inb_S2x6912_S2x128_0_5376)⟩,
    ⟨Rect.unit ![0, 5248] S2x128.size inb_S2x6912_S2x128_0_5248, hcode (hseg x 5248 inb_S2x6912_S2x128_0_5248)⟩,
    ⟨Rect.unit ![0, 5120] S2x128.size inb_S2x6912_S2x128_0_5120, hcode (hseg x 5120 inb_S2x6912_S2x128_0_5120)⟩,
    ⟨Rect.unit ![0, 4992] S2x128.size inb_S2x6912_S2x128_0_4992, hcode (hseg x 4992 inb_S2x6912_S2x128_0_4992)⟩,
    ⟨Rect.unit ![0, 4864] S2x128.size inb_S2x6912_S2x128_0_4864, hcode (hseg x 4864 inb_S2x6912_S2x128_0_4864)⟩,
    ⟨Rect.unit ![0, 4736] S2x128.size inb_S2x6912_S2x128_0_4736, hcode (hseg x 4736 inb_S2x6912_S2x128_0_4736)⟩,
    ⟨Rect.unit ![0, 4608] S2x128.size inb_S2x6912_S2x128_0_4608, hcode (hseg x 4608 inb_S2x6912_S2x128_0_4608)⟩,
    ⟨Rect.unit ![0, 4480] S2x128.size inb_S2x6912_S2x128_0_4480, hcode (hseg x 4480 inb_S2x6912_S2x128_0_4480)⟩,
    ⟨Rect.unit ![0, 4352] S2x128.size inb_S2x6912_S2x128_0_4352, hcode (hseg x 4352 inb_S2x6912_S2x128_0_4352)⟩,
    ⟨Rect.unit ![0, 4224] S2x128.size inb_S2x6912_S2x128_0_4224, hcode (hseg x 4224 inb_S2x6912_S2x128_0_4224)⟩,
    ⟨Rect.unit ![0, 4096] S2x128.size inb_S2x6912_S2x128_0_4096, hcode (hseg x 4096 inb_S2x6912_S2x128_0_4096)⟩,
    ⟨Rect.unit ![0, 3968] S2x128.size inb_S2x6912_S2x128_0_3968, hcode (hseg x 3968 inb_S2x6912_S2x128_0_3968)⟩,
    ⟨Rect.unit ![0, 3840] S2x128.size inb_S2x6912_S2x128_0_3840, hcode (hseg x 3840 inb_S2x6912_S2x128_0_3840)⟩,
    ⟨Rect.unit ![0, 3712] S2x128.size inb_S2x6912_S2x128_0_3712, hcode (hseg x 3712 inb_S2x6912_S2x128_0_3712)⟩,
    ⟨Rect.unit ![0, 3584] S2x128.size inb_S2x6912_S2x128_0_3584, hcode (hseg x 3584 inb_S2x6912_S2x128_0_3584)⟩,
    ⟨Rect.unit ![0, 3456] S2x128.size inb_S2x6912_S2x128_0_3456, hcode (hseg x 3456 inb_S2x6912_S2x128_0_3456)⟩,
    ⟨Rect.unit ![0, 3328] S2x128.size inb_S2x6912_S2x128_0_3328, hcode (hseg x 3328 inb_S2x6912_S2x128_0_3328)⟩,
    ⟨Rect.unit ![0, 3200] S2x128.size inb_S2x6912_S2x128_0_3200, hcode (hseg x 3200 inb_S2x6912_S2x128_0_3200)⟩,
    ⟨Rect.unit ![0, 3072] S2x128.size inb_S2x6912_S2x128_0_3072, hcode (hseg x 3072 inb_S2x6912_S2x128_0_3072)⟩,
    ⟨Rect.unit ![0, 2944] S2x128.size inb_S2x6912_S2x128_0_2944, hcode (hseg x 2944 inb_S2x6912_S2x128_0_2944)⟩,
    ⟨Rect.unit ![0, 2816] S2x128.size inb_S2x6912_S2x128_0_2816, hcode (hseg x 2816 inb_S2x6912_S2x128_0_2816)⟩,
    ⟨Rect.unit ![0, 2688] S2x128.size inb_S2x6912_S2x128_0_2688, hcode (hseg x 2688 inb_S2x6912_S2x128_0_2688)⟩,
    ⟨Rect.unit ![0, 2560] S2x128.size inb_S2x6912_S2x128_0_2560, hcode (hseg x 2560 inb_S2x6912_S2x128_0_2560)⟩,
    ⟨Rect.unit ![0, 2432] S2x128.size inb_S2x6912_S2x128_0_2432, hcode (hseg x 2432 inb_S2x6912_S2x128_0_2432)⟩,
    ⟨Rect.unit ![0, 2304] S2x128.size inb_S2x6912_S2x128_0_2304, hcode (hseg x 2304 inb_S2x6912_S2x128_0_2304)⟩,
    ⟨Rect.unit ![0, 2176] S2x128.size inb_S2x6912_S2x128_0_2176, hcode (hseg x 2176 inb_S2x6912_S2x128_0_2176)⟩,
    ⟨Rect.unit ![0, 2048] S2x128.size inb_S2x6912_S2x128_0_2048, hcode (hseg x 2048 inb_S2x6912_S2x128_0_2048)⟩,
    ⟨Rect.unit ![0, 1920] S2x128.size inb_S2x6912_S2x128_0_1920, hcode (hseg x 1920 inb_S2x6912_S2x128_0_1920)⟩,
    ⟨Rect.unit ![0, 1792] S2x128.size inb_S2x6912_S2x128_0_1792, hcode (hseg x 1792 inb_S2x6912_S2x128_0_1792)⟩,
    ⟨Rect.unit ![0, 1664] S2x128.size inb_S2x6912_S2x128_0_1664, hcode (hseg x 1664 inb_S2x6912_S2x128_0_1664)⟩,
    ⟨Rect.unit ![0, 1536] S2x128.size inb_S2x6912_S2x128_0_1536, hcode (hseg x 1536 inb_S2x6912_S2x128_0_1536)⟩,
    ⟨Rect.unit ![0, 1408] S2x128.size inb_S2x6912_S2x128_0_1408, hcode (hseg x 1408 inb_S2x6912_S2x128_0_1408)⟩,
    ⟨Rect.unit ![0, 1280] S2x128.size inb_S2x6912_S2x128_0_1280, hcode (hseg x 1280 inb_S2x6912_S2x128_0_1280)⟩,
    ⟨Rect.unit ![0, 1152] S2x128.size inb_S2x6912_S2x128_0_1152, hcode (hseg x 1152 inb_S2x6912_S2x128_0_1152)⟩,
    ⟨Rect.unit ![0, 1024] S2x128.size inb_S2x6912_S2x128_0_1024, hcode (hseg x 1024 inb_S2x6912_S2x128_0_1024)⟩,
    ⟨Rect.unit ![0, 896] S2x128.size inb_S2x6912_S2x128_0_896, hcode (hseg x 896 inb_S2x6912_S2x128_0_896)⟩,
    ⟨Rect.unit ![0, 768] S2x128.size inb_S2x6912_S2x128_0_768, hcode (hseg x 768 inb_S2x6912_S2x128_0_768)⟩,
    ⟨Rect.unit ![0, 640] S2x128.size inb_S2x6912_S2x128_0_640, hcode (hseg x 640 inb_S2x6912_S2x128_0_640)⟩,
    ⟨Rect.unit ![0, 512] S2x128.size inb_S2x6912_S2x128_0_512, hcode (hseg x 512 inb_S2x6912_S2x128_0_512)⟩,
    ⟨Rect.unit ![0, 384] S2x128.size inb_S2x6912_S2x128_0_384, hcode (hseg x 384 inb_S2x6912_S2x128_0_384)⟩,
    ⟨Rect.unit ![0, 256] S2x128.size inb_S2x6912_S2x128_0_256, hcode (hseg x 256 inb_S2x6912_S2x128_0_256)⟩,
    ⟨Rect.unit ![0, 128] S2x128.size inb_S2x6912_S2x128_0_128, hcode (hseg x 128 inb_S2x6912_S2x128_0_128)⟩,
    ⟨Rect.unit ![0, 0] S2x128.size inb_S2x6912_S2x128_0_0, hcode (hseg x 0 inb_S2x6912_S2x128_0_0)⟩]
def hscB (x : Vec F S2x6912 .f32) : Vec F S2x54 .f32 :=
  k0_pay447 (hscl (hseg x 0 inb_S2x6912_S2x128_0_0))
    (hscl (hseg x 128 inb_S2x6912_S2x128_0_128))
    (hscl (hseg x 256 inb_S2x6912_S2x128_0_256))
    (hscl (hseg x 384 inb_S2x6912_S2x128_0_384))
    (hscl (hseg x 512 inb_S2x6912_S2x128_0_512))
    (hscl (hseg x 640 inb_S2x6912_S2x128_0_640))
    (hscl (hseg x 768 inb_S2x6912_S2x128_0_768))
    (hscl (hseg x 896 inb_S2x6912_S2x128_0_896))
    (hscl (hseg x 1024 inb_S2x6912_S2x128_0_1024))
    (hscl (hseg x 1152 inb_S2x6912_S2x128_0_1152))
    (hscl (hseg x 1280 inb_S2x6912_S2x128_0_1280))
    (hscl (hseg x 1408 inb_S2x6912_S2x128_0_1408))
    (hscl (hseg x 1536 inb_S2x6912_S2x128_0_1536))
    (hscl (hseg x 1664 inb_S2x6912_S2x128_0_1664))
    (hscl (hseg x 1792 inb_S2x6912_S2x128_0_1792))
    (hscl (hseg x 1920 inb_S2x6912_S2x128_0_1920))
    (hscl (hseg x 2048 inb_S2x6912_S2x128_0_2048))
    (hscl (hseg x 2176 inb_S2x6912_S2x128_0_2176))
    (hscl (hseg x 2304 inb_S2x6912_S2x128_0_2304))
    (hscl (hseg x 2432 inb_S2x6912_S2x128_0_2432))
    (hscl (hseg x 2560 inb_S2x6912_S2x128_0_2560))
    (hscl (hseg x 2688 inb_S2x6912_S2x128_0_2688))
    (hscl (hseg x 2816 inb_S2x6912_S2x128_0_2816))
    (hscl (hseg x 2944 inb_S2x6912_S2x128_0_2944))
    (hscl (hseg x 3072 inb_S2x6912_S2x128_0_3072))
    (hscl (hseg x 3200 inb_S2x6912_S2x128_0_3200))
    (hscl (hseg x 3328 inb_S2x6912_S2x128_0_3328))
    (hscl (hseg x 3456 inb_S2x6912_S2x128_0_3456))
    (hscl (hseg x 3584 inb_S2x6912_S2x128_0_3584))
    (hscl (hseg x 3712 inb_S2x6912_S2x128_0_3712))
    (hscl (hseg x 3840 inb_S2x6912_S2x128_0_3840))
    (hscl (hseg x 3968 inb_S2x6912_S2x128_0_3968))
    (hscl (hseg x 4096 inb_S2x6912_S2x128_0_4096))
    (hscl (hseg x 4224 inb_S2x6912_S2x128_0_4224))
    (hscl (hseg x 4352 inb_S2x6912_S2x128_0_4352))
    (hscl (hseg x 4480 inb_S2x6912_S2x128_0_4480))
    (hscl (hseg x 4608 inb_S2x6912_S2x128_0_4608))
    (hscl (hseg x 4736 inb_S2x6912_S2x128_0_4736))
    (hscl (hseg x 4864 inb_S2x6912_S2x128_0_4864))
    (hscl (hseg x 4992 inb_S2x6912_S2x128_0_4992))
    (hscl (hseg x 5120 inb_S2x6912_S2x128_0_5120))
    (hscl (hseg x 5248 inb_S2x6912_S2x128_0_5248))
    (hscl (hseg x 5376 inb_S2x6912_S2x128_0_5376))
    (hscl (hseg x 5504 inb_S2x6912_S2x128_0_5504))
    (hscl (hseg x 5632 inb_S2x6912_S2x128_0_5632))
    (hscl (hseg x 5760 inb_S2x6912_S2x128_0_5760))
    (hscl (hseg x 5888 inb_S2x6912_S2x128_0_5888))
    (hscl (hseg x 6016 inb_S2x6912_S2x128_0_6016))
    (hscl (hseg x 6144 inb_S2x6912_S2x128_0_6144))
    (hscl (hseg x 6272 inb_S2x6912_S2x128_0_6272))
    (hscl (hseg x 6400 inb_S2x6912_S2x128_0_6400))
    (hscl (hseg x 6528 inb_S2x6912_S2x128_0_6528))
    (hscl (hseg x 6656 inb_S2x6912_S2x128_0_6656))
    (hscl (hseg x 6784 inb_S2x6912_S2x128_0_6784))
theorem hcL_cover (x : Vec F S2x6912 .f32) : ∀ y, ∃ p ∈ hcL x, y ∈ p.1.set := View.cover_of_tiledL (hcL x) S2x128.size (by rfl)
/-- What a point stores in the scales' block. -/
def osB (s : Vec F S256x128 .f32) : Vec F S1x2x128 .f32 := k0_pay1 (k0_pay411 s)
theorem oqL_cover (x : Vec F S64x6912 .f32) : ∀ y, ∃ p ∈ oqL x, y ∈ p.1.set := View.cover_of_tiledL (oqL x) S32x6912.size (by rfl)
theorem outL_cover (i : grid0.Coords) (w : Vec F S6912x5120 .i8) (so bo : Vec F S1x1280 .f32) (c : Vec F S256x6912 .bf16) (s : Vec F S256x128 .f32) :
    ∀ y, ∃ p ∈ outL i w so bo c s, y ∈ p.1.set := View.cover_of_tiledL (outL i w so bo c s) S256x128.size (by rfl)

end Cert.KernelIdeal.Gen

end
-- ==== Proof.KernelIdealState.lean ====
/-
  What the two pairs of scratches hold between grid points: one pair is being filled with the codes and scales of the
  current 256 rows, the other holds those of the 256 rows before (zeros at first).
-/
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An index of 32 rows' codes, of 32 rows' lane-spread scales. -/
def ixC (r : ℕ) (hr : r < 32) (l : Fin 6912) : S32x6912.Idx := fun a => match a with | 0 => ⟨r, hr⟩ | 1 => l
def ixS (r : ℕ) (hr : r < 32) (l : Fin 128) : S32x128.Idx := fun a => match a with | 0 => ⟨r, hr⟩ | 1 => l

theorem idx2 {y : Fin 2 → ℕ} {o n w : ℕ} (h : o ≤ y 0) (h' : y 0 < o + n) (hb : y 1 < w) :
    ∀ k : Fin 2, (![o, 0] : Fin 2 → ℕ) k ≤ y k ∧ y k < (![o, 0] : Fin 2 → ℕ) k + (![n, w] : Fin 2 → ℕ) k := by
  intro k
  match k with
  | 0 => exact ⟨h, h'⟩
  | 1 => exact ⟨Nat.zero_le _, show y 1 < 0 + w by omega⟩

/-- The codes of 256 rows given as four blocks of 64. -/
def tileC (X : ℕ → Vec F S64x6912 .f32) : Vec F S256x6912 .bf16 := fun y =>
  codesB (if (y 0).val % 64 < 32 then half0 (X ((y 0).val / 64)) else half1 (X ((y 0).val / 64)))
    (ixC ((y 0).val % 32) (Nat.mod_lt _ (by decide)) (y 1))
/-- The first `k` blocks of a scratch hold their codes. -/
def DoneC (e : Vec F S256x6912 .bf16) (X : ℕ → Vec F S64x6912 .f32) (k : ℕ) : Prop := ∀ y : S256x6912.Idx, (y 0).val < 64 * k → e y = tileC X y
theorem DoneC.all {e : Vec F S256x6912 .bf16} {X : ℕ → Vec F S64x6912 .f32} (h : DoneC e X 4) : e = tileC X :=
  funext fun y => h y (show (y 0).val < 256 from (y 0).isLt)
theorem DoneC.put {i : grid0.Coords} {e : Vec F S256x6912 .bf16} {X : ℕ → Vec F S64x6912 .f32} {q : ℕ} (hq : qrow i = 64 * q)
    (h : DoneC e X q) : DoneC (putC i e (X q)) X (q + 1) := by
  intro y hy
  unfold putC
  rw [hq]
  have h1 : (y 1).val < 6912 := (y 1).isLt
  by_cases hb : 64 * q + 32 ≤ (y 0).val
  · rw [Cert.Proof.put_in _ _ _ _ (idx2 (y := fun k => (y k).val) hb (by omega) h1)]
    unfold tileC
    rw [show (y 0).val / 64 = q by omega, if_neg (by omega)]
    refine congrArg (codesB (half1 (X q))) (funext fun a => Fin.ext ?_)
    match a with
    | 0 => exact (show (y 0).val - (64 * q + 32) = (y 0).val % 32 by omega)
    | 1 => exact (show (y 1).val - 0 = (y 1).val from Nat.sub_zero _)
  · rw [Cert.Proof.put_out _ _ _ _ (fun hh => hb (hh 0).1)]
    by_cases ha : 64 * q ≤ (y 0).val
    · rw [Cert.Proof.put_in _ _ _ _ (idx2 (y := fun k => (y k).val) ha (by omega) h1)]
      unfold tileC
      rw [show (y 0).val / 64 = q by omega, if_pos (by omega)]
      refine congrArg (codesB (half0 (X q))) (funext fun a => Fin.ext ?_)
      match a with
      | 0 => exact (show (y 0).val - 64 * q = (y 0).val % 32 by omega)
      | 1 => exact (show (y 1).val - 0 = (y 1).val from Nat.sub_zero _)
    · rw [Cert.Proof.put_out _ _ _ _ (fun hh => ha (hh 0).1)]
      exact h y (by omega)

/-- The lane-spread scales of 256 rows given as four blocks of 64. -/
def tileS (X : ℕ → Vec F S64x6912 .f32) : Vec F S256x128 .f32 := fun y =>
  lanes (if (y 0).val % 64 < 32 then half0 (X ((y 0).val / 64)) else half1 (X ((y 0).val / 64)))
    (ixS ((y 0).val % 32) (Nat.mod_lt _ (by decide)) (y 1))
/-- The first `k` blocks of a scratch hold their lane-spread scales. -/
def DoneS (e : Vec F S256x128 .f32) (X : ℕ → Vec F S64x6912 .f32) (k : ℕ) : Prop := ∀ y : S256x128.Idx, (y 0).val < 64 * k → e y = tileS X y
theorem DoneS.all {e : Vec F S256x128 .f32} {X : ℕ → Vec F S64x6912 .f32} (h : DoneS e X 4) : e = tileS X :=
  funext fun y => h y (show (y 0).val < 256 from (y 0).isLt)
theorem DoneS.put {i : grid0.Coords} {e : Vec F S256x128 .f32} {X : ℕ → Vec F S64x6912 .f32} {q : ℕ} (hq : qrow i = 64 * q)
    (h : DoneS e X q) : DoneS (putS i e (X q)) X (q + 1) := by
  intro y hy
  unfold putS
  rw [hq]
  have h1 : (y 1).val < 128 := (y 1).isLt
  by_cases hb : 64 * q + 32 ≤ (y 0).val
  · rw [Cert.Proof.put_in _ _ _ _ (idx2 (y := fun k => (y k).val) hb (by omega) h1)]
    unfold tileS
    rw [show (y 0).val / 64 = q by omega, if_neg (by omega)]
    refine congrArg (lanes (half1 (X q))) (funext fun a => Fin.ext ?_)
    match a with
    | 0 => exact (show (y 0).val - (64 * q + 32) = (y 0).val % 32 by omega)
    | 1 => exact (show (y 1).val - 0 = (y 1).val from Nat.sub_zero _)
  · rw [Cert.Proof.put_out _ _ _ _ (fun hh => hb (hh 0).1)]
    by_cases ha : 64 * q ≤ (y 0).val
    · rw [Cert.Proof.put_in _ _ _ _ (idx2 (y := fun k => (y k).val) ha (by omega) h1)]
      unfold tileS
      rw [show (y 0).val / 64 = q by omega, if_pos (by omega)]
      refine congrArg (lanes (half0 (X q))) (funext fun a => Fin.ext ?_)
      match a with
      | 0 => exact (show (y 0).val - 64 * q = (y 0).val % 32 by omega)
      | 1 => exact (show (y 1).val - 0 = (y 1).val from Nat.sub_zero _)
    · rw [Cert.Proof.put_out _ _ _ _ (fun hh => ha (hh 0).1)]
      exact h y (by omega)

variable (m : (ℓ : Loc nD τ sig) → Buf (Elt F) ℓ)

/-- Grid point `n` (the last one past the end). -/
def pnt (n : ℕ) : Fin cfg0.N := ⟨min n 131, lt_of_le_of_lt (Nat.min_le_right _ _) (by rw [show cfg0.N = 132 from N_0]; decide)⟩
theorem pnt_val {n : ℕ} (h : n < 132) : (pnt n).val = n := Nat.min_eq_left (by omega)
theorem pnt_self (t : Fin cfg0.N) : pnt t.val = t := Fin.ext (pnt_val (lt_of_lt_of_eq t.isLt N_0))

/-- The four activation blocks of tile `u`. -/
def xblk (c : Dev nD) (u k : ℕ) : Vec F S64x6912 .f32 := iblk m c 0 (pnt (4 * u + k))
theorem xblk_point (c : Dev nD) (n : ℕ) : xblk m c (n / 4) (n % 4) = iblk m c 0 (pnt n) := by
  unfold xblk; rw [show 4 * (n / 4) + n % 4 = n by omega]

/-- What the pair of scratches multiplied from at point `n` holds. -/
def cOld (c : Dev nD) (n : ℕ) : Vec F S256x6912 .bf16 := if n / 4 = 0 then k0_pay3 else tileC (xblk m c (n / 4 - 1))
def sOld (c : Dev nD) (n : ℕ) : Vec F S256x128 .f32 := if n / 4 = 0 then k0_pay4 else tileS (xblk m c (n / 4 - 1))

/-- After point `n`: the first pair filled as far as the point says, the second complete. -/
structure Half (c : Dev nD) (n : ℕ) (cn : Vec F S256x6912 .bf16) (sn : Vec F S256x128 .f32) (co : Vec F S256x6912 .bf16) (so : Vec F S256x128 .f32) : Prop where
  newC : DoneC cn (xblk m c (n / 4)) (n % 4 + 1)
  newS : DoneS sn (xblk m c (n / 4)) (n % 4 + 1)
  oldC : co = cOld m c n
  oldS : so = sOld m c n

/-- After point `n`: at an even tile the first pair is being filled, at an odd one the second. -/
def Inv (c : Dev nD) (n : ℕ) (e0 e1 : Vec F S256x6912 .bf16) (e2 e3 : Vec F S256x128 .f32) : Prop :=
  if n / 4 % 2 = 0 then Half m c n e0 e2 e1 e3 else Half m c n e1 e3 e0 e2

/-- The next point of the same tile. -/
theorem Half.next {c : Dev nD} {n : ℕ} {cn co : Vec F S256x6912 .bf16} {sn so : Vec F S256x128 .f32} (h : Half m c n cn sn co so)
    (hs : (n + 1) / 4 = n / 4) {i : grid0.Coords} (hi : qrow i = 64 * ((n + 1) % 4)) :
    Half m c (n + 1) (putC i cn (iblk m c 0 (pnt (n + 1)))) (putS i sn (iblk m c 0 (pnt (n + 1)))) co so where
  newC := by
    rw [← xblk_point, hs]
    refine DoneC.put hi ?_
    have := h.newC
    rwa [show n % 4 + 1 = (n + 1) % 4 by omega] at this
  newS := by
    rw [← xblk_point, hs]
    refine DoneS.put hi ?_
    have := h.newS
    rwa [show n % 4 + 1 = (n + 1) % 4 by omega] at this
  oldC := by rw [h.oldC]; unfold cOld; rw [hs]
  oldS := by rw [h.oldS]; unfold sOld; rw [hs]

/-- The first point of the next tile: the pairs change places. -/
theorem Half.swap {c : Dev nD} {n : ℕ} {cn co : Vec F S256x6912 .bf16} {sn so : Vec F S256x128 .f32} (h : Half m c n cn sn co so)
    (hs : ¬ (n + 1) / 4 = n / 4) {i : grid0.Coords} (hi : qrow i = 64 * ((n + 1) % 4)) :
    Half m c (n + 1) (putC i co (iblk m c 0 (pnt (n + 1)))) (putS i so (iblk m c 0 (pnt (n + 1)))) cn sn where
  newC := by
    rw [← xblk_point]
    refine DoneC.put hi ?_
    rw [show (n + 1) % 4 = 0 by omega]
    exact fun y hy => absurd hy (by omega)
  newS := by
    rw [← xblk_point]
    refine DoneS.put hi ?_
    rw [show (n + 1) % 4 = 0 by omega]
    exact fun y hy => absurd hy (by omega)
  oldC := by
    have := h.newC
    rw [show n % 4 + 1 = 4 by omega] at this
    rw [this.all]; unfold cOld; rw [if_neg (by omega), show (n + 1) / 4 - 1 = n / 4 by omega]
  oldS := by
    have := h.newS
    rw [show n % 4 + 1 = 4 by omega] at this
    rw [this.all]; unfold sOld; rw [if_neg (by omega), show (n + 1) / 4 - 1 = n / 4 by omega]

theorem Inv.zero (c : Dev nD) {i : grid0.Coords} (hi : qrow i = 0) (e0 : Vec F S256x6912 .bf16) (e2 : Vec F S256x128 .f32) :
    Inv m c 0 (putC i e0 (iblk m c 0 (pnt 0))) k0_pay3 (putS i e2 (iblk m c 0 (pnt 0))) k0_pay4 := by
  unfold Inv
  rw [if_pos rfl, ← xblk_point]
  have hc : cOld m c 0 = k0_pay3 := by unfold cOld; exact if_pos rfl
  have hs : sOld m c 0 = k0_pay4 := by unfold sOld; exact if_pos rfl
  exact ⟨DoneC.put (X := xblk m c (0 / 4)) (q := 0 % 4) hi fun y hy => absurd hy (by omega),
    DoneS.put (X := xblk m c (0 / 4)) (q := 0 % 4) hi fun y hy => absurd hy (by omega), hc.symm, hs.symm⟩

/-- A later point of an even tile: what it leaves, and what it multiplies from. -/
theorem Inv.even {c : Dev nD} {n : ℕ} {e0 e1 : Vec F S256x6912 .bf16} {e2 e3 : Vec F S256x128 .f32} (h : Inv m c n e0 e1 e2 e3)
    (hp : (n + 1) / 4 % 2 = 0) {i : grid0.Coords} (hi : qrow i = 64 * ((n + 1) % 4)) :
    Half m c (n + 1) (putC i e0 (iblk m c 0 (pnt (n + 1)))) (putS i e2 (iblk m c 0 (pnt (n + 1)))) e1 e3 := by
  unfold Inv at h
  by_cases hs : (n + 1) / 4 = n / 4
  · rw [if_pos (by omega)] at h; exact h.next m hs hi
  · rw [if_neg (by omega)] at h; exact h.swap m hs hi
/-- The same at an odd tile. -/
theorem Inv.odd {c : Dev nD} {n : ℕ} {e0 e1 : Vec F S256x6912 .bf16} {e2 e3 : Vec F S256x128 .f32} (h : Inv m c n e0 e1 e2 e3)
    (hp : ¬ (n + 1) / 4 % 2 = 0) {i : grid0.Coords} (hi : qrow i = 64 * ((n + 1) % 4)) :
    Half m c (n + 1) (putC i e1 (iblk m c 0 (pnt (n + 1)))) (putS i e3 (iblk m c 0 (pnt (n + 1)))) e0 e2 := by
  unfold Inv at h
  by_cases hs : (n + 1) / 4 = n / 4
  · rw [if_neg (by omega)] at h; exact h.next m hs hi
  · rw [if_pos (by omega)] at h; exact h.swap m hs hi

end Cert.KernelIdeal.Gen

end
-- ==== Proof.Rows.lean ====
/-
  THE ROW QUANTISER AT AN INDEX, for any number of rows: the greatest magnitude of a row, the scale made of it, and the
  rounded and clipped codes, read off the vector operations that the kernel (32 rows at a time) and the reference (all
  rows at once) both spell.
-/
module
public import Idealize.ShloMosaic.Lib.Pointwise
public import Idealize.ShloMosaic.Lib.ValueLayoutCasts
@[expose] public section
set_option maxRecDepth 16384
noncomputable section
namespace Cert.Proof
open Idealize.ShloMosaic

/-- The greatest magnitude of a row. -/
def rmax {w : Nat} (f : Fin w → EReal) : EReal :=
  Finset.univ.fold max (Ideal.ofBits FTy.f32 0xFF800000#32) fun k => FloatOps.absf (F := Ideal) (φ := .f32) (f k)

/-- The scale of a row: its greatest magnitude over 127, one for a row of zeros. -/
def rscale {w : Nat} (f : Fin w → EReal) : EReal :=
  if rmax f = 0 then 1 else Ideal.div (rmax f) (Ideal.ofBits FTy.f32 0x42FE0000#32)

/-- A row's code at a column, before its cast. -/
def rcode {w : Nat} (f : Fin w → EReal) (k : Fin w) : EReal :=
  min (Ideal.ofBits FTy.f32 0x42FE0000#32) (max (Ideal.ofBits FTy.f32 0xC2FE0000#32)
    (Ideal.liftRound Ideal.roundHalfEven (Ideal.div (f k) (rscale f))))

section
variable {n w : Nat} (v : FVec Ideal ⟨2, ![n, w]⟩ .f32)
  (h1 : (⟨2, ![n, w]⟩ : Shape).Reduces [1] ⟨1, ![n]⟩) (h2 : (⟨1, ![n]⟩ : Shape).ShapeCasts ⟨2, ![n, 1]⟩)
  (h3 : (⟨2, ![n, 1]⟩ : Shape).Broadcasts ⟨2, ![n, w]⟩)

/-- The column of row scales as the programs spell it. -/
def scaleV : FVec Ideal ⟨2, ![n, 1]⟩ .f32 :=
  have v1 : FVec Ideal ⟨2, ![n, w]⟩ .f32 := absf v
  have v2 : FVec Ideal ⟨1, ![n]⟩ .f32 := multiReduction .maximumf [1] ⟨1, ![n]⟩ v1 0xFF800000#32 h1 (.inl rfl) rfl
  have v3 : FVec Ideal ⟨2, ![n, 1]⟩ .f32 := shapeCast ⟨2, ![n, 1]⟩ v2 h2
  have cst_1 : Ideal .f32 := Scalar.ofBits .f32 0x00000000#32
  have v4 : FVec Ideal ⟨2, ![n, 1]⟩ .f32 := broadcast ⟨2, ![n, 1]⟩ cst_1
  have v5 : IVec ⟨2, ![n, 1]⟩ 1 := cmpf .oeq v3 v4
  have cst_2 : Ideal .f32 := Scalar.ofBits .f32 0x42FE0000#32
  have v6 : FVec Ideal ⟨2, ![n, 1]⟩ .f32 := broadcast ⟨2, ![n, 1]⟩ cst_2
  have v7 : FVec Ideal ⟨2, ![n, 1]⟩ .f32 := divf v3 v6
  have cst_3 : Ideal .f32 := Scalar.ofBits .f32 0x3F800000#32
  have v8 : FVec Ideal ⟨2, ![n, 1]⟩ .f32 := broadcast ⟨2, ![n, 1]⟩ cst_3
  select v5 v8 v7

theorem scaleV_apply (r : Fin n) (l : Fin 1) : scaleV v h1 h2 (ix2 r l) = rscale fun k => v (ix2 r k) := by
  unfold scaleV rscale rmax
  have e : l = 0 := Subsingleton.elim _ _
  subst e
  have hm : shapeCast ⟨2, ![n, 1]⟩ (multiReduction .maximumf [1] ⟨1, ![n]⟩ (absf v) 0xFF800000#32 h1 (.inl rfl) rfl) h2 (ix2 r 0)
      = Finset.univ.fold max (Ideal.ofBits FTy.f32 0xFF800000#32) fun k => FloatOps.absf (F := Ideal) (φ := .f32) (v (ix2 r k)) := by
    refine Eq.trans (b := multiReduction .maximumf [1] ⟨1, ![n]⟩ (absf v) 0xFF800000#32 h1 (.inl rfl) rfl (ix1 r))
      (ValueIdx.shapeCast_a_a1_apply _ h2 r 0) ?_
    pointwise
  simp only [select, cmpf, divf, broadcast, hm]
  pointwise

/-- The codes before their cast, as the programs spell them. -/
def codeV : FVec Ideal ⟨2, ![n, w]⟩ .f32 :=
  have v10 : FVec Ideal ⟨2, ![n, w]⟩ .f32 := broadcastTo ⟨2, ![n, w]⟩ (scaleV v h1 h2) h3
  have v11 : FVec Ideal ⟨2, ![n, w]⟩ .f32 := divf v v10
  have v12 : FVec Ideal ⟨2, ![n, w]⟩ .f32 := roundeven v11
  have cst_4 : Ideal .f32 := Scalar.ofBits .f32 0xC2FE0000#32
  have cst_5 : Ideal .f32 := Scalar.ofBits .f32 0x42FE0000#32
  have v13 : FVec Ideal ⟨2, ![n, w]⟩ .f32 := broadcast ⟨2, ![n, w]⟩ cst_4
  have v14 : FVec Ideal ⟨2, ![n, w]⟩ .f32 := maximumf v13 v12
  have v15 : FVec Ideal ⟨2, ![n, w]⟩ .f32 := broadcast ⟨2, ![n, w]⟩ cst_5
  minimumf v15 v14

theorem codeV_apply (r : Fin n) (l : Fin w) : codeV v h1 h2 h3 (ix2 r l) = rcode (fun k => v (ix2 r k)) l := by
  unfold codeV rcode
  have hb : broadcastTo ⟨2, ![n, w]⟩ (scaleV v h1 h2) h3 (ix2 r l) = rscale fun k => v (ix2 r k) := by
    rw [← scaleV_apply v h1 h2 r 0]
    refine broadcastTo_apply _ h3 (ix2 r l) (ix2 r 0) fun a => ?_
    match a with
    | ⟨0, _⟩ =>
      show r.val = if n = 1 then 0 else r.val
      split
      · have := r.isLt; omega
      · rfl
    | ⟨1, _⟩ => rfl
  pointwise [hb]
end
end Cert.Proof
end
-- ==== Proof.Spec.lean ====
/-
  THE RESULTS AS FUNCTIONS OF THE ARGUMENTS: the codes and scales of the rows of the activation, and the projection of
  the coded rows, entry by entry.
-/
module
public import proofs.«01_k».proof.Proof.Rows
@[expose] public section
set_option maxRecDepth 16384
noncomputable section
namespace Cert.Proof
open Idealize.ShloMosaic

/-- Every entry of the activation coded by its row's scale. -/
def oqSpec (o : (⟨2, ![8192, 6912]⟩ : Shape).Idx → EReal) : (⟨2, ![8192, 6912]⟩ : Shape).Idx → BitVec 8 := fun j =>
  FloatOps.fptosi (F := Ideal) (φ := .f32) 8 (rcode (fun k => o (ix2 (j 0) k)) (j 1))

/-- The row an entry of the dense scales belongs to. -/
def osRow (a : Fin 32) (b : Fin 2) (l : Fin 128) : Fin 8192 := ⟨a.val * 256 + b.val * 128 + l.val, by omega⟩

/-- The rows' scales, 128 to a row. -/
def osSpec (o : (⟨2, ![8192, 6912]⟩ : Shape).Idx → EReal) : (⟨3, ![32, 2, 128]⟩ : Shape).Idx → EReal := fun j =>
  rscale fun k => o (ix2 (osRow (j 0) (j 1) (j 2)) k)

/-- The coded rows times the weight, scaled by row and column, and biased. -/
def outSpec (o : (⟨2, ![8192, 6912]⟩ : Shape).Idx → EReal) (w : (⟨2, ![6912, 5120]⟩ : Shape).Idx → BitVec 8)
    (so bo : (⟨1, ![5120]⟩ : Shape).Idx → EReal) : (⟨2, ![8192, 5120]⟩ : Shape).Idx → EReal := fun j =>
  (∑ x : Fin 6912, rcode (fun k => o (ix2 (j 0) k)) x * FloatOps.sitofp (F := Ideal) .f32 (w (ix2 x (j 1))))
    * rscale (fun k => o (ix2 (j 0) k)) * so (ix1 (j 1)) + bo (ix1 (j 1))
end Cert.Proof
end
-- ==== Proof.KernelRows.lean ====
/-
  The payloads of one grid point read at an index: codes, lane-spread scales, scaled products, dense scales.
-/
module
public import proofs.«01_k».proof.Proof.KernelIdealState
public import proofs.«01_k».proof.Proof.Spec
@[expose] public section
set_option maxRecDepth 16384
noncomputable section
namespace Cert.Proof.Ker
open Idealize.ShloMosaic Cert.KernelIdeal Cert.KernelIdeal.Gen

theorem pay378_apply (v : Vec Ideal S32x6912 .f32) (r : Fin 32) (l : Fin 1) : k0_pay378 v (ix2 r l) = rscale fun k => v (ix2 r k) := by
  have e : k0_pay378 v = scaleV (n := 32) (w := 6912) v reduces_S32x6912_S32 shapeCasts_S32_S32x1 := rfl
  rw [e]; exact scaleV_apply v _ _ r l
theorem pay379_apply (v : Vec Ideal S32x6912 .f32) (r : Fin 32) (l : Fin 6912) : k0_pay379 v (ix2 r l) = rcode (fun k => v (ix2 r k)) l := by
  have e : k0_pay379 v = codeV (n := 32) (w := 6912) v reduces_S32x6912_S32 shapeCasts_S32_S32x1 broadcasts_S32x1_S32x6912 := rfl
  rw [e]; exact codeV_apply v _ _ _ r l

theorem codesI_apply (v : Vec Ideal S32x6912 .f32) (r : Fin 32) (l : Fin 6912) :
    codesI v (ix2 r l) = FloatOps.fptosi (F := Ideal) (φ := .f32) 8 (rcode (fun k => v (ix2 r k)) l) := by
  rw [← pay379_apply]; rfl
theorem codesB_apply (v : Vec Ideal S32x6912 .f32) (r : Fin 32) (l : Fin 6912) : codesB v (ix2 r l) = rcode (fun k => v (ix2 r k)) l := by
  rw [← pay379_apply]
  unfold codesB k0_pay381
  pointwise
theorem lanes_apply (v : Vec Ideal S32x6912 .f32) (r : Fin 32) (l : Fin 128) : lanes v (ix2 r l) = rscale fun k => v (ix2 r k) := by
  rw [← pay378_apply v r 0]
  unfold lanes k0_pay382
  pointwise

theorem outLo_apply (w : Vec Ideal S6912x256 .i8) (c : Vec Ideal S256x6912 .bf16) (s : Vec Ideal S256x128 .f32) (so bo : Vec Ideal S1x128 .f32)
    (r : Fin 256) (l : Fin 128) : outLo w c s so bo (ix2 r l)
      = (∑ x, c (ix2 r x) * FloatOps.sitofp (F := Ideal) .f32 (w (ix2 x ⟨l.val, by omega⟩))) * s (ix2 r l) * so (ix2 0 l) + bo (ix2 0 l) := by
  unfold outLo
  unfold_payloads
  pointwise
theorem outHi_apply (w : Vec Ideal S6912x256 .i8) (c : Vec Ideal S256x6912 .bf16) (s : Vec Ideal S256x128 .f32) (so bo : Vec Ideal S1x128 .f32)
    (r : Fin 256) (l : Fin 128) : outHi w c s so bo (ix2 r l)
      = (∑ x, c (ix2 r x) * FloatOps.sitofp (F := Ideal) .f32 (w (ix2 x ⟨128 + l.val, by omega⟩))) * s (ix2 r l) * so (ix2 0 l) + bo (ix2 0 l) := by
  unfold outHi
  unfold_payloads
  pointwise

theorem diag (f : Fin 128 → EReal) (l : Fin 128) :
    (∑ x : Fin 128, Scalar.select (IntOp.cmpi CmpIPredicate.eq (BitVec.ofNat 32 x.val) (BitVec.ofNat 32 l.val)) (f x) 0) = f l := by
  rw [Finset.sum_eq_single l]
  · simp [Scalar.select, IntOp.cmpi]
  · intro b _ hb
    have hne : (BitVec.ofNat 32 b.val == BitVec.ofNat 32 l.val) = false := beq_eq_false_iff_ne.2 fun h => hb (Fin.ext (by
      have := congrArg BitVec.toNat h
      simp only [BitVec.toNat_ofNat] at this
      omega))
    simp [Scalar.select, IntOp.cmpi, hne]
  · intro h; exact absurd (Finset.mem_univ l) h

theorem osB_apply (s : Vec Ideal S256x128 .f32) (r : Fin 2) (l : Fin 128) :
    osB s (ix3 0 r l) = s (ix2 ⟨128 * r.val + l.val, by omega⟩ l) := by
  unfold osB
  unfold_payloads
  pointwise
  split
  · rename_i h
    refine (diag (fun x => s (ix2 ⟨x.val, by omega⟩ l)) l).trans ?_
    refine congrArg s (congrArg (fun q => ix2 q l) (Fin.ext ?_))
    show l.val = 128 * r.val + l.val
    omega
  · rename_i h
    refine (diag (fun x => s (ix2 ⟨128 + x.val, by omega⟩ l)) l).trans ?_
    refine congrArg s (congrArg (fun q => ix2 q l) (Fin.ext ?_))
    show 128 + l.val = 128 * r.val + l.val
    omega
end Cert.Proof.Ker
end
-- ==== Proof.KernelIdealRunA.lean ====
/-
  The body at the first grid point: the old code scratch is zeroed, the state is coded, one block of rows is coded.
-/
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof

set_option maxHeartbeats 12000000 in
/-- The first point zeroes the second pair of scratches and codes the state. -/
theorem run_A (c : Dev nD) (i : grid0.Coords) (arg1 : Memref sig .tc .vmem S64x6912 .f32) (harg1 : arg1.IsWhole) (arg2 : Memref sig .tc .vmem S2x6912 .f32) (harg2 : arg2.IsWhole) (arg3 : Memref sig .tc .vmem S6912x5120 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S64x6912 .i8) (harg6 : arg6.IsWhole) (arg7 : Memref sig .tc .vmem S1x2x128 .f32) (harg7 : arg7.IsWhole) (arg8 : Memref sig .tc .vmem S256x1280 .bf16) (harg8 : arg8.IsWhole) (arg9 : Memref sig .tc .vmem S2x6912 .fp8e4m3) (harg9 : arg9.IsWhole) (arg10 : Memref sig .tc .vmem S2x54 .f32) (harg10 : arg10.IsWhole) (arg11 : Memref sig .tc .vmem S256x6912 .bf16) (harg11 : arg11.IsWhole) (arg12 : Memref sig .tc .vmem S256x6912 .bf16) (harg12 : arg12.IsWhole) (arg13 : Memref sig .tc .vmem S256x128 .f32) (harg13 : arg13.IsWhole) (arg14 : Memref sig .tc .vmem S256x128 .f32) (harg14 : arg14.IsWhole)
    (hc1 : k0_cond1 i = 1#1) (hc2 : k0_cond2 i = 1#1) (hc3 : ¬ k0_cond3 i = 1#1)
    (x0 : Vec F S64x6912 .f32) (x1 : Vec F S2x6912 .f32) (x2 : Vec F S6912x5120 .i8) (x3 : Vec F S1x1280 .f32) (x4 : Vec F S1x1280 .f32) (e0 : Vec F S256x6912 .bf16) (e2 : Vec F S256x128 .f32) :
    ∀ (E : Set ℕ) (K : PUnit → sProp 𝕄),
      iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (e0) ∗ (∃ d, owns (c : Thread nD τ) arg12 fullShare d) ∗ owns (c : Thread nD τ) arg13 fullShare (e2) ∗ (∃ d, owns (c : Thread nD τ) arg14 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (View.canon (oqL x0)) ∗ owns (c : Thread nD τ) arg7 fullShare (osB (k0_pay4 (F := F))) ∗ owns (c : Thread nD τ) arg8 fullShare (View.canon (outL i x2 x3 x4 (k0_pay3 (F := F)) (k0_pay4 (F := F)))) ∗ owns (c : Thread nD τ) arg9 fullShare (View.canon (hcL x1)) ∗ owns (c : Thread nD τ) arg10 fullShare (hscB x1) ∗ owns (c : Thread nD τ) arg11 fullShare (putC i e0 x0) ∗ owns (c : Thread nD τ) arg12 fullShare ((k0_pay3 (F := F))) ∗ owns (c : Thread nD τ) arg13 fullShare (putS i e2 x0) ∗ owns (c : Thread nD τ) arg14 fullShare ((k0_pay4 (F := F)))) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_out_proj_eq_skeleton]; unfold cc0_out_proj_skel
  simp only [k0_part101_eq_skeleton, k0_part85_eq_skeleton, k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part87_eq_skeleton, k0_part88_eq_skeleton, k0_part89_eq_skeleton, k0_part90_eq_skeleton, k0_part91_eq_skeleton, k0_part92_eq_skeleton, k0_part93_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg11.eq_unread hf11; obtain rfl := harg13.eq_unread hf13
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; rotate_left; · iexact H6
    ipureintro; refine read_canon _ _ (L' := oqL x0) ?_ (oqL_cover x0)
    unfold oqL
    refine congrArg₂ List.cons (congrArg (Sigma.mk _) ?_) (congrArg₂ List.cons (congrArg (Sigma.mk _) ?_) rfl)
    · exact congrArg codesI (readAt_unread_unit harg1 x0 _)
    · exact congrArg codesI (readAt_unread_unit harg1 x0 _)
  isplitl [H7]
  · iexists _; isplitr; rotate_left; · iexact H7
    ipureintro; exact (View.read_writes_full _ _ _ _ _).trans (congrArg osB (View.readCov_full _ _ _ _ _))
  isplitl [H8]
  · iexists _; isplitr; rotate_left; · iexact H8
    ipureintro; refine read_canon _ _ (L' := outL i x2 x3 x4 (k0_pay3 (F := F)) (k0_pay4 (F := F))) ?_ (outL_cover i x2 x3 x4 (k0_pay3 (F := F)) (k0_pay4 (F := F)))
    unfold outL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))
    · exact congr5 outHi (readAt_unread_at harg3 x2 _ (k0_off3_eq i 4) (wcol_inb i 4)) (View.readCov_full _ _ _ _ _) (View.readCov_full _ _ _ _ _) (readAt_unread_unit harg4 x3 _) (readAt_unread_unit harg5 x4 _)
    · exact congr5 outLo (readAt_unread_at harg3 x2 _ (k0_off3_eq i 4) (wcol_inb i 4)) (View.readCov_full _ _ _ _ _) (View.readCov_full _ _ _ _ _) (readAt_unread_unit harg4 x3 _) (readAt_unread_unit harg5 x4 _)
    · exact congr5 outHi (readAt_unread_at harg3 x2 _ (k0_off3_eq i 3) (wcol_inb i 3)) (View.readCov_full _ _ _ _ _) (View.readCov_full _ _ _ _ _) (readAt_unread_unit harg4 x3 _) (readAt_unread_unit harg5 x4 _)
    · exact congr5 outLo (readAt_unread_at harg3 x2 _ (k0_off3_eq i 3) (wcol_inb i 3)) (View.readCov_full _ _ _ _ _) (View.readCov_full _ _ _ _ _) (readAt_unread_unit harg4 x3 _) (readAt_unread_unit harg5 x4 _)
    · exact congr5 outHi (readAt_unread_at harg3 x2 _ (k0_off3_eq i 2) (wcol_inb i 2)) (View.readCov_full _ _ _ _ _) (View.readCov_full _ _ _ _ _) (readAt_unread_unit harg4 x3 _) (readAt_unread_unit harg5 x4 _)
    · exact congr5 outLo (readAt_unread_at harg3 x2 _ (k0_off3_eq i 2) (wcol_inb i 2)) (View.readCov_full _ _ _ _ _) (View.readCov_full _ _ _ _ _) (readAt_unread_unit harg4 x3 _) (readAt_unread_unit harg5 x4 _)
    · exact congr5 outHi (readAt_unread_at harg3 x2 _ (k0_off3_eq i 1) (wcol_inb i 1)) (View.readCov_full _ _ _ _ _) (View.readCov_full _ _ _ _ _) (readAt_unread_unit harg4 x3 _) (readAt_unread_unit harg5 x4 _)
    · exact congr5 outLo (readAt_unread_at harg3 x2 _ (k0_off3_eq i 1) (wcol_inb i 1)) (View.readCov_full _ _ _ _ _) (View.readCov_full _ _ _ _ _) (readAt_unread_unit harg4 x3 _) (readAt_unread_unit harg5 x4 _)
    · exact congr5 outHi (readAt_unread_at harg3 x2 _ (k0_off3_eq i 0) (wcol_inb i 0)) (View.readCov_full _ _ _ _ _) (View.readCov_full _ _ _ _ _) (readAt_unread_unit harg4 x3 _) (readAt_unread_unit harg5 x4 _)
    · exact congr5 outLo (readAt_unread_at harg3 x2 _ (k0_off3_eq i 0) (wcol_inb i 0)) (View.readCov_full _ _ _ _ _) (View.readCov_full _ _ _ _ _) (readAt_unread_unit harg4 x3 _) (readAt_unread_unit harg5 x4 _)
  isplitl [H9]
  · iexists _; isplitr; rotate_left; · iexact H9
    ipureintro; refine read_canon _ _ (L' := hcL x1) ?_ (hcL_cover x1)
    unfold hcL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))))))))))))))))))))))))))))))))))))))))))))))))))))) <;> exact congrArg hcode (readAt_unread_unit harg2 x1 _)
  isplitl [H10]
  · iexists _; isplitr; rotate_left; · iexact H10
    ipureintro; refine (View.read_writes_full _ _ _ _ _).trans ?_
    unfold hscB
    refine congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congrArg k0_pay447 ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_) ?_ <;> exact congrArg hscl (readAt_unread_unit harg2 x1 _)
  isplitl [H11]
  · iexists _; isplitr; rotate_left; · iexact H11
    ipureintro; refine read_two_puts harg11 _ _ _ (k0_off1_0 i) (k0_off1_1 i) ?_ ?_
    · exact congrArg codesB (readAt_unread_unit harg1 x0 _)
    · exact congrArg codesB (readAt_unread_unit harg1 x0 _)
  isplitl [H12]
  · iexists _; isplitr; rotate_left; · iexact H12
    ipureintro; exact View.read_writes_full _ _ _ _ _
  isplitl [H13]
  · iexists _; isplitr; rotate_left; · iexact H13
    ipureintro; refine read_two_puts harg13 _ _ _ (k0_off2_0 i) (k0_off2_1 i) ?_ ?_
    · exact congrArg lanes (readAt_unread_unit harg1 x0 _)
    · exact congrArg lanes (readAt_unread_unit harg1 x0 _)
  · iexists _; isplitr; rotate_left; · iexact H14
    ipureintro; exact View.read_writes_full _ _ _ _ _

end Cert.KernelIdeal.Gen

end
-- ==== Proof.KernelIdealRunB.lean ====
/-
  The body at a grid point of an even tile, the first point apart.
-/
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof

set_option maxHeartbeats 12000000 in
/-- A point of an even tile fills the first pair of scratches and multiplies from the second. -/
theorem run_B (c : Dev nD) (i : grid0.Coords) (arg1 : Memref sig .tc .vmem S64x6912 .f32) (harg1 : arg1.IsWhole) (arg2 : Memref sig .tc .vmem S2x6912 .f32) (harg2 : arg2.IsWhole) (arg3 : Memref sig .tc .vmem S6912x5120 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S64x6912 .i8) (harg6 : arg6.IsWhole) (arg7 : Memref sig .tc .vmem S1x2x128 .f32) (harg7 : arg7.IsWhole) (arg8 : Memref sig .tc .vmem S256x1280 .bf16) (harg8 : arg8.IsWhole) (arg9 : Memref sig .tc .vmem S2x6912 .fp8e4m3) (harg9 : arg9.IsWhole) (arg10 : Memref sig .tc .vmem S2x54 .f32) (harg10 : arg10.IsWhole) (arg11 : Memref sig .tc .vmem S256x6912 .bf16) (harg11 : arg11.IsWhole) (arg12 : Memref sig .tc .vmem S256x6912 .bf16) (harg12 : arg12.IsWhole) (arg13 : Memref sig .tc .vmem S256x128 .f32) (harg13 : arg13.IsWhole) (arg14 : Memref sig .tc .vmem S256x128 .f32) (harg14 : arg14.IsWhole)
    (hc1 : ¬ k0_cond1 i = 1#1) (hc2 : k0_cond2 i = 1#1) (hc3 : ¬ k0_cond3 i = 1#1)
    (x0 : Vec F S64x6912 .f32) (x1 : Vec F S2x6912 .f32) (x2 : Vec F S6912x5120 .i8) (x3 : Vec F S1x1280 .f32) (x4 : Vec F S1x1280 .f32) (h8 : Vec F S2x6912 .fp8e4m3) (h9 : Vec F S2x54 .f32) (e0 e1 : Vec F S256x6912 .bf16) (e2 e3 : Vec F S256x128 .f32) :
    ∀ (E : Set ℕ) (K : PUnit → sProp 𝕄),
      iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (h8) ∗ owns (c : Thread nD τ) arg10 fullShare (h9) ∗ owns (c : Thread nD τ) arg11 fullShare (e0) ∗ owns (c : Thread nD τ) arg12 fullShare (e1) ∗ owns (c : Thread nD τ) arg13 fullShare (e2) ∗ owns (c : Thread nD τ) arg14 fullShare (e3)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (View.canon (oqL x0)) ∗ owns (c : Thread nD τ) arg7 fullShare (osB e3) ∗ owns (c : Thread nD τ) arg8 fullShare (View.canon (outL i x2 x3 x4 e1 e3)) ∗ owns (c : Thread nD τ) arg9 fullShare (h8) ∗ owns (c : Thread nD τ) arg10 fullShare (h9) ∗ owns (c : Thread nD τ) arg11 fullShare (putC i e0 x0) ∗ owns (c : Thread nD τ) arg12 fullShare (e1) ∗ owns (c : Thread nD τ) arg13 fullShare (putS i e2 x0) ∗ owns (c : Thread nD τ) arg14 fullShare (e3)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_out_proj_eq_skeleton]; unfold cc0_out_proj_skel
  simp only [k0_part101_eq_skeleton, k0_part87_eq_skeleton, k0_part88_eq_skeleton, k0_part89_eq_skeleton, k0_part90_eq_skeleton, k0_part91_eq_skeleton, k0_part92_eq_skeleton, k0_part93_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; rotate_left; · iexact H6
    ipureintro; refine read_canon _ _ (L' := oqL x0) ?_ (oqL_cover x0)
    unfold oqL
    refine congrArg₂ List.cons (congrArg (Sigma.mk _) ?_) (congrArg₂ List.cons (congrArg (Sigma.mk _) ?_) rfl)
    · exact congrArg codesI (readAt_unread_unit harg1 x0 _)
    · exact congrArg codesI (readAt_unread_unit harg1 x0 _)
  isplitl [H7]
  · iexists _; isplitr; rotate_left; · iexact H7
    ipureintro; exact (View.read_writes_full _ _ _ _ _).trans (congrArg osB (readAt_unread_full harg14 e3 _))
  isplitl [H8]
  · iexists _; isplitr; rotate_left; · iexact H8
    ipureintro; refine read_canon _ _ (L' := outL i x2 x3 x4 e1 e3) ?_ (outL_cover i x2 x3 x4 e1 e3)
    unfold outL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))
    · exact congr5 outHi (readAt_unread_at harg3 x2 _ (k0_off3_eq i 4) (wcol_inb i 4)) (readAt_unread_full harg12 e1 _) (readAt_unread_full harg14 e3 _) (readAt_unread_unit harg4 x3 _) (readAt_unread_unit harg5 x4 _)
    · exact congr5 outLo (readAt_unread_at harg3 x2 _ (k0_off3_eq i 4) (wcol_inb i 4)) (readAt_unread_full harg12 e1 _) (readAt_unread_full harg14 e3 _) (readAt_unread_unit harg4 x3 _) (readAt_unread_unit harg5 x4 _)
    · exact congr5 outHi (readAt_unread_at harg3 x2 _ (k0_off3_eq i 3) (wcol_inb i 3)) (readAt_unread_full harg12 e1 _) (readAt_unread_full harg14 e3 _) (readAt_unread_unit harg4 x3 _) (readAt_unread_unit harg5 x4 _)
    · exact congr5 outLo (readAt_unread_at harg3 x2 _ (k0_off3_eq i 3) (wcol_inb i 3)) (readAt_unread_full harg12 e1 _) (readAt_unread_full harg14 e3 _) (readAt_unread_unit harg4 x3 _) (readAt_unread_unit harg5 x4 _)
    · exact congr5 outHi (readAt_unread_at harg3 x2 _ (k0_off3_eq i 2) (wcol_inb i 2)) (readAt_unread_full harg12 e1 _) (readAt_unread_full harg14 e3 _) (readAt_unread_unit harg4 x3 _) (readAt_unread_unit harg5 x4 _)
    · exact congr5 outLo (readAt_unread_at harg3 x2 _ (k0_off3_eq i 2) (wcol_inb i 2)) (readAt_unread_full harg12 e1 _) (readAt_unread_full harg14 e3 _) (readAt_unread_unit harg4 x3 _) (readAt_unread_unit harg5 x4 _)
    · exact congr5 outHi (readAt_unread_at harg3 x2 _ (k0_off3_eq i 1) (wcol_inb i 1)) (readAt_unread_full harg12 e1 _) (readAt_unread_full harg14 e3 _) (readAt_unread_unit harg4 x3 _) (readAt_unread_unit harg5 x4 _)
    · exact congr5 outLo (readAt_unread_at harg3 x2 _ (k0_off3_eq i 1) (wcol_inb i 1)) (readAt_unread_full harg12 e1 _) (readAt_unread_full harg14 e3 _) (readAt_unread_unit harg4 x3 _) (readAt_unread_unit harg5 x4 _)
    · exact congr5 outHi (readAt_unread_at harg3 x2 _ (k0_off3_eq i 0) (wcol_inb i 0)) (readAt_unread_full harg12 e1 _) (readAt_unread_full harg14 e3 _) (readAt_unread_unit harg4 x3 _) (readAt_unread_unit harg5 x4 _)
    · exact congr5 outLo (readAt_unread_at harg3 x2 _ (k0_off3_eq i 0) (wcol_inb i 0)) (readAt_unread_full harg12 e1 _) (readAt_unread_full harg14 e3 _) (readAt_unread_unit harg4 x3 _) (readAt_unread_unit harg5 x4 _)
  isplitl [H9]
  · iexists _; isplitr; · ipureintro; exact harg9.read_unread _
    iexact H9
  isplitl [H10]
  · iexists _; isplitr; · ipureintro; exact harg10.read_unread _
    iexact H10
  isplitl [H11]
  · iexists _; isplitr; rotate_left; · iexact H11
    ipureintro; refine read_two_puts harg11 _ _ _ (k0_off1_0 i) (k0_off1_1 i) ?_ ?_
    · exact congrArg codesB (readAt_unread_unit harg1 x0 _)
    · exact congrArg codesB (readAt_unread_unit harg1 x0 _)
  isplitl [H12]
  · iexists _; isplitr; · ipureintro; exact harg12.read_unread _
    iexact H12
  isplitl [H13]
  · iexists _; isplitr; rotate_left; · iexact H13
    ipureintro; refine read_two_puts harg13 _ _ _ (k0_off2_0 i) (k0_off2_1 i) ?_ ?_
    · exact congrArg lanes (readAt_unread_unit harg1 x0 _)
    · exact congrArg lanes (readAt_unread_unit harg1 x0 _)
  · iexists _; isplitr; · ipureintro; exact harg14.read_unread _
    iexact H14

end Cert.KernelIdeal.Gen

end
-- ==== Proof.KernelIdealRunC.lean ====
/-
  The body at a grid point of an odd tile.
-/
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof

set_option maxHeartbeats 12000000 in
/-- A point of an odd tile fills the second pair of scratches and multiplies from the first. -/
theorem run_C (c : Dev nD) (i : grid0.Coords) (arg1 : Memref sig .tc .vmem S64x6912 .f32) (harg1 : arg1.IsWhole) (arg2 : Memref sig .tc .vmem S2x6912 .f32) (harg2 : arg2.IsWhole) (arg3 : Memref sig .tc .vmem S6912x5120 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S64x6912 .i8) (harg6 : arg6.IsWhole) (arg7 : Memref sig .tc .vmem S1x2x128 .f32) (harg7 : arg7.IsWhole) (arg8 : Memref sig .tc .vmem S256x1280 .bf16) (harg8 : arg8.IsWhole) (arg9 : Memref sig .tc .vmem S2x6912 .fp8e4m3) (harg9 : arg9.IsWhole) (arg10 : Memref sig .tc .vmem S2x54 .f32) (harg10 : arg10.IsWhole) (arg11 : Memref sig .tc .vmem S256x6912 .bf16) (harg11 : arg11.IsWhole) (arg12 : Memref sig .tc .vmem S256x6912 .bf16) (harg12 : arg12.IsWhole) (arg13 : Memref sig .tc .vmem S256x128 .f32) (harg13 : arg13.IsWhole) (arg14 : Memref sig .tc .vmem S256x128 .f32) (harg14 : arg14.IsWhole)
    (hc1 : ¬ k0_cond1 i = 1#1) (hc2 : ¬ k0_cond2 i = 1#1) (hc3 : k0_cond3 i = 1#1)
    (x0 : Vec F S64x6912 .f32) (x1 : Vec F S2x6912 .f32) (x2 : Vec F S6912x5120 .i8) (x3 : Vec F S1x1280 .f32) (x4 : Vec F S1x1280 .f32) (h8 : Vec F S2x6912 .fp8e4m3) (h9 : Vec F S2x54 .f32) (e0 e1 : Vec F S256x6912 .bf16) (e2 e3 : Vec F S256x128 .f32) :
    ∀ (E : Set ℕ) (K : PUnit → sProp 𝕄),
      iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (h8) ∗ owns (c : Thread nD τ) arg10 fullShare (h9) ∗ owns (c : Thread nD τ) arg11 fullShare (e0) ∗ owns (c : Thread nD τ) arg12 fullShare (e1) ∗ owns (c : Thread nD τ) arg13 fullShare (e2) ∗ owns (c : Thread nD τ) arg14 fullShare (e3)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (View.canon (oqL x0)) ∗ owns (c : Thread nD τ) arg7 fullShare (osB e2) ∗ owns (c : Thread nD τ) arg8 fullShare (View.canon (outL i x2 x3 x4 e0 e2)) ∗ owns (c : Thread nD τ) arg9 fullShare (h8) ∗ owns (c : Thread nD τ) arg10 fullShare (h9) ∗ owns (c : Thread nD τ) arg11 fullShare (e0) ∗ owns (c : Thread nD τ) arg12 fullShare (putC i e1 x0) ∗ owns (c : Thread nD τ) arg13 fullShare (e2) ∗ owns (c : Thread nD τ) arg14 fullShare (putS i e3 x0)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_out_proj_eq_skeleton]; unfold cc0_out_proj_skel
  simp only [k0_part101_eq_skeleton, k0_part94_eq_skeleton, k0_part95_eq_skeleton, k0_part96_eq_skeleton, k0_part97_eq_skeleton, k0_part98_eq_skeleton, k0_part99_eq_skeleton, k0_part100_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; rotate_left; · iexact H6
    ipureintro; refine read_canon _ _ (L' := oqL x0) ?_ (oqL_cover x0)
    unfold oqL
    refine congrArg₂ List.cons (congrArg (Sigma.mk _) ?_) (congrArg₂ List.cons (congrArg (Sigma.mk _) ?_) rfl)
    · exact congrArg codesI (readAt_unread_unit harg1 x0 _)
    · exact congrArg codesI (readAt_unread_unit harg1 x0 _)
  isplitl [H7]
  · iexists _; isplitr; rotate_left; · iexact H7
    ipureintro; exact (View.read_writes_full _ _ _ _ _).trans (congrArg osB (readAt_unread_full harg13 e2 _))
  isplitl [H8]
  · iexists _; isplitr; rotate_left; · iexact H8
    ipureintro; refine read_canon _ _ (L' := outL i x2 x3 x4 e0 e2) ?_ (outL_cover i x2 x3 x4 e0 e2)
    unfold outL
    refine (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))))))))
    · exact congr5 outHi (readAt_unread_at harg3 x2 _ (k0_off6_eq i 4) (wcol_inb i 4)) (readAt_unread_full harg11 e0 _) (readAt_unread_full harg13 e2 _) (readAt_unread_unit harg4 x3 _) (readAt_unread_unit harg5 x4 _)
    · exact congr5 outLo (readAt_unread_at harg3 x2 _ (k0_off6_eq i 4) (wcol_inb i 4)) (readAt_unread_full harg11 e0 _) (readAt_unread_full harg13 e2 _) (readAt_unread_unit harg4 x3 _) (readAt_unread_unit harg5 x4 _)
    · exact congr5 outHi (readAt_unread_at harg3 x2 _ (k0_off6_eq i 3) (wcol_inb i 3)) (readAt_unread_full harg11 e0 _) (readAt_unread_full harg13 e2 _) (readAt_unread_unit harg4 x3 _) (readAt_unread_unit harg5 x4 _)
    · exact congr5 outLo (readAt_unread_at harg3 x2 _ (k0_off6_eq i 3) (wcol_inb i 3)) (readAt_unread_full harg11 e0 _) (readAt_unread_full harg13 e2 _) (readAt_unread_unit harg4 x3 _) (readAt_unread_unit harg5 x4 _)
    · exact congr5 outHi (readAt_unread_at harg3 x2 _ (k0_off6_eq i 2) (wcol_inb i 2)) (readAt_unread_full harg11 e0 _) (readAt_unread_full harg13 e2 _) (readAt_unread_unit harg4 x3 _) (readAt_unread_unit harg5 x4 _)
    · exact congr5 outLo (readAt_unread_at harg3 x2 _ (k0_off6_eq i 2) (wcol_inb i 2)) (readAt_unread_full harg11 e0 _) (readAt_unread_full harg13 e2 _) (readAt_unread_unit harg4 x3 _) (readAt_unread_unit harg5 x4 _)
    · exact congr5 outHi (readAt_unread_at harg3 x2 _ (k0_off6_eq i 1) (wcol_inb i 1)) (readAt_unread_full harg11 e0 _) (readAt_unread_full harg13 e2 _) (readAt_unread_unit harg4 x3 _) (readAt_unread_unit harg5 x4 _)
    · exact congr5 outLo (readAt_unread_at harg3 x2 _ (k0_off6_eq i 1) (wcol_inb i 1)) (readAt_unread_full harg11 e0 _) (readAt_unread_full harg13 e2 _) (readAt_unread_unit harg4 x3 _) (readAt_unread_unit harg5 x4 _)
    · exact congr5 outHi (readAt_unread_at harg3 x2 _ (k0_off6_eq i 0) (wcol_inb i 0)) (readAt_unread_full harg11 e0 _) (readAt_unread_full harg13 e2 _) (readAt_unread_unit harg4 x3 _) (readAt_unread_unit harg5 x4 _)
    · exact congr5 outLo (readAt_unread_at harg3 x2 _ (k0_off6_eq i 0) (wcol_inb i 0)) (readAt_unread_full harg11 e0 _) (readAt_unread_full harg13 e2 _) (readAt_unread_unit harg4 x3 _) (readAt_unread_unit harg5 x4 _)
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro; refine read_two_puts harg12 _ _ _ (k0_off4_0 i) (k0_off4_1 i) ?_ ?_
    · exact congrArg codesB (readAt_unread_unit harg1 x0 _)
    · exact congrArg codesB (readAt_unread_unit harg1 x0 _)
  isplitl [H13]
  · iexists _; isplitr; · ipureintro; exact harg13.read_unread _
    iexact H13
  · iexists _; isplitr; rotate_left; · iexact H14
    ipureintro; refine read_two_puts harg14 _ _ _ (k0_off5_0 i) (k0_off5_1 i) ?_ ?_
    · exact congrArg lanes (readAt_unread_unit harg1 x0 _)
    · exact congrArg lanes (readAt_unread_unit harg1 x0 _)

end Cert.KernelIdeal.Gen

end
-- ==== Proof.KernelIdealFrame.lean ====
/-
  The frame of the call: what every grid point is handed and leaves, the body's triple at every point from the three
  runs, the launch, and the frame claim.
-/
module

public import proofs.«01_k».proof.Proof.KernelIdealState
public import proofs.«01_k».proof.Proof.KernelIdealRunA
public import proofs.«01_k».proof.Proof.KernelIdealRunB
public import proofs.«01_k».proof.Proof.KernelIdealRunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val / 4 % 2 = 0 :=
  (by decide +kernel : ∀ t : Fin grid0.N, k0_cond2 (grid0.coords t) = 1#1 ↔ t.val / 4 % 2 = 0)
theorem hcond3 : ∀ t : Fin cfg0.N, k0_cond3 (grid0.coords t) = 1#1 ↔ ¬ t.val / 4 % 2 = 0 :=
  (by decide +kernel : ∀ t : Fin grid0.N, k0_cond3 (grid0.coords t) = 1#1 ↔ ¬ t.val / 4 % 2 = 0)
theorem hqrow : ∀ t : Fin cfg0.N, qrow (grid0.coords t) = 64 * (t.val % 4) :=
  (by decide +kernel : ∀ t : Fin grid0.N, qrow (grid0.coords t) = 64 * (t.val % 4))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false :=
  (by decide +kernel : ∀ t : Fin grid0.N, idle0 5 (grid0.coords t) = false)
theorem liveAt0_6 : ∀ t : Fin cfg0.N, cfg0.idle 6 (grid0.coords t) = false :=
  (by decide +kernel : ∀ t : Fin grid0.N, idle0 6 (grid0.coords t) = false)
theorem liveAt0_7 : ∀ t : Fin cfg0.N, cfg0.idle 7 (grid0.coords t) = false :=
  (by decide +kernel : ∀ t : Fin grid0.N, idle0 7 (grid0.coords t) = false)
theorem idleAt0_8 : ∀ t : Fin cfg0.N, cfg0.idle 8 (grid0.coords t) = !decide (t.val = 0) :=
  (by decide +kernel : ∀ t : Fin grid0.N, idle0 8 (grid0.coords t) = !decide (t.val = 0))
theorem idleAt0_9 : ∀ t : Fin cfg0.N, cfg0.idle 9 (grid0.coords t) = !decide (t.val = 0) :=
  (by decide +kernel : ∀ t : Fin grid0.N, idle0 9 (grid0.coords t) = !decide (t.val = 0))
abbrev ms0_0 (t : Fin cfg0.N) : Memref sig .tc .vmem S64x6912 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x6912 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x6912 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x6912 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x54 .f32 := win0_9.stage (cfg0.slots t 9)
abbrev hs0_9 (t : Fin cfg0.N) : (ms0_9 t).IsWhole := hstage0_9 ((cfg0.slots t 9).cast nbuf0_9)
abbrev scM0_0 : Memref sig .tc .vmem S256x6912 .bf16 := Memref.whole cc0_scratch0
abbrev scM0_1 : Memref sig .tc .vmem S256x6912 .bf16 := Memref.whole cc0_scratch1
abbrev scM0_2 : Memref sig .tc .vmem S256x128 .f32 := Memref.whole cc0_scratch2
abbrev scM0_3 : Memref sig .tc .vmem S256x128 .f32 := Memref.whole cc0_scratch3

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant before position `n`: before the first point every scratch at anything, afterwards the scratches at
    contents that `Inv` describes. -/
def PhiS (c : Dev nD) : (n : ℕ) → n ≤ cfg0.N → sProp 𝕄
  | 0, _ => Pipeline.ΦA spec0 c
  | n + 1, _ => iprop((∃ e0, ∃ e1, ∃ e2, ∃ e3, ⌜Inv m c n e0 e1 e2 e3⌝ ∗ owns (c : Thread nD τ) scM0_0 fullShare e0 ∗ owns (c : Thread nD τ) scM0_1 fullShare e1 ∗ owns (c : Thread nD τ) scM0_2 fullShare e2 ∗ owns (c : Thread nD τ) scM0_3 fullShare e3) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (h : n + 1 ≤ cfg0.N) :
    PhiS m c (n + 1) h = iprop((∃ e0, ∃ e1, ∃ e2, ∃ e3, ⌜Inv m c n e0 e1 e2 e3⌝ ∗ owns (c : Thread nD τ) scM0_0 fullShare e0 ∗ owns (c : Thread nD τ) scM0_1 fullShare e1 ∗ owns (c : Thread nD τ) scM0_2 fullShare e2 ∗ owns (c : Thread nD τ) scM0_3 fullShare e3) ∗ (∃ r, prngReg c r)) := rfl

/-- What every window's staging buffer holds after the body at a point: an input its block; the codes; the scales of
    the tile before; its products with the weight's columns, scaled; the state's codes and scales, stored once. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (oqL (iblk m c 0 t))
    | ⟨6, _⟩ => osB (sOld m c t.val)
    | ⟨7, _⟩ => View.canon (outL (grid0.coords t) (iblk m c 2 t) (iblk m c 3 t) (iblk m c 4 t) (cOld m c t.val) (sOld m c t.val))
    | ⟨8, _⟩ => View.canon (hcL (iblk m c 1 (pnt 0)))
    | ⟨9, _⟩ => hscB (iblk m c 1 (pnt 0))
    | ⟨_ + 10, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = View.canon (oqL (iblk m c 0 t)) := by dsimp only [dats]
theorem after0_6 (c : Dev nD) (t : Fin cfg0.N) : (dats m 0 c).after 6 t = osB (sOld m c t.val) := by dsimp only [dats]
theorem after0_7 (c : Dev nD) (t : Fin cfg0.N) : (dats m 0 c).after 7 t = View.canon (outL (grid0.coords t) (iblk m c 2 t) (iblk m c 3 t) (iblk m c 4 t) (cOld m c t.val) (sOld m c t.val)) := by dsimp only [dats]
theorem after0_8 (c : Dev nD) (t : Fin cfg0.N) : (dats m 0 c).after 8 t = View.canon (hcL (iblk m c 1 (pnt 0))) := by dsimp only [dats]
theorem after0_9 (c : Dev nD) (t : Fin cfg0.N) : (dats m 0 c).after 9 t = hscB (iblk m c 1 (pnt 0)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem flushAt0_8 (t : Fin cfg0.N) (h : t.val ≠ 131) : (cfg0.win 8).flush t = false :=
  Bool.eq_false_iff.mpr fun hf => by
    have := (flush0_8 t).mp hf
    have hN : t.val < 132 := lt_of_lt_of_eq t.isLt N_0
    omega
/-- Window 8, written once at the first point, still holds that at every later point. -/
theorem before0_8 (c : Dev nD) (d) : ∀ (n : ℕ) (h : n + 1 < cfg0.N), (dats m 0 c).before 8 ⟨n + 1, h⟩ d = View.canon (hcL (iblk m c 1 (pnt 0))) := by
  intro n
  induction n with
  | zero =>
    intro h
    rw [(dats m 0 c).before_of_pos 8 ⟨0 + 1, h⟩ (Nat.succ_ne_zero _) ((cfg0.win 8).fetch_out rfl _), flushAt0_8 _ (by simp), if_neg Bool.false_ne_true]
    unfold Dat.left
    rw [idleAt0_8]
    exact ((cfg0.win 8).fill_cut _ _).trans (after0_8 m c _)
  | succ n ih =>
    intro h
    have hN : n + 1 + 1 < 132 := lt_of_lt_of_eq h N_0
    rw [(dats m 0 c).before_of_pos 8 ⟨n + 1 + 1, h⟩ (Nat.succ_ne_zero _) ((cfg0.win 8).fetch_out rfl _), flushAt0_8 _ (by simp only; omega), if_neg Bool.false_ne_true]
    unfold Dat.left
    rw [idleAt0_8]
    exact ih (Nat.lt_of_succ_lt h)
theorem held0_8 (c : Dev nD) (t : Fin cfg0.N) (ht : t.val ≠ 0) (d) : (dats m 0 c).before 8 t d = View.canon (hcL (iblk m c 1 (pnt 0))) := by
  obtain ⟨n, hn⟩ : ∃ n, t.val = n + 1 := ⟨t.val - 1, by omega⟩
  have : t = ⟨n + 1, hn ▸ t.isLt⟩ := Fin.ext hn
  rw [this]; exact before0_8 m c d n _
theorem flushAt0_9 (t : Fin cfg0.N) (h : t.val ≠ 131) : (cfg0.win 9).flush t = false :=
  Bool.eq_false_iff.mpr fun hf => by
    have := (flush0_9 t).mp hf
    have hN : t.val < 132 := lt_of_lt_of_eq t.isLt N_0
    omega
/-- Window 9, written once at the first point, still holds that at every later point. -/
theorem before0_9 (c : Dev nD) (d) : ∀ (n : ℕ) (h : n + 1 < cfg0.N), (dats m 0 c).before 9 ⟨n + 1, h⟩ d = hscB (iblk m c 1 (pnt 0)) := by
  intro n
  induction n with
  | zero =>
    intro h
    rw [(dats m 0 c).before_of_pos 9 ⟨0 + 1, h⟩ (Nat.succ_ne_zero _) ((cfg0.win 9).fetch_out rfl _), flushAt0_9 _ (by simp), if_neg Bool.false_ne_true]
    unfold Dat.left
    rw [idleAt0_9]
    exact ((cfg0.win 9).fill_cut _ _).trans (after0_9 m c _)
  | succ n ih =>
    intro h
    have hN : n + 1 + 1 < 132 := lt_of_lt_of_eq h N_0
    rw [(dats m 0 c).before_of_pos 9 ⟨n + 1 + 1, h⟩ (Nat.succ_ne_zero _) ((cfg0.win 9).fetch_out rfl _), flushAt0_9 _ (by simp only; omega), if_neg Bool.false_ne_true]
    unfold Dat.left
    rw [idleAt0_9]
    exact ih (Nat.lt_of_succ_lt h)
theorem held0_9 (c : Dev nD) (t : Fin cfg0.N) (ht : t.val ≠ 0) (d) : (dats m 0 c).before 9 t d = hscB (iblk m c 1 (pnt 0)) := by
  obtain ⟨n, hn⟩ : ∃ n, t.val = n + 1 := ⟨t.val - 1, by omega⟩
  have : t = ⟨n + 1, hn ▸ t.isLt⟩ := Fin.ext hn
  rw [this]; exact before0_9 m c d n _

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (View.canon (oqL (iblk m c 0 t))) := by
  unfold Dat.leavesExact; rw [liveAt0_5 t, after0_5]
theorem leaves0_6 (c : Dev nD) (t : Fin cfg0.N) : (dats m 0 c).leavesExact 6 t = owns (c : Thread nD τ) (ms0_6 t) fullShare (osB (sOld m c t.val)) := by
  unfold Dat.leavesExact; rw [liveAt0_6 t, after0_6]
theorem leaves0_7 (c : Dev nD) (t : Fin cfg0.N) : (dats m 0 c).leavesExact 7 t = owns (c : Thread nD τ) (ms0_7 t) fullShare (View.canon (outL (grid0.coords t) (iblk m c 2 t) (iblk m c 3 t) (iblk m c 4 t) (cOld m c t.val) (sOld m c t.val))) := by
  unfold Dat.leavesExact; rw [liveAt0_7 t, after0_7]
theorem leaves0_8 (c : Dev nD) (t : Fin cfg0.N) (ht : t.val = 0) : (dats m 0 c).leavesExact 8 t = owns (c : Thread nD τ) (ms0_8 t) fullShare (View.canon (hcL (iblk m c 1 (pnt 0)))) := by
  unfold Dat.leavesExact; rw [idleAt0_8 t, ht, after0_8]; rfl
theorem keep0_8 (c : Dev nD) (t : Fin cfg0.N) (ht : t.val ≠ 0) :
    owns (c : Thread nD τ) (ms0_8 t) fullShare (View.canon (hcL (iblk m c 1 (pnt 0)))) ⊢ (dats m 0 c).leavesExact 8 t := by
  have hi : cfg0.idle 8 (grid0.coords t) = true := by rw [idleAt0_8, decide_eq_false ht]; rfl
  by_cases hl : t.val = 131
  · have he : (dats m 0 c).leavesExact 8 t = owns (c : Thread nD τ) (ms0_8 t) fullShare (View.canon (hcL (iblk m c 1 (pnt 0)))) := by
      unfold Dat.leavesExact; rw [hi, after0_8, show (cfg0.win 8).flush t = true from (flush0_8 t).mpr (by omega)]
    rw [he]
  · rw [(dats m 0 c).leavesExact_idle 8 t hi (flushAt0_8 t hl)]
    iintro H
    iexists (View.canon (hcL (iblk m c 1 (pnt 0))))
    rw [held0_8 m c t ht]
    iexact H
theorem leaves0_9 (c : Dev nD) (t : Fin cfg0.N) (ht : t.val = 0) : (dats m 0 c).leavesExact 9 t = owns (c : Thread nD τ) (ms0_9 t) fullShare (hscB (iblk m c 1 (pnt 0))) := by
  unfold Dat.leavesExact; rw [idleAt0_9 t, ht, after0_9]; rfl
theorem keep0_9 (c : Dev nD) (t : Fin cfg0.N) (ht : t.val ≠ 0) :
    owns (c : Thread nD τ) (ms0_9 t) fullShare (hscB (iblk m c 1 (pnt 0))) ⊢ (dats m 0 c).leavesExact 9 t := by
  have hi : cfg0.idle 9 (grid0.coords t) = true := by rw [idleAt0_9, decide_eq_false ht]; rfl
  by_cases hl : t.val = 131
  · have he : (dats m 0 c).leavesExact 9 t = owns (c : Thread nD τ) (ms0_9 t) fullShare (hscB (iblk m c 1 (pnt 0))) := by
      unfold Dat.leavesExact; rw [hi, after0_9, show (cfg0.win 9).flush t = true from (flush0_9 t).mpr (by omega)]
    rw [he]
  · rw [(dats m 0 c).leavesExact_idle 9 t hi (flushAt0_9 t hl)]
    iintro H
    iexists (hscB (iblk m c 1 (pnt 0)))
    rw [held0_9 m c t ht]
    iexact H

theorem PhiS_cast (c : Dev nD) (t : Fin cfg0.N) {n : ℕ} (hn : t.val = n + 1) :
    PhiS m c t.val (Nat.le_of_lt t.isLt) = PhiS m c (n + 1) (hn ▸ Nat.le_of_lt t.isLt) := by
  congr 1

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_0, leaves0_1, leaves0_2, leaves0_3, leaves0_4, leaves0_5, leaves0_6, leaves0_7]
  have hN : t.val < 132 := lt_of_lt_of_eq t.isLt (show cfg0.N = 132 from N_0)
  by_cases hz : t.val = 0
  · have hc : cOld m c t.val = k0_pay3 := by unfold cOld; rw [hz]; exact if_pos rfl
    have hs : sOld m c t.val = k0_pay4 := by unfold sOld; rw [hz]; exact if_pos rfl
    have hp0 : pnt 0 = t := hz ▸ pnt_self t
    have hp : t.val / 4 % 2 = 0 := by rw [hz]
    rw [hc, hs]
    rw [leaves0_8 m c t hz, leaves0_9 m c t hz, hp0, PhiS_zero m c _ _ hz, PhiA0_eq]
    iintro ⟨⟨⟨⟨%e0, HS0⟩, HS1, ⟨%e2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ _ _ _ _ _ _ _ _ ((hcond1 t).mpr hz) ((hcond2 t).mpr hp) (fun h => (hcond3 t).mp h hp) (iblk m c 0 t) (iblk m c 1 t) (iblk m c 2 t) (iblk m c 3 t) (iblk m c 4 t) e0 e2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · iexists _, _, _, _
        isplitr; rotate_left
        · isplitl [HS0]; · iexact HS0
          isplitl [HS1]; · iexact HS1
          isplitl [HS2]; · iexact HS2
          iexact HS3
        ipureintro
        have hP := Inv.zero m c (i := grid0.coords t) (by rw [hqrow, hz]) e0 e2
        rw [show pnt 0 = t from hz ▸ pnt_self t] at hP
        rw [hz]; exact hP
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases hp : t.val / 4 % 2 = 0
  · obtain ⟨n, hn⟩ : ∃ n, t.val = n + 1 := ⟨t.val - 1, by omega⟩
    rw [PhiS_cast m c t hn, PhiS_succ]
    simp only [held0_8 m c t hz, held0_9 m c t hz]
    iintro ⟨⟨⟨%e0, %e1, %e2, %e3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hH := hI.even m (hn ▸ hp) (i := grid0.coords t) (by rw [hqrow, hn])
    rw [← hn, pnt_self] at hH
    rw [← hH.oldC, ← hH.oldS]
    iapply (run_B c (grid0.coords t) _ _ _ _ _ _ _ _ _ _ _ _ _ _ _ _ _ _ _ _ _ _ _ _ _ _ _ _ (fun h => hz ((hcond1 t).mp h)) ((hcond2 t).mpr hp) (fun h => (hcond3 t).mp h hp) (iblk m c 0 t) (iblk m c 1 t) (iblk m c 2 t) (iblk m c 3 t) (iblk m c 4 t) (View.canon (hcL (iblk m c 1 (pnt 0)))) (hscB (iblk m c 1 (pnt 0))) e0 e1 e2 e3 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · iexists _, _, _, _
        isplitr; rotate_left
        · isplitl [HS0]; · iexact HS0
          isplitl [HS1]; · iexact HS1
          isplitl [HS2]; · iexact HS2
          iexact HS3
        ipureintro
        unfold Inv; rw [if_pos hp]; exact hH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep0_8 m c t hz); iexact H8
    iapply (keep0_9 m c t hz); iexact H9
  · obtain ⟨n, hn⟩ : ∃ n, t.val = n + 1 := ⟨t.val - 1, by omega⟩
    rw [PhiS_cast m c t hn, PhiS_succ]
    simp only [held0_8 m c t hz, held0_9 m c t hz]
    iintro ⟨⟨⟨%e0, %e1, %e2, %e3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hH := hI.odd m (hn ▸ hp) (i := grid0.coords t) (by rw [hqrow, hn])
    rw [← hn, pnt_self] at hH
    rw [← hH.oldC, ← hH.oldS]
    iapply (run_C c (grid0.coords t) _ _ _ _ _ _ _ _ _ _ _ _ _ _ _ _ _ _ _ _ _ _ _ _ _ _ _ _ (fun h => hz ((hcond1 t).mp h)) (fun h => hp ((hcond2 t).mp h)) ((hcond3 t).mpr hp) (iblk m c 0 t) (iblk m c 1 t) (iblk m c 2 t) (iblk m c 3 t) (iblk m c 4 t) (View.canon (hcL (iblk m c 1 (pnt 0)))) (hscB (iblk m c 1 (pnt 0))) e0 e1 e2 e3 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitr [Hg]
      · iexists _, _, _, _
        isplitr; rotate_left
        · isplitl [HS0]; · iexact HS0
          isplitl [HS1]; · iexact HS1
          isplitl [HS2]; · iexact HS2
          iexact HS3
        ipureintro
        unfold Inv; rw [if_neg hp]; exact hH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep0_8 m c t hz); iexact H8
    iapply (keep0_9 m c t hz); iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hl : (Fin.last cfg0.N).val = 131 + 1 := by rw [Fin.val_last]; exact N_0
  have he : (dats m 0 c).Φ (Fin.last cfg0.N) = PhiS m c (131 + 1) (le_of_eq (show cfg0.N = 132 from N_0).symm) := by
    rw [show (dats m 0 c).Φ (Fin.last cfg0.N) = PhiS m c (Fin.last cfg0.N).val (Nat.le_of_lt_succ (Fin.last cfg0.N).isLt) from rfl]
    congr 1
  rw [he, PhiS_succ, PhiA0_eq]
  iintro ⟨⟨%e0, %e1, %e2, %e3, -, HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

-- the run's implicit arguments are found by unfolding plain definitions in a metavariable's type
set_option backward.isDefEq.respectTransparency.types false in
/-- The launch: every window's array ends as the proof data says, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelValue.lean ====
/-
  THE KERNEL'S RESULT ARRAYS: each is its function of the arguments. A block of codes is written at the point that reads
  its rows; a block of the projection and the dense scales of a tile are written one tile later, from the scratches that
  the four points of the tile filled.
-/
module
public import proofs.«01_k».proof.Proof.KernelRows
public import proofs.«01_k».proof.Proof.KernelIdealFrame
public import Idealize.ShloMosaic.Lib.Pipeline.Value
public import Idealize.ShloMosaic.Lib.Affine
@[expose] public section
set_option maxRecDepth 16384
noncomputable section
namespace Cert.Proof.Ker
open Idealize.ShloMosaic Idealize.SL.Sem Cert.KernelIdeal Cert.KernelIdeal.Gen Idealize.ShloMosaic.TcCoe
open Idealize.ShloMosaic.Pipeline (Dat Cfg Window)

variable (m : (ℓ : Loc nD τ sig) → Buf (Elt Ideal) ℓ)

/-! ## Which block each window takes at a point -/

theorem ix0 : ∀ t : Fin cfg0.N, win0_0.index t 0 = min t.val 127 ∧ win0_0.index t 1 = 0 :=
  (by decide +kernel : ∀ t : Fin grid0.N, win0_0.index t 0 = min t.val 127 ∧ win0_0.index t 1 = 0)
theorem ix3' : ∀ t : Fin cfg0.N, win0_3.index t 0 = 0 ∧ win0_3.index t 1 = t.val % 4 :=
  (by decide +kernel : ∀ t : Fin grid0.N, win0_3.index t 0 = 0 ∧ win0_3.index t 1 = t.val % 4)
theorem ix4' : ∀ t : Fin cfg0.N, win0_4.index t 0 = 0 ∧ win0_4.index t 1 = t.val % 4 :=
  (by decide +kernel : ∀ t : Fin grid0.N, win0_4.index t 0 = 0 ∧ win0_4.index t 1 = t.val % 4)
theorem ix2' : ∀ t : Fin cfg0.N, win0_2.index t 0 = 0 ∧ win0_2.index t 1 = 0 :=
  (by decide +kernel : ∀ t : Fin grid0.N, win0_2.index t 0 = 0 ∧ win0_2.index t 1 = 0)
theorem ix5' : ∀ t : Fin cfg0.N, win0_5.index t 0 = min t.val 127 ∧ win0_5.index t 1 = 0 :=
  (by decide +kernel : ∀ t : Fin grid0.N, win0_5.index t 0 = min t.val 127 ∧ win0_5.index t 1 = 0)
theorem ix6' : ∀ t : Fin cfg0.N, win0_6.index t 0 = t.val / 4 - 1 ∧ win0_6.index t 1 = 0 ∧ win0_6.index t 2 = 0 :=
  (by decide +kernel : ∀ t : Fin grid0.N, win0_6.index t 0 = t.val / 4 - 1 ∧ win0_6.index t 1 = 0 ∧ win0_6.index t 2 = 0)
theorem ix7' : ∀ t : Fin cfg0.N, 4 ≤ t.val → win0_7.index t 0 = t.val / 4 - 1 ∧ win0_7.index t 1 = t.val % 4 :=
  (by decide +kernel : ∀ t : Fin grid0.N, 4 ≤ t.val → win0_7.index t 0 = t.val / 4 - 1 ∧ win0_7.index t 1 = t.val % 4)
theorem fl5 : ∀ t : Fin cfg0.N, (win0_5.flush t = true) = (t.val < 127 ∨ t.val = 131) :=
  (by decide +kernel : ∀ t : Fin grid0.N, (win0_5.flush t = true) = (t.val < 127 ∨ t.val = 131))
theorem fl6 : ∀ t : Fin cfg0.N, (win0_6.flush t = true) ↔ (4 ≤ t.val ∧ t.val % 4 = 3) :=
  (by decide +kernel : ∀ t : Fin grid0.N, (win0_6.flush t = true) ↔ (4 ≤ t.val ∧ t.val % 4 = 3))
theorem fl7 : ∀ t : Fin cfg0.N, (win0_7.flush t = true) ↔ 4 ≤ t.val :=
  (by decide +kernel : ∀ t : Fin grid0.N, (win0_7.flush t = true) ↔ 4 ≤ t.val)
theorem coord0 : ∀ t : Fin cfg0.N, (grid0.coords t 0).val = t.val :=
  (by decide +kernel : ∀ t : Fin grid0.N, (grid0.coords t 0).val = t.val)

theorem tlt (t : Fin cfg0.N) : t.val < 132 := lt_of_lt_of_eq t.isLt N_0

/-! ## The blocks read at an index -/

theorem x_at (c : Dev nD) (t : Fin cfg0.N) (r : Fin 64) (k : Fin 6912) :
    (iblk m c 0 t : Vec Ideal S64x6912 .f32) (ix2 r k) = V m c main_arg0 (ix2 ⟨64 * min t.val 127 + r.val, by omega⟩ k) := by
  unfold iblk
  rw [View.read_apply]
  show V m c main_arg0 _ = _
  congr 1
  funext a
  apply Fin.ext
  match a with
  | ⟨0, _⟩ => show win0_0.index t 0 * 64 + 1 * r.val = 64 * min t.val 127 + r.val; rw [(ix0 t).1]; omega
  | ⟨1, _⟩ => show win0_0.index t 1 * 6912 + 1 * k.val = k.val; rw [(ix0 t).2]; omega

theorem w_at (c : Dev nD) (t : Fin cfg0.N) (r : Fin 6912) (k : Fin 5120) :
    (iblk m c 2 t : Vec Ideal S6912x5120 .i8) (ix2 r k) = V m c main_arg2 (ix2 r k) := by
  unfold iblk
  rw [View.read_apply]
  show V m c main_arg2 _ = _
  congr 1
  funext a
  apply Fin.ext
  match a with
  | ⟨0, _⟩ => show win0_2.index t 0 * 6912 + 1 * r.val = r.val; rw [(ix2' t).1]; omega
  | ⟨1, _⟩ => show win0_2.index t 1 * 5120 + 1 * k.val = k.val; rw [(ix2' t).2]; omega

theorem so_at (c : Dev nD) (t : Fin cfg0.N) (k : Fin 1280) :
    (iblk m c 3 t : Vec Ideal S1x1280 .f32) (ix2 0 k) = V m c main_v0 (ix2 0 ⟨1280 * (t.val % 4) + k.val, by omega⟩) := by
  unfold iblk
  rw [View.read_apply]
  show V m c main_v0 _ = _
  congr 1
  funext a
  apply Fin.ext
  match a with
  | ⟨0, _⟩ => show win0_3.index t 0 * 1 + 1 * 0 = 0; rw [(ix3' t).1]
  | ⟨1, _⟩ => show win0_3.index t 1 * 1280 + 1 * k.val = 1280 * (t.val % 4) + k.val; rw [(ix3' t).2]; omega

theorem bo_at (c : Dev nD) (t : Fin cfg0.N) (k : Fin 1280) :
    (iblk m c 4 t : Vec Ideal S1x1280 .f32) (ix2 0 k) = V m c main_v1 (ix2 0 ⟨1280 * (t.val % 4) + k.val, by omega⟩) := by
  unfold iblk
  rw [View.read_apply]
  show V m c main_v1 _ = _
  congr 1
  funext a
  apply Fin.ext
  match a with
  | ⟨0, _⟩ => show win0_4.index t 0 * 1 + 1 * 0 = 0; rw [(ix4' t).1]
  | ⟨1, _⟩ => show win0_4.index t 1 * 1280 + 1 * k.val = 1280 * (t.val % 4) + k.val; rw [(ix4' t).2]; omega

/-- A row of a tile's four blocks, in the activation. -/
theorem xblk_at (c : Dev nD) (u : ℕ) (hu : u < 32) (r : Fin 256) (k : Fin 6912) :
    xblk m c u (r.val / 64) (ix2 ⟨r.val % 64, Nat.mod_lt _ (by decide)⟩ k) = V m c main_arg0 (ix2 ⟨256 * u + r.val, by omega⟩ k) := by
  unfold xblk
  refine (x_at m c _ _ k).trans (congrArg (V m c main_arg0) (congrArg (fun q => ix2 q k) (Fin.ext ?_)))
  show 64 * min (pnt (4 * u + r.val / 64)).val 127 + r.val % 64 = 256 * u + r.val
  rw [pnt_val (by omega)]
  omega

/-! ## What a tile's scratches hold -/

theorem half_row' (x : Vec Ideal S64x6912 .f32) (r : ℕ) (k : Fin 6912) :
    (if r % 64 < 32 then half0 x else half1 x) (ix2 ⟨r % 32, Nat.mod_lt _ (by decide)⟩ k) = x (ix2 ⟨r % 64, Nat.mod_lt _ (by decide)⟩ k) := by
  split
  · show x _ = x _
    congr 1
    funext a
    apply Fin.ext
    match a with
    | ⟨0, _⟩ => show 0 + 1 * (r % 32) = r % 64; omega
    | ⟨1, _⟩ => show 0 + 1 * k.val = k.val; omega
  · show x _ = x _
    congr 1
    funext a
    apply Fin.ext
    match a with
    | ⟨0, _⟩ => show 32 + 1 * (r % 32) = r % 64; omega
    | ⟨1, _⟩ => show 0 + 1 * k.val = k.val; omega

theorem tileC_at (X : ℕ → Vec Ideal S64x6912 .f32) (r : Fin 256) (l : Fin 6912) :
    tileC X (ix2 r l) = rcode (fun k => X (r.val / 64) (ix2 ⟨r.val % 64, Nat.mod_lt _ (by decide)⟩ k)) l := by
  unfold tileC
  have e : ixC (r.val % 32) (Nat.mod_lt _ (by decide)) l = ix2 ⟨r.val % 32, Nat.mod_lt _ (by decide)⟩ l := by
    funext a; match a with | 0 => rfl | 1 => rfl
  show codesB (if r.val % 64 < 32 then half0 (X (r.val / 64)) else half1 (X (r.val / 64))) (ixC (r.val % 32) _ l) = _
  rw [e, codesB_apply]
  exact congrArg (fun f => rcode f l) (funext fun k => half_row' (X (r.val / 64)) r.val k)

theorem tileS_at (X : ℕ → Vec Ideal S64x6912 .f32) (r : Fin 256) (l : Fin 128) :
    tileS X (ix2 r l) = rscale (fun k => X (r.val / 64) (ix2 ⟨r.val % 64, Nat.mod_lt _ (by decide)⟩ k)) := by
  unfold tileS
  have e : ixS (r.val % 32) (Nat.mod_lt _ (by decide)) l = ix2 ⟨r.val % 32, Nat.mod_lt _ (by decide)⟩ l := by
    funext a; match a with | 0 => rfl | 1 => rfl
  show lanes (if r.val % 64 < 32 then half0 (X (r.val / 64)) else half1 (X (r.val / 64))) (ixS (r.val % 32) _ l) = _
  rw [e, lanes_apply]
  exact congrArg rscale (funext fun k => half_row' (X (r.val / 64)) r.val k)

theorem cOld_at (c : Dev nD) (n : ℕ) (hn : 4 ≤ n) (hn' : n < 132) (r : Fin 256) (l : Fin 6912) :
    cOld m c n (ix2 r l) = rcode (fun k => V m c main_arg0 (ix2 ⟨256 * (n / 4 - 1) + r.val, by omega⟩ k)) l := by
  unfold cOld
  rw [if_neg (by omega), tileC_at]
  simp only [xblk_at m c (n / 4 - 1) (by omega) r]

theorem sOld_at (c : Dev nD) (n : ℕ) (hn : 4 ≤ n) (hn' : n < 132) (r : Fin 256) (l : Fin 128) :
    sOld m c n (ix2 r l) = rscale (fun k => V m c main_arg0 (ix2 ⟨256 * (n / 4 - 1) + r.val, by omega⟩ k)) := by
  unfold sOld
  rw [if_neg (by omega), tileS_at]
  simp only [xblk_at m c (n / 4 - 1) (by omega) r]

/-! ## The codes -/

/-- What a block of 64 rows' codes ends at. -/
def oqE (x : Vec Ideal S64x6912 .f32) : S64x6912.Idx → BitVec 8 := fun y =>
  FloatOps.fptosi (F := Ideal) (φ := .f32) 8 (rcode (fun k => x (ix2 (y 0) k)) (y 1))

theorem oq_piece (x : Vec Ideal S64x6912 .f32) (o : ℕ) (inb : ∀ a, (![o, 0] : Fin 2 → ℕ) a + S32x6912.size a ≤ S64x6912.size a) (z : S32x6912.Idx) :
    codesI (half x o inb) z = oqE x ((Rect.unit (s := S64x6912) ![o, 0] S32x6912.size inb).emb z) := by
  idx_vars z
  rw [codesI_apply]
  unfold oqE
  have e1 : (Rect.unit (s := S64x6912) ![o, 0] S32x6912.size inb).emb (ix2 z0 z1) 1 = z1 := Fin.ext (show 0 + 1 * z1.val = z1.val by omega)
  have e2 : ∀ k, half x o inb (ix2 z0 k) = x (ix2 ((Rect.unit (s := S64x6912) ![o, 0] S32x6912.size inb).emb (ix2 z0 z1) 0) k) := by
    intro k
    show x _ = x _
    congr 1
    funext a
    apply Fin.ext
    match a with
    | ⟨0, _⟩ => rfl
    | ⟨1, _⟩ => show 0 + 1 * k.val = k.val; omega
  rw [e1]
  simp only [e2]

theorem oq_block (x : Vec Ideal S64x6912 .f32) : View.canon (Val := Elt Ideal) (oqL x) = oqE x := by
  funext y
  refine View.canon_apply_of_pieces (Val := Elt Ideal) (oqE x) (oqL x) ?_ y (oqL_cover x y)
  intro p hp
  simp only [oqL, List.mem_cons, List.not_mem_nil, or_false] at hp
  rcases hp with rfl | rfl
  · exact oq_piece x 32 _
  · exact oq_piece x 0 _

theorem read5 (G : S8192x6912.Idx → BitVec 8) (t : Fin cfg0.N) (r : Fin 64) (l : Fin 6912) :
    ((cfg0.win 5).blk t).view.read (Elt Ideal) G (ix2 r l) = G (ix2 ⟨64 * min t.val 127 + r.val, by omega⟩ l) := by
  rw [View.read_apply]
  show G _ = G _
  congr 1
  funext a
  apply Fin.ext
  match a with
  | ⟨0, _⟩ => show win0_5.index t 0 * 64 + 1 * r.val = 64 * min t.val 127 + r.val; rw [(ix5' t).1]; omega
  | ⟨1, _⟩ => show win0_5.index t 1 * 6912 + 1 * l.val = l.val; rw [(ix5' t).2]; omega

theorem flushed5 (c : Dev nD) (t : Fin cfg0.N) :
    (dats m 0 c).flushed 5 t = ((cfg0.win 5).blk t).view.read (Elt Ideal) (oqSpec (V m c main_arg0)) := by
  show (cfg0.win 5).cut _ ((dats m 0 c).after 5 t) = _
  rw [after0_5, oq_block]
  funext (y : S64x6912.Idx)
  obtain ⟨r, l, rfl⟩ : ∃ (r : Fin 64) (l : Fin 6912), y = ix2 r l := ⟨y 0, y 1, eq_ix2 y⟩
  refine Eq.trans ?_ (read5 _ t r l).symm
  show oqE (iblk m c 0 t) (ix2 r l) = _
  unfold oqE oqSpec
  show FloatOps.fptosi (F := Ideal) (φ := .f32) 8 (rcode (fun k => (iblk m c 0 t : Vec Ideal S64x6912 .f32) (ix2 r k)) l) = _
  simp only [x_at]
  rfl

theorem final5 (c : Dev nD) : (dats m 0 c).arrAt 5 cfg0.N = oqSpec (V m c main_arg0) :=
  (dats m 0 c).arrAt_eq_of_cover 5 _ (fun t _ => flushed5 m c t) fun i => by
    have h0 : (i 0 : Nat) < 8192 := (i 0).isLt
    have h1 : (i 1 : Nat) < 6912 := (i 1).isLt
    obtain ⟨t, hf, ht⟩ : ∃ t : Fin cfg0.N, (win0_5.flush t = true) ∧ min t.val 127 = (i 0 : Nat) / 64 := by
      by_cases h : (i 0 : Nat) / 64 < 127
      · exact ⟨pnt ((i 0 : Nat) / 64), by rw [fl5, pnt_val (by omega)]; exact .inl h, by rw [pnt_val (by omega)]; omega⟩
      · exact ⟨pnt 131, by rw [fl5, pnt_val (by omega)]; exact .inr rfl, by rw [pnt_val (by omega)]; omega⟩
    refine ⟨t, hf, ?_⟩
    show i ∈ ((View.whole main_v2_0).slice (win0_5.rect t)).set
    rw [View.set_slice_whole, Rect.mem_set_unit]
    intro a
    match a with
    | ⟨0, _⟩ => show win0_5.index t 0 * 64 ≤ (i 0 : Nat) ∧ (i 0 : Nat) < win0_5.index t 0 * 64 + 64; rw [(ix5' t).1]; omega
    | ⟨1, _⟩ => show win0_5.index t 1 * 6912 ≤ (i 1 : Nat) ∧ (i 1 : Nat) < win0_5.index t 1 * 6912 + 6912; rw [(ix5' t).2]; omega

/-! ## The dense scales -/

theorem read6 (G : S32x2x128.Idx → EReal) (t : Fin cfg0.N) (r : Fin 2) (l : Fin 128) :
    ((cfg0.win 6).blk t).view.read (Elt Ideal) G (ix3 0 r l) = G (ix3 ⟨t.val / 4 - 1, by have := tlt t; omega⟩ r l) := by
  rw [View.read_apply]
  show G _ = G _
  congr 1
  funext a
  apply Fin.ext
  match a with
  | ⟨0, _⟩ => show win0_6.index t 0 * 1 + 1 * 0 = t.val / 4 - 1; rw [(ix6' t).1]; omega
  | ⟨1, _⟩ => show win0_6.index t 1 * 2 + 1 * r.val = r.val; rw [(ix6' t).2.1]; omega
  | ⟨2, _⟩ => show win0_6.index t 2 * 128 + 1 * l.val = l.val; rw [(ix6' t).2.2]; omega

theorem flushed6 (c : Dev nD) (t : Fin cfg0.N) (hf : (cfg0.win 6).flush t = true) :
    (dats m 0 c).flushed 6 t = ((cfg0.win 6).blk t).view.read (Elt Ideal) (osSpec (V m c main_arg0)) := by
  have h4 := ((fl6 t).1 hf).1
  have hlt := tlt t
  show (cfg0.win 6).cut _ ((dats m 0 c).after 6 t) = _
  rw [after0_6]
  funext (y : S1x2x128.Idx)
  obtain ⟨r, l, rfl⟩ : ∃ (r : Fin 2) (l : Fin 128), y = ix3 0 r l :=
    ⟨y 1, y 2, (eq_ix3 y).trans (congrArg (fun q => ix3 q (y 1) (y 2)) (Subsingleton.elim (α := Fin 1) _ _))⟩
  refine Eq.trans ?_ (read6 _ t r l).symm
  show osB (sOld m c t.val) (ix3 0 r l) = _
  rw [osB_apply, sOld_at m c t.val h4 hlt]
  unfold osSpec
  show rscale _ = rscale _
  refine congrArg rscale (funext fun k => congrArg (V m c main_arg0) (congrArg (fun q => ix2 q k) (Fin.ext ?_)))
  show 256 * (t.val / 4 - 1) + (128 * r.val + l.val) = (t.val / 4 - 1) * 256 + r.val * 128 + l.val
  omega

theorem final6 (c : Dev nD) : (dats m 0 c).arrAt 6 cfg0.N = osSpec (V m c main_arg0) :=
  (dats m 0 c).arrAt_eq_of_cover 6 _ (fun t hf => flushed6 m c t hf) fun i => by
    have h0 : (i 0 : Nat) < 32 := (i 0).isLt
    have h1 : (i 1 : Nat) < 2 := (i 1).isLt
    have h2 : (i 2 : Nat) < 128 := (i 2).isLt
    have hv : (pnt (4 * ((i 0 : Nat) + 1) + 3)).val = 4 * ((i 0 : Nat) + 1) + 3 := pnt_val (by omega)
    refine ⟨pnt (4 * ((i 0 : Nat) + 1) + 3), (fl6 _).2 (by omega), ?_⟩
    generalize pnt (4 * ((i 0 : Nat) + 1) + 3) = t at hv ⊢
    show i ∈ ((View.whole main_v2_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [(ix6' t).1]; omega
    | ⟨1, _⟩ => show win0_6.index t 1 * 2 ≤ (i 1 : Nat) ∧ (i 1 : Nat) < win0_6.index t 1 * 2 + 2; rw [(ix6' t).2.1]; omega
    | ⟨2, _⟩ => show win0_6.index t 2 * 128 ≤ (i 2 : Nat) ∧ (i 2 : Nat) < win0_6.index t 2 * 128 + 128; rw [(ix6' t).2.2]; omega

/-! ## The projection -/

theorem wcol_lt (i : grid0.Coords) (l : Fin 1280) : wcol i + l.val < 5120 := by
  have h4 : (i 0).val % 4 < 4 := Nat.mod_lt _ (by decide)
  unfold wcol; omega

/-- What a block of the projection ends at: 1280 columns of the coded rows times the weight. -/
def outE (i : grid0.Coords) (w : Vec Ideal S6912x5120 .i8) (so bo : Vec Ideal S1x1280 .f32) (c : Vec Ideal S256x6912 .bf16) (σ : Fin 256 → EReal) :
    S256x1280.Idx → EReal := fun y =>
  (∑ x : Fin 6912, c (ix2 (y 0) x) * FloatOps.sitofp (F := Ideal) .f32 (w (ix2 x ⟨wcol i + (y 1).val, wcol_lt i (y 1)⟩))) * σ (y 0) * so (ix2 0 (y 1)) + bo (ix2 0 (y 1))

theorem srow_at (s : Vec Ideal S1x1280 .f32) (o : ℕ) (inb : ∀ a, (![0, o] : Fin 2 → ℕ) a + S1x128.size a ≤ S1x1280.size a) (l : Fin 128) (h : o + l.val < 1280) :
    srow s o inb (ix2 0 l) = s (ix2 0 ⟨o + l.val, h⟩) := by
  show s _ = s _
  congr 1
  funext a
  apply Fin.ext
  match a with
  | ⟨0, _⟩ => rfl
  | ⟨1, _⟩ => show o + 1 * l.val = o + l.val; omega

theorem wblk_at (i : grid0.Coords) (w : Vec Ideal S6912x5120 .i8) (r : Fin 5) (x : Fin 6912) (l : Fin 256) :
    wblk i w r (ix2 x l) = w (ix2 x ⟨wcol i + (256 * r.val + l.val), wcol_lt i ⟨256 * r.val + l.val, by omega⟩⟩) := by
  show w _ = w _
  congr 1
  funext a
  apply Fin.ext
  match a with
  | ⟨0, _⟩ => show 0 + 1 * x.val = x.val; omega
  | ⟨1, _⟩ => show wcol i + 256 * r.val + 1 * l.val = wcol i + (256 * r.val + l.val); omega

section
variable (i : grid0.Coords) (w : Vec Ideal S6912x5120 .i8) (so bo : Vec Ideal S1x1280 .f32) (c : Vec Ideal S256x6912 .bf16)
  (s : Vec Ideal S256x128 .f32) (σ : Fin 256 → EReal) (hs : ∀ r l, s (ix2 r l) = σ r)
include hs

theorem out_emb (o : ℕ) (inb : ∀ a, (![0, o] : Fin 2 → ℕ) a + S256x128.size a ≤ S256x1280.size a) (r : Fin 256) (l : Fin 128) (h : o + l.val < 1280) :
    (Rect.unit (s := S256x1280) ![0, o] S256x128.size inb).emb (ix2 r l) = ix2 r ⟨o + l.val, h⟩ := by
  funext a
  apply Fin.ext
  match a with
  | ⟨0, _⟩ => show 0 + 1 * r.val = r.val; omega
  | ⟨1, _⟩ => show o + 1 * l.val = o + l.val; omega

theorem lo_piece (r : Fin 5) (o : ℕ) (ho : o = 256 * r.val) (inb : ∀ a, (![0, o] : Fin 2 → ℕ) a + S256x128.size a ≤ S256x1280.size a)
    (i1 i2 : ∀ a, (![0, o] : Fin 2 → ℕ) a + S1x128.size a ≤ S1x1280.size a) (z : S256x128.Idx) :
    outLo (wblk i w r) c s (srow so o i1) (srow bo o i2) z = outE i w so bo c σ ((Rect.unit (s := S256x1280) ![0, o] S256x128.size inb).emb z) := by
  idx_vars z
  have h : o + z1.val < 1280 := by omega
  rw [out_emb s σ hs o inb z0 z1 h, outLo_apply, hs, srow_at so o i1 z1 h, srow_at bo o i2 z1 h]
  have hw : ∀ x : Fin 6912, wblk i w r (ix2 x ⟨z1.val, by omega⟩) = w (ix2 x ⟨wcol i + (o + z1.val), wcol_lt i ⟨o + z1.val, h⟩⟩) := fun x => by
    refine (wblk_at i w r x ⟨z1.val, by omega⟩).trans (congrArg (fun q => w (ix2 x q)) (Fin.ext ?_))
    show wcol i + (256 * r.val + (z1.val)) = wcol i + (o + z1.val)
    omega
  exact congrArg (fun S => S * σ z0 * so (ix2 0 ⟨o + z1.val, h⟩) + bo (ix2 0 ⟨o + z1.val, h⟩))
    (Finset.sum_congr rfl fun x _ => congrArg (fun b => c (ix2 z0 x) * FloatOps.sitofp (F := Ideal) .f32 b) (hw x))

theorem hi_piece (r : Fin 5) (o : ℕ) (ho : o = 256 * r.val + 128) (inb : ∀ a, (![0, o] : Fin 2 → ℕ) a + S256x128.size a ≤ S256x1280.size a)
    (i1 i2 : ∀ a, (![0, o] : Fin 2 → ℕ) a + S1x128.size a ≤ S1x1280.size a) (z : S256x128.Idx) :
    outHi (wblk i w r) c s (srow so o i1) (srow bo o i2) z = outE i w so bo c σ ((Rect.unit (s := S256x1280) ![0, o] S256x128.size inb).emb z) := by
  idx_vars z
  have h : o + z1.val < 1280 := by omega
  rw [out_emb s σ hs o inb z0 z1 h, outHi_apply, hs, srow_at so o i1 z1 h, srow_at bo o i2 z1 h]
  have hw : ∀ x : Fin 6912, wblk i w r (ix2 x ⟨128 + z1.val, by omega⟩) = w (ix2 x ⟨wcol i + (o + z1.val), wcol_lt i ⟨o + z1.val, h⟩⟩) := fun x => by
    refine (wblk_at i w r x ⟨128 + z1.val, by omega⟩).trans (congrArg (fun q => w (ix2 x q)) (Fin.ext ?_))
    show wcol i + (256 * r.val + (128 + z1.val)) = wcol i + (o + z1.val)
    omega
  exact congrArg (fun S => S * σ z0 * so (ix2 0 ⟨o + z1.val, h⟩) + bo (ix2 0 ⟨o + z1.val, h⟩))
    (Finset.sum_congr rfl fun x _ => congrArg (fun b => c (ix2 z0 x) * FloatOps.sitofp (F := Ideal) .f32 b) (hw x))

theorem out_block : View.canon (Val := Elt Ideal) (outL i w so bo c s) = outE i w so bo c σ := by
  funext y
  refine View.canon_apply_of_pieces (Val := Elt Ideal) (outE i w so bo c σ) (outL i w so bo c s) ?_ y (outL_cover i w so bo c s y)
  intro p hp
  simp only [outL, List.mem_cons, List.not_mem_nil, or_false] at hp
  rcases hp with rfl | rfl | rfl | rfl | rfl | rfl | rfl | rfl | rfl | rfl
  · exact hi_piece i w so bo c s σ hs 4 1152 rfl inb_S256x1280_S256x128_0_1152 inb_S1x1280_S1x128_0_1152 inb_S1x1280_S1x128_0_1152
  · exact lo_piece i w so bo c s σ hs 4 1024 rfl inb_S256x1280_S256x128_0_1024 inb_S1x1280_S1x128_0_1024 inb_S1x1280_S1x128_0_1024
  · exact hi_piece i w so bo c s σ hs 3 896 rfl inb_S256x1280_S256x128_0_896 inb_S1x1280_S1x128_0_896 inb_S1x1280_S1x128_0_896
  · exact lo_piece i w so bo c s σ hs 3 768 rfl inb_S256x1280_S256x128_0_768 inb_S1x1280_S1x128_0_768 inb_S1x1280_S1x128_0_768
  · exact hi_piece i w so bo c s σ hs 2 640 rfl inb_S256x1280_S256x128_0_640 inb_S1x1280_S1x128_0_640 inb_S1x1280_S1x128_0_640
  · exact lo_piece i w so bo c s σ hs 2 512 rfl inb_S256x1280_S256x128_0_512 inb_S1x1280_S1x128_0_512 inb_S1x1280_S1x128_0_512
  · exact hi_piece i w so bo c s σ hs 1 384 rfl inb_S256x1280_S256x128_0_384 inb_S1x1280_S1x128_0_384 inb_S1x1280_S1x128_0_384
  · exact lo_piece i w so bo c s σ hs 1 256 rfl inb_S256x1280_S256x128_0_256 inb_S1x1280_S1x128_0_256 inb_S1x1280_S1x128_0_256
  · exact hi_piece i w so bo c s σ hs 0 128 rfl inb_S256x1280_S256x128_0_128 inb_S1x1280_S1x128_0_128 inb_S1x1280_S1x128_0_128
  · exact lo_piece i w so bo c s σ hs 0 0 rfl inb_S256x1280_S256x128_0_0 inb_S1x1280_S1x128_0_0 inb_S1x1280_S1x128_0_0
end

theorem read7 (G : S8192x5120.Idx → EReal) (t : Fin cfg0.N) (h4 : 4 ≤ t.val) (r : Fin 256) (l : Fin 1280) :
    ((cfg0.win 7).blk t).view.read (Elt Ideal) G (ix2 r l)
      = G (ix2 ⟨256 * (t.val / 4 - 1) + r.val, by have := tlt t; omega⟩ ⟨1280 * (t.val % 4) + l.val, by omega⟩) := by
  rw [View.read_apply]
  show G _ = G _
  congr 1
  funext a
  apply Fin.ext
  match a with
  | ⟨0, _⟩ => show win0_7.index t 0 * 256 + 1 * r.val = 256 * (t.val / 4 - 1) + r.val; rw [(ix7' t h4).1]; omega
  | ⟨1, _⟩ => show win0_7.index t 1 * 1280 + 1 * l.val = 1280 * (t.val % 4) + l.val; rw [(ix7' t h4).2]; omega

theorem V_main_v0 (c : Dev nD) (k : Fin 5120) : V m c main_v0 (ix2 0 k) = m ((c : Thread nD τ).loc main_arg3) (ix1 k) := by
  have e : V m c main_v0 = shapeCast S1x5120 (m ((c : Thread nD τ).loc main_arg3)) shapeCasts_S5120_S1x5120 := by
    show StableHlo.after hostOps0 _ (Proc.devRef .tc main_v0) = _
    after_results
    rfl
  rw [e]
  exact ValueIdx.shapeCast_a_1a_apply _ _ 0 k

theorem V_main_v1 (c : Dev nD) (k : Fin 5120) : V m c main_v1 (ix2 0 k) = m ((c : Thread nD τ).loc main_arg4) (ix1 k) := by
  have e : V m c main_v1 = shapeCast S1x5120 (m ((c : Thread nD τ).loc main_arg4)) shapeCasts_S5120_S1x5120 := by
    show StableHlo.after hostOps0 _ (Proc.devRef .tc main_v1) = _
    after_results
    rfl
  rw [e]
  exact ValueIdx.shapeCast_a_1a_apply _ _ 0 k

/-- The projection of the argument arrays. -/
def outArr (c : Dev nD) : S8192x5120.Idx → EReal :=
  outSpec (V m c main_arg0) (V m c main_arg2) (m ((c : Thread nD τ).loc main_arg3)) (m ((c : Thread nD τ).loc main_arg4))

theorem flushed7 (c : Dev nD) (t : Fin cfg0.N) (hf : (cfg0.win 7).flush t = true) :
    (dats m 0 c).flushed 7 t = ((cfg0.win 7).blk t).view.read (Elt Ideal) (outArr m c) := by
  have h4 := (fl7 t).1 hf
  have hlt := tlt t
  show (cfg0.win 7).cut _ ((dats m 0 c).after 7 t) = _
  rw [after0_7, out_block _ _ _ _ _ _ _ (fun r l => sOld_at m c t.val h4 hlt r l)]
  funext (y : S256x1280.Idx)
  obtain ⟨r, l, rfl⟩ : ∃ (r : Fin 256) (l : Fin 1280), y = ix2 r l := ⟨y 0, y 1, eq_ix2 y⟩
  refine Eq.trans ?_ (read7 _ t h4 r l).symm
  unfold outArr outSpec
  show (∑ x : Fin 6912, cOld m c t.val (ix2 r x) * FloatOps.sitofp (F := Ideal) .f32
      ((iblk m c 2 t : Vec Ideal S6912x5120 .i8) (ix2 x ⟨wcol (grid0.coords t) + l.val, wcol_lt (grid0.coords t) l⟩)))
    * rscale (fun k => V m c main_arg0 (ix2 ⟨256 * (t.val / 4 - 1) + r.val, _⟩ k)) * (iblk m c 3 t : Vec Ideal S1x1280 .f32) (ix2 0 l)
    + (iblk m c 4 t : Vec Ideal S1x1280 .f32) (ix2 0 l) = _
  rw [so_at, bo_at, V_main_v0, V_main_v1]
  simp only [w_at, cOld_at m c t.val h4 hlt]
  have e : ∀ x : Fin 6912, (ix2 x ⟨wcol (grid0.coords t) + l.val, wcol_lt (grid0.coords t) l⟩ : S6912x5120.Idx)
      = ix2 x ⟨1280 * (t.val % 4) + l.val, by omega⟩ := fun x => by
    congr 1; exact Fin.ext (by show 1280 * ((grid0.coords t 0).val % 4) + l.val = _; rw [coord0])
  simp only [e]
  rfl

theorem final7 (c : Dev nD) : (dats m 0 c).arrAt 7 cfg0.N = outArr m c :=
  (dats m 0 c).arrAt_eq_of_cover 7 _ (fun t hf => flushed7 m c t hf) fun i => by
    have h0 : (i 0 : Nat) < 8192 := (i 0).isLt
    have h1 : (i 1 : Nat) < 5120 := (i 1).isLt
    have hv : (pnt (4 * ((i 0 : Nat) / 256 + 1) + (i 1 : Nat) / 1280)).val = 4 * ((i 0 : Nat) / 256 + 1) + (i 1 : Nat) / 1280 := pnt_val (by omega)
    refine ⟨pnt (4 * ((i 0 : Nat) / 256 + 1) + (i 1 : Nat) / 1280), (fl7 _).2 (by omega), ?_⟩
    generalize pnt (4 * ((i 0 : Nat) / 256 + 1) + (i 1 : Nat) / 1280) = t at hv ⊢
    have h4 : 4 ≤ t.val := by omega
    show i ∈ ((View.whole main_v2_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256; rw [(ix7' t h4).1]; omega
    | ⟨1, _⟩ => show win0_7.index t 1 * 1280 ≤ (i 1 : Nat) ∧ (i 1 : Nat) < win0_7.index t 1 * 1280 + 1280; rw [(ix7' t h4).2]; omega

end Cert.Proof.Ker
end
-- ==== Proof.HExp.lean ====
/-
  THE EXPONENT OF A GROUP OF THE LAST STATE: counting the powers of two not above a positive value gives the floor of its
  logarithm, and the float with those exponent bits is that power of two.
-/
module
public import Idealize.ShloMosaic.PureOps.Ideal
public import Idealize.ShloMosaic.Lib.Pointwise
@[expose] public section
noncomputable section
namespace Cert.Proof
open Idealize.ShloMosaic

/-- A pattern with no sign, exponent field `j` and no fraction denotes `2 ^ (j - 127)`. -/
theorem ieee_pow (b : BitVec 32) (j : ℕ) (h1 : 1 ≤ j) (h2 : j ≤ 254) (a1 : (b.extractLsb' (8 + 23) 1 == 1#1) = false)
    (a2 : (b.extractLsb' 23 8).toNat = j) (a3 : (b.extractLsb' 0 23).toNat = 0) : Ideal.ieee 8 23 b = (((2 : ℝ) ^ ((j : ℤ) - 127) : ℝ) : EReal) := by
  unfold Ideal.ieee
  simp only [a1, a2, a3]
  rw [if_neg (by norm_num; omega), if_neg (by omega)]
  congr 1
  have e : (j : ℤ) - 127 = 23 + ((j : ℤ) - (2 ^ (8 - 1) - 1) - (23 : ℕ)) := by norm_num
  rw [e, zpow_add₀ (by norm_num : (2 : ℝ) ≠ 0)]
  norm_num

/-- The float with the exponent bits `j` and nothing else set. -/
def pw (j : ℕ) : EReal := Ideal.ofBits .f32 (BitVec.ofNat 32 j <<< 23)

theorem pw_fields : ∀ j : Fin 255, ((BitVec.ofNat 32 j.val <<< 23).extractLsb' (8 + 23) 1 == 1#1) = false
    ∧ ((BitVec.ofNat 32 j.val <<< 23).extractLsb' 23 8).toNat = j.val ∧ ((BitVec.ofNat 32 j.val <<< 23).extractLsb' 0 23).toNat = 0 := by
  decide +kernel

theorem pw_eq (j : ℕ) (h1 : 1 ≤ j) (h2 : j ≤ 254) : pw j = (((2 : ℝ) ^ ((j : ℤ) - 127) : ℝ) : EReal) :=
  have a := pw_fields ⟨j, by omega⟩
  ieee_pow _ j h1 h2 a.1 a.2.1 a.2.2

theorem pw_255 : pw 255 = ⊤ := by
  unfold pw
  simp [Ideal.ofBits, Ideal.ieee]

/-- How many of the powers of two `2^-126 … 2^127`, and the infinity, are not above `b`. -/
def cnt (b : EReal) : ℕ := ∑ j ∈ Finset.range 255, if pw (j + 1) ≤ b then 1 else 0

/-- The exponent the group is scaled by. -/
def ex (b : EReal) : ℤ := min 126 (max (-126) ((cnt b : ℤ) - 126))

theorem sum_le (m : ℕ) (z : ℤ) : (∑ j ∈ Finset.range m, if (j : ℤ) ≤ z then 1 else 0 : ℕ) = min m (z + 1).toNat := by
  induction m with
  | zero => simp
  | succ m ih => rw [Finset.sum_range_succ, ih]; split <;> omega

theorem cnt_le (b : EReal) : cnt b ≤ 255 := by
  refine (Finset.sum_le_card_nsmul _ _ 1 fun j _ => ?_).trans (by simp)
  split <;> simp

theorem cnt_top : cnt ⊤ = 255 := by simp [cnt]

theorem pw_le (j : ℕ) (h1 : 1 ≤ j) (h2 : j ≤ 254) (b : ℝ) (hb : 0 < b) : pw j ≤ (b : EReal) ↔ (j : ℤ) - 127 ≤ ⌊Real.log b / Real.log 2⌋ := by
  rw [pw_eq j h1 h2, EReal.coe_le_coe_iff, Int.le_floor, le_div_iff₀ (Real.log_pos (by norm_num)), ← Real.log_zpow,
    Real.log_le_log_iff (by positivity) hb]

theorem cnt_coe (b : ℝ) (hb : 0 < b) : cnt (b : EReal) = min 254 (⌊Real.log b / Real.log 2⌋ + 127).toNat := by
  unfold cnt
  rw [Finset.sum_range_succ, if_neg (by rw [pw_255]; simp), add_zero,
    show (⌊Real.log b / Real.log 2⌋ + 127) = (⌊Real.log b / Real.log 2⌋ + 126) + 1 by ring, ← sum_le]
  refine Finset.sum_congr rfl fun j hj => ?_
  have h := Finset.mem_range.1 hj
  have e := pw_le (j + 1) (by omega) (by omega) b hb
  congr 1
  rw [e]
  apply propext
  constructor <;> intro _ <;> push_cast at * <;> omega

theorem ofBits_two : Ideal.ofBits .f32 1073741824#32 = ((2 : ℝ) : EReal) := by
  simp [Ideal.ofBits, Ideal.ieee, -EReal.coe_mul]; norm_num

/-- The reference's exponent is the count's. -/
theorem ref_ex (b : EReal) (hb : 0 < b) :
    min ((126 : ℝ) : EReal) (max ((-126 : ℝ) : EReal) (Ideal.liftRound Int.floor (Ideal.div (Ideal.log b) (Ideal.log (Ideal.ofBits .f32 1073741824#32))) + 1))
      = ((ex b : ℝ) : EReal) := by
  have l2 : Real.log 2 ≠ 0 := (Real.log_pos (by norm_num)).ne'
  have hl : Ideal.log (Ideal.ofBits .f32 1073741824#32) = ((Real.log 2 : ℝ) : EReal) := by
    rw [ofBits_two]; show (if (2 : ℝ) ≤ 0 then (⊥ : EReal) else _) = _; rw [if_neg (by norm_num)]
  rw [hl]
  have hd : ∀ x : EReal, Ideal.div x ((Real.log 2 : ℝ) : EReal) = x * ((Real.log 2)⁻¹ : ℝ) := fun x => by
    unfold Ideal.div; rw [if_neg (by simpa using l2), ← EReal.coe_inv]
  rw [hd]
  induction b using EReal.rec with
  | bot => simp at hb
  | top =>
    have e : Ideal.log ⊤ * (((Real.log 2)⁻¹ : ℝ) : EReal) = ⊤ := EReal.top_mul_coe_of_pos (inv_pos.2 (Real.log_pos (by norm_num)))
    rw [e]
    show min _ (max _ ((⊤ : EReal) + 1)) = _
    have : (⊤ : EReal) + 1 = ⊤ := rfl
    rw [this, max_eq_right le_top, min_eq_left le_top]
    unfold ex; rw [cnt_top]; norm_num
  | coe b =>
    have hb' : 0 < b := by exact_mod_cast hb
    have e : Ideal.log (b : EReal) = ((Real.log b : ℝ) : EReal) := by show (if b ≤ 0 then (⊥ : EReal) else _) = _; rw [if_neg (by linarith)]
    rw [e, ← EReal.coe_mul, ← div_eq_mul_inv]
    show min _ (max _ ((((⌊Real.log b / Real.log 2⌋ : ℤ) : ℝ) : EReal) + 1)) = _
    unfold ex
    rw [cnt_coe b hb']
    generalize ⌊Real.log b / Real.log 2⌋ = L
    have h2 : min (126 : ℤ) (max (-126) (((min 254 (L + 127).toNat : ℕ) : ℤ) - 126)) = min 126 (max (-126) (L + 1)) := by omega
    rw [h2, ← EReal.coe_one, ← EReal.coe_add]
    rw [show (((min 126 (max (-126) (L + 1)) : ℤ) : ℝ) : ℝ) = min 126 (max (-126) ((L : ℝ) + 1)) by push_cast; rfl]
    exact (EReal.coe_strictMono.monotone.map_min.trans (congrArg _ EReal.coe_strictMono.monotone.map_max)).symm

/-- The power of two that the exponent's bits denote. -/
theorem pw_ex (z : ℤ) (h1 : -126 ≤ z) (h2 : z ≤ 126) : pw (z + 127).toNat = Ideal.exp2 ((z : ℝ) : EReal) := by
  rw [pw_eq _ (by omega) (by omega), show (((z + 127).toNat : ℤ) - 127) = z by omega]
  show _ = ((Real.rpow 2 (z : ℝ) : ℝ) : EReal)
  congr 1
  exact (Real.rpow_intCast 2 z).symm

end Cert.Proof
end
-- ==== Proof.HSpec.lean ====
/-
  THE CODES AND SCALES OF THE LAST STATE: groups of 128 columns, each scaled by the power of two above its largest magnitude
  divided by 448.
-/
module
public import proofs.«01_k».proof.Proof.Rows
public import proofs.«01_k».proof.Proof.HExp
@[expose] public section
noncomputable section
namespace Cert.Proof
open Idealize.ShloMosaic

/-- The group's largest magnitude over 448. -/
def hB (f : Fin 128 → EReal) : EReal := rmax f * Ideal.ofBits .f32 991054117#32
/-- Its exponent. -/
def hE (f : Fin 128 → EReal) : ℤ := if rmax f = 0 then 0 else ex (hB f)
/-- Its scale. -/
def hS (f : Fin 128 → EReal) : EReal := Ideal.exp2 ((hE f : ℝ) : EReal)
/-- Its codes. -/
def hC (f : Fin 128 → EReal) (l : Fin 128) : EReal :=
  min (Ideal.ofBits .f32 1138753536#32) (max (Ideal.ofBits .f32 3286237184#32) (f l * Ideal.exp2 (((-hE f : ℤ) : ℝ) : EReal)))

theorem hE_range (f : Fin 128 → EReal) : -126 ≤ hE f ∧ hE f ≤ 126 := by
  unfold hE ex
  split <;> omega

/-- The group of a column, and the column within it. -/
def grp (h : (⟨2, ![2, 6912]⟩ : Shape).Idx → EReal) (r : Fin 2) (g : Fin 54) : Fin 128 → EReal := fun x => h (ix2 r ⟨g.val * 128 + x.val, by omega⟩)

/-- The group and the place in it of a column. -/
def grpOf (c : Fin 6912) : Fin 54 := ⟨c.val / 128, by omega⟩
def lane (c : Fin 6912) : Fin 128 := ⟨c.val % 128, by omega⟩

/-- The codes of the whole state. -/
def hcSpec (h : (⟨2, ![2, 6912]⟩ : Shape).Idx → EReal) : (⟨2, ![2, 6912]⟩ : Shape).Idx → EReal := fun j =>
  hC (grp h (j 0) (grpOf (j 1))) (lane (j 1))
/-- The scales of the whole state. -/
def hsSpec (h : (⟨2, ![2, 6912]⟩ : Shape).Idx → EReal) : (⟨2, ![2, 54]⟩ : Shape).Idx → EReal := fun j => hS (grp h (j 0) (j 1))

/-- A group that is not all zero has a positive largest magnitude. -/
theorem hB_pos (f : Fin 128 → EReal) (h : rmax f ≠ 0) : 0 < hB f := by
  have h0 : 0 ≤ rmax f := by
    unfold rmax
    refine (Finset.le_fold_max _).2 (.inr ⟨0, Finset.mem_univ _, ?_⟩)
    show (0 : EReal) ≤ max (f 0) (-f 0)
    rcases le_total 0 (f 0) with h | h
    · exact le_max_of_le_left h
    · exact le_max_of_le_right (by simpa using EReal.neg_le_neg_iff.2 h)
  have hp : (0 : EReal) < Ideal.ofBits .f32 991054117#32 := by
    simp [Ideal.ofBits, Ideal.ieee, -EReal.coe_mul]
    try positivity
  exact EReal.mul_pos (lt_of_le_of_ne h0 (Ne.symm h)) hp

theorem c126 : Ideal.ofBits .f32 1123811328#32 = ((126 : ℝ) : EReal) := by
  simp [Ideal.ofBits, Ideal.ieee, -EReal.coe_mul]; norm_num
theorem cm126 : Ideal.ofBits .f32 3271294976#32 = ((-126 : ℝ) : EReal) := by
  simp [Ideal.ofBits, Ideal.ieee, -EReal.coe_mul]; norm_num

/-- The exponent by a logarithm. -/
theorem log_exp (f : Fin 128 → EReal) :
    (if rmax f = 0 then 0 else min (Ideal.ofBits .f32 1123811328#32) (max (Ideal.ofBits .f32 3271294976#32)
      (Ideal.liftRound Int.floor (Ideal.div (Ideal.log (rmax f * Ideal.ofBits .f32 991054117#32)) (Ideal.log (Ideal.ofBits .f32 1073741824#32))) + 1)))
      = ((hE f : ℝ) : EReal) := by
  unfold hE
  split
  · simp
  · rename_i h
    rw [c126, cm126]
    exact ref_ex _ (hB_pos f h)

end Cert.Proof
end
-- ==== Proof.HGroup.lean ====
/-
  ONE GROUP OF THE LAST STATE: the kernel's 32-bit exponent is the count's exponent, and so its codes and scale are those of
  the power of two.
-/
module
public import proofs.«01_k».proof.Proof.KernelIdealBody
public import proofs.«01_k».proof.Proof.HSpec
@[expose] public section
set_option maxRecDepth 16384
noncomputable section
namespace Cert.Proof.Ker
open Idealize.ShloMosaic Cert.KernelIdeal Cert.KernelIdeal.Gen

/-- A sum of words that hold small numbers. -/
theorem fold_ofNat (g : Fin 128 → BitVec 32) (n : Fin 128 → ℕ) (h : ∀ x, g x = BitVec.ofNat 32 (n x)) :
    Finset.fold IntOp.addi (0#32) g Finset.univ = BitVec.ofNat 32 (∑ x, n x) := by
  have a : ∀ s : Finset (Fin 128), Finset.fold IntOp.addi (0#32) g s = BitVec.ofNat 32 (∑ x ∈ s, n x) := by
    intro s
    induction s using Finset.induction with
    | empty => simp
    | insert x s hx ih =>
      rw [Finset.fold_insert hx, Finset.sum_insert hx, ih, h]
      exact (BitVec.ofNat_add _ _).symm
  exact a _

theorem word_lo : ∀ x : Fin 128, IntOp.shli ArithUnit.vector (IntOp.addi (BitVec.ofNat 32 x.val) 1#32) 23#32 = BitVec.ofNat 32 (x.val + 1) <<< 23 := by
  decide +kernel
theorem word_hi : ∀ x : Fin 128, x.val < 127 →
    IntOp.shli ArithUnit.vector (IntOp.minsi (IntOp.addi (BitVec.ofNat 32 x.val) 129#32) 255#32) 23#32 = BitVec.ofNat 32 (128 + x.val + 1) <<< 23 := by
  decide +kernel
theorem word_sel : ∀ x : Fin 128, Scalar.select (IntOp.cmpi CmpIPredicate.slt (BitVec.ofNat 32 x.val) 127#32) 1#32 0#32 = BitVec.ofNat 32 (if x.val < 127 then 1 else 0) := by
  decide +kernel
theorem word_clip : ∀ n : Fin 256, IntOp.minsi (126#32) (IntOp.maxsi (4294967170#32) (IntOp.subi (BitVec.ofNat 32 n.val) 126#32))
    = BitVec.ofInt 32 (min 126 (max (-126) ((n.val : ℤ) - 126))) := by
  decide +kernel
theorem word_scale : ∀ n : Fin 253, IntOp.shli ArithUnit.vector (IntOp.addi (BitVec.ofInt 32 ((n.val : ℤ) - 126)) 127#32) 23#32 = BitVec.ofNat 32 (n.val + 1) <<< 23 := by
  decide +kernel
theorem word_inv : ∀ n : Fin 253, IntOp.shli ArithUnit.vector (IntOp.subi 127#32 (BitVec.ofInt 32 ((n.val : ℤ) - 126))) 23#32 = BitVec.ofNat 32 (253 - n.val) <<< 23 := by
  decide +kernel

/-- The lanes' tests add up to the count. -/
theorem cnt_lanes (b : EReal) :
    (∑ x : Fin 128, ((if pw (x.val + 1) ≤ b then 1 else 0) + if pw (128 + x.val + 1) ≤ b then (if x.val < 127 then 1 else 0) else 0 : ℕ)) = cnt b := by
  rw [Finset.sum_add_distrib]
  unfold cnt
  rw [show (255 : ℕ) = 128 + 127 from rfl, Finset.sum_range_add]
  refine congrArg₂ (· + ·) ?_ ?_
  · rw [Finset.sum_range]
  · rw [Finset.sum_range fun x => if pw (128 + x + 1) ≤ b then 1 else 0, Fin.sum_univ_castSucc]
    rw [show (if pw (128 + (Fin.last 127).val + 1) ≤ b then (if (Fin.last 127).val < 127 then 1 else 0) else 0 : ℕ) = 0 by
      rw [if_neg (show ¬ (Fin.last 127).val < 127 by decide), ite_self], add_zero]
    refine Finset.sum_congr rfl fun x _ => ?_
    rw [if_pos (show (Fin.castSucc x).val < 127 from x.isLt)]
    rfl

theorem exp_word (v : Vec Ideal S2x128 .f32) (r : Fin 2) (l : Fin 1) :
    k0_pay12 (k0_pay5 v) (k0_pay7 v) (k0_pay8 v) k0_pay9 k0_pay10 k0_pay11 (ix2 r l) = BitVec.ofInt 32 (hE fun x => v (ix2 r x)) := by
  unfold_payloads
  pointwise
  show (if rmax (fun x => v (ix2 r x)) = 0 then _ else _) = _
  unfold hE
  by_cases h : rmax (fun x => v (ix2 r x)) = 0
  · rw [if_pos h, if_pos h]; rfl
  · rw [if_neg h, if_neg h]
    unfold ex
    rw [fold_ofNat _ (fun x => (if pw (x.val + 1) ≤ hB (fun x => v (ix2 r x)) then 1 else 0)
      + if pw (128 + x.val + 1) ≤ hB (fun x => v (ix2 r x)) then (if x.val < 127 then 1 else 0) else 0), cnt_lanes]
    · exact word_clip ⟨cnt _, by have := cnt_le (hB fun x => v (ix2 r x)); omega⟩
    · intro x
      rw [word_lo, word_sel]
      by_cases hx : x.val < 127
      · rw [word_hi x hx, if_pos hx]
        show IntOp.addi (if pw (x.val + 1) ≤ hB _ then 1#32 else 0#32) (if pw (128 + x.val + 1) ≤ hB _ then 1#32 else 0#32) = _
        split <;> split <;> rfl
      · rw [if_neg hx]
        show IntOp.addi (if pw (x.val + 1) ≤ hB _ then 1#32 else 0#32) (if _ then 0#32 else 0#32) = _
        split <;> split <;> simp <;> rfl

theorem hscl_apply (v : Vec Ideal S2x128 .f32) (r : Fin 2) (l : Fin 1) : hscl v (ix2 r l) = hS fun x => v (ix2 r x) := by
  unfold hscl k0_pay13
  pointwise
  rw [exp_word]
  obtain ⟨h1, h2⟩ := hE_range fun x => v (ix2 r x)
  have a := word_scale ⟨(hE (fun x => v (ix2 r x)) + 126).toNat, by omega⟩
  rw [show (((hE (fun x => v (ix2 r x)) + 126).toNat : ℤ) - 126) = hE (fun x => v (ix2 r x)) by omega] at a
  rw [a]
  unfold hS
  rw [← pw_ex _ h1 h2]
  unfold pw
  rw [show (hE (fun x => v (ix2 r x)) + 126).toNat + 1 = (hE (fun x => v (ix2 r x)) + 127).toNat by omega]

theorem hcode_apply (v : Vec Ideal S2x128 .f32) (r : Fin 2) (l : Fin 128) : hcode v (ix2 r l) = hC (fun x => v (ix2 r x)) l := by
  unfold hcode k0_pay14
  pointwise
  rw [exp_word]
  obtain ⟨h1, h2⟩ := hE_range fun x => v (ix2 r x)
  have a := word_inv ⟨(hE (fun x => v (ix2 r x)) + 126).toNat, by omega⟩
  rw [show (((hE (fun x => v (ix2 r x)) + 126).toNat : ℤ) - 126) = hE (fun x => v (ix2 r x)) by omega] at a
  rw [a]
  unfold hC
  rw [← pw_ex _ (by omega) (by omega)]
  unfold pw
  rw [show 253 - (hE (fun x => v (ix2 r x)) + 126).toNat = (-hE (fun x => v (ix2 r x)) + 127).toNat by omega]

end Cert.Proof.Ker
end
-- ==== Proof.HValue.lean ====
/-
  THE CODES AND SCALES OF THE LAST STATE: the first point stores both, and they are written back after the last point.
-/
module
public import proofs.«01_k».proof.Proof.KernelValue
public import proofs.«01_k».proof.Proof.HGroup
public import Idealize.ShloMosaic.Lib.Pipeline.ValueKit.Tiles
@[expose] public section
set_option maxRecDepth 16384
noncomputable section
namespace Cert.Proof.Ker
open Idealize.ShloMosaic Idealize.SL.Sem Cert.KernelIdeal Cert.KernelIdeal.Gen Idealize.ShloMosaic.TcCoe
open Idealize.ShloMosaic.Pipeline (Dat Cfg Window)

variable (m : (ℓ : Loc nD τ sig) → Buf (Elt Ideal) ℓ)

theorem ix1' : ∀ t : Fin cfg0.N, win0_1.index t 0 = 0 ∧ win0_1.index t 1 = 0 :=
  (by decide +kernel : ∀ t : Fin grid0.N, win0_1.index t 0 = 0 ∧ win0_1.index t 1 = 0)
theorem ix8' : ∀ t : Fin cfg0.N, win0_8.index t 0 = 0 ∧ win0_8.index t 1 = 0 :=
  (by decide +kernel : ∀ t : Fin grid0.N, win0_8.index t 0 = 0 ∧ win0_8.index t 1 = 0)
theorem ix9' : ∀ t : Fin cfg0.N, win0_9.index t 0 = 0 ∧ win0_9.index t 1 = 0 :=
  (by decide +kernel : ∀ t : Fin grid0.N, win0_9.index t 0 = 0 ∧ win0_9.index t 1 = 0)
theorem fl8 : ∀ t : Fin cfg0.N, (win0_8.flush t = true) ↔ t.val = 131 :=
  (by decide +kernel : ∀ t : Fin grid0.N, (win0_8.flush t = true) ↔ t.val = 131)
theorem fl9 : ∀ t : Fin cfg0.N, (win0_9.flush t = true) ↔ t.val = 131 :=
  (by decide +kernel : ∀ t : Fin grid0.N, (win0_9.flush t = true) ↔ t.val = 131)

theorem h_at (c : Dev nD) (t : Fin cfg0.N) : (iblk m c 1 t : Vec Ideal S2x6912 .f32) = V m c main_arg1 := by
  funext y
  unfold iblk
  rw [View.read_apply]
  show V m c main_arg1 _ = _
  congr 1
  funext a
  apply Fin.ext
  match a with
  | ⟨0, _⟩ => show win0_1.index t 0 * 2 + 1 * (y 0).val = (y 0).val; rw [(ix1' t).1]; omega
  | ⟨1, _⟩ => show win0_1.index t 1 * 6912 + 1 * (y 1).val = (y 1).val; rw [(ix1' t).2]; omega

/-- The 128 columns from column `128 g` are group `g`. -/
theorem hseg_at (x : Vec Ideal S2x6912 .f32) (o : ℕ) (inb : ∀ a, (![0, o] : Fin 2 → ℕ) a + S2x128.size a ≤ S2x6912.size a)
    (g : Fin 54) (ho : o = g.val * 128) (r : Fin 2) : (fun k => hseg x o inb (ix2 r k)) = grp x r g := by
  funext k
  show x _ = x _
  congr 1
  funext a
  apply Fin.ext
  match a with
  | ⟨0, _⟩ => show 0 + 1 * r.val = r.val; omega
  | ⟨1, _⟩ => show o + 1 * k.val = g.val * 128 + k.val; omega

theorem hc_piece (x : Vec Ideal S2x6912 .f32) (o : ℕ) (ho : o % 128 = 0) (inb : ∀ a, (![0, o] : Fin 2 → ℕ) a + S2x128.size a ≤ S2x6912.size a) :
    ∀ z : S2x128.Idx, hcode (hseg x o inb) z = hcSpec x ((Rect.unit (s := S2x6912) ![0, o] S2x128.size inb).emb z) := by
  intro z
  have h1 : o + 128 ≤ 6912 := inb 1
  idx_vars z
  have e : (Rect.unit (s := S2x6912) ![0, o] S2x128.size inb).emb (ix2 z0 z1) = ix2 z0 ⟨o + z1.val, by omega⟩ := by
    funext a
    apply Fin.ext
    match a with
    | ⟨0, _⟩ => show 0 + 1 * z0.val = z0.val; omega
    | ⟨1, _⟩ => show o + 1 * z1.val = o + z1.val; omega
  rw [e, hcode_apply]
  show hC _ _ = hC (grp x z0 (grpOf ⟨o + z1.val, _⟩)) (lane ⟨o + z1.val, _⟩)
  rw [hseg_at x o inb (grpOf ⟨o + z1.val, by omega⟩) (by show o = (o + z1.val) / 128 * 128; omega) z0]
  exact congrArg (hC _) (Fin.ext (by show z1.val = (o + z1.val) % 128; omega))

theorem hc_block (x : Vec Ideal S2x6912 .f32) : View.canon (Val := Elt Ideal) (hcL x) = hcSpec x := by
  funext y
  refine View.canon_apply_of_pieces (Val := Elt Ideal) (hcSpec x) (hcL x) ?_ y (hcL_cover x y)
  unfold hcL
  repeat (refine List.forall_mem_cons.2 ⟨hc_piece x _ (by decide) _, ?_⟩)
  exact fun p hp => absurd hp List.not_mem_nil

theorem inbG (n : Fin 54) : ∀ a, (![0, 128 * n.val] : Fin 2 → ℕ) a + S2x128.size a ≤ S2x6912.size a := by
  intro a
  match a with
  | ⟨0, _⟩ => show 0 + 2 ≤ 2; omega
  | ⟨1, _⟩ => show 128 * n.val + 128 ≤ 6912; omega

theorem hs_cat (x : Vec Ideal S2x6912 .f32) (h) (j : S2x54.Idx) :
    concatenate S2x54 1 (List.ofFn fun n : Fin 54 => (⟨S2x1, hscl (hseg x (128 * n.val) (inbG n))⟩ : (s : Shape) × (s.Idx → EReal))) h j = hsSpec x j := by
  refine concatenate_ofFn_unit_eq _ (fun n : Fin 54 => hscl (hseg x (128 * n.val) (inbG n))) h j _ rfl rfl fun n i hn h0 hb => ?_
  idx_vars i
  have e0 : i0 = j 0 := Fin.ext (hb 0 (by decide))
  have en : n = j 1 := Fin.ext hn.symm
  rw [hscl_apply]
  show hS _ = hS (grp x (j 0) (j 1))
  rw [hseg_at x (128 * n.val) (inbG n) n (Nat.mul_comm _ _) i0, e0, en]

theorem hs_block (x : Vec Ideal S2x6912 .f32) : hscB x = hsSpec x := by
  funext j
  unfold hscB k0_pay447
  exact hs_cat x _ j

theorem read8 (G : S2x6912.Idx → EReal) (t : Fin cfg0.N) : ((cfg0.win 8).blk t).view.read (Elt Ideal) G = G := by
  funext (y : S2x6912.Idx)
  rw [View.read_apply]
  show G _ = G _
  congr 1
  funext a
  apply Fin.ext
  match a with
  | ⟨0, _⟩ => show win0_8.index t 0 * 2 + 1 * (y 0).val = (y 0).val; rw [(ix8' t).1]; omega
  | ⟨1, _⟩ => show win0_8.index t 1 * 6912 + 1 * (y 1).val = (y 1).val; rw [(ix8' t).2]; omega

theorem read9 (G : S2x54.Idx → EReal) (t : Fin cfg0.N) : ((cfg0.win 9).blk t).view.read (Elt Ideal) G = G := by
  funext (y : S2x54.Idx)
  rw [View.read_apply]
  show G _ = G _
  congr 1
  funext a
  apply Fin.ext
  match a with
  | ⟨0, _⟩ => show win0_9.index t 0 * 2 + 1 * (y 0).val = (y 0).val; rw [(ix9' t).1]; omega
  | ⟨1, _⟩ => show win0_9.index t 1 * 54 + 1 * (y 1).val = (y 1).val; rw [(ix9' t).2]; omega

theorem flushed8 (c : Dev nD) (t : Fin cfg0.N) :
    (dats m 0 c).flushed 8 t = ((cfg0.win 8).blk t).view.read (Elt Ideal) (hcSpec (V m c main_arg1)) := by
  show (cfg0.win 8).cut _ ((dats m 0 c).after 8 t) = _
  rw [after0_8, hc_block, h_at]
  exact (read8 _ t).symm

theorem flushed9 (c : Dev nD) (t : Fin cfg0.N) :
    (dats m 0 c).flushed 9 t = ((cfg0.win 9).blk t).view.read (Elt Ideal) (hsSpec (V m c main_arg1)) := by
  show (cfg0.win 9).cut _ ((dats m 0 c).after 9 t) = _
  rw [after0_9, hs_block, h_at]
  exact (read9 _ t).symm

theorem final8 (c : Dev nD) : (dats m 0 c).arrAt 8 cfg0.N = hcSpec (V m c main_arg1) :=
  (dats m 0 c).arrAt_eq_of_cover 8 _ (fun t _ => flushed8 m c t) fun i => by
    have h0 : (i 0 : Nat) < 2 := (i 0).isLt
    have h1 : (i 1 : Nat) < 6912 := (i 1).isLt
    refine ⟨pnt 131, (fl8 _).2 (pnt_val (by omega)), ?_⟩
    generalize pnt 131 = t
    show i ∈ ((View.whole main_v2_3).slice (win0_8.rect t)).set
    rw [View.set_slice_whole, Rect.mem_set_unit]
    intro a
    match a with
    | ⟨0, _⟩ => show win0_8.index t 0 * 2 ≤ (i 0 : Nat) ∧ (i 0 : Nat) < win0_8.index t 0 * 2 + 2; rw [(ix8' t).1]; omega
    | ⟨1, _⟩ => show win0_8.index t 1 * 6912 ≤ (i 1 : Nat) ∧ (i 1 : Nat) < win0_8.index t 1 * 6912 + 6912; rw [(ix8' t).2]; omega

theorem final9 (c : Dev nD) : (dats m 0 c).arrAt 9 cfg0.N = hsSpec (V m c main_arg1) :=
  (dats m 0 c).arrAt_eq_of_cover 9 _ (fun t _ => flushed9 m c t) fun i => by
    have h0 : (i 0 : Nat) < 2 := (i 0).isLt
    have h1 : (i 1 : Nat) < 54 := (i 1).isLt
    refine ⟨pnt 131, (fl9 _).2 (pnt_val (by omega)), ?_⟩
    generalize pnt 131 = t
    show i ∈ ((View.whole main_v2_4).slice (win0_9.rect t)).set
    rw [View.set_slice_whole, Rect.mem_set_unit]
    intro a
    match a with
    | ⟨0, _⟩ => show win0_9.index t 0 * 2 ≤ (i 0 : Nat) ∧ (i 0 : Nat) < win0_9.index t 0 * 2 + 2; rw [(ix9' t).1]; omega
    | ⟨1, _⟩ => show win0_9.index t 1 * 54 ≤ (i 1 : Nat) ∧ (i 1 : Nat) < win0_9.index t 1 * 54 + 54; rw [(ix9' t).2]; omega

end Cert.Proof.Ker
end
-- ==== Proof.KernelRun.lean ====
/-
  THE KERNEL'S RUN WITH ITS VALUES, over the reals.
-/
module
public import proofs.«01_k».proof.Proof.HValue
public import Idealize.ShloMosaic.Lib.Claim
@[expose] public section
set_option maxRecDepth 16384
noncomputable section
namespace Cert.Proof.Ker
open Idealize.ShloMosaic Idealize.SL.Sem Cert.KernelIdeal Cert.KernelIdeal.Gen Idealize.ShloMosaic.TcCoe

variable (m : (ℓ : Loc nD τ sig) → Buf (Elt Ideal) ℓ) (ρ : Dev nD → PrngReg)

/-- Every run ends with the result arrays at these values and the arguments unchanged. -/
theorem run : θ_run (defs (F := Ideal)) (onTc (τ := τ) (main (F := Ideal))) ⟨m, fun _ => 0, ρ⟩ (fun r => ∀ c : Dev nD,
      r.2.mem ((c.tc : Thread nD τ).loc main_v2_0) = oqSpec (m ((c.tc : Thread nD τ).loc main_arg0))
      ∧ r.2.mem ((c.tc : Thread nD τ).loc main_v2_1) = osSpec (m ((c.tc : Thread nD τ).loc main_arg0))
      ∧ r.2.mem ((c.tc : Thread nD τ).loc main_v2_2) = outSpec (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v2_3) = hcSpec (m ((c.tc : Thread nD τ).loc main_arg1))
      ∧ r.2.mem ((c.tc : Thread nD τ).loc main_v2_4) = hsSpec (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).1 5).trans ((final5 m c).trans (congrArg oqSpec (V_main_arg0 m c))), ((h.1 c).1 6).trans ((final6 m c).trans (congrArg osSpec (V_main_arg0 m c))), ((h.1 c).1 7).trans ((final7 m c).trans (congrArg₂ (fun o w => outSpec o w (m ((c : Thread nD τ).loc main_arg3)) (m ((c : Thread nD τ).loc main_arg4))) (V_main_arg0 m c) (V_main_arg2 m c))), ((h.1 c).1 8).trans ((final8 m c).trans (congrArg hcSpec (V_main_arg1 m c))), ((h.1 c).1 9).trans ((final9 m c).trans (congrArg hsSpec (V_main_arg1 m c))), h.2 c⟩)
    (θ_run_and (run_main m ρ) (unchanged m ρ))

end Cert.Proof.Ker
end
-- ==== Proof.RefValue.lean ====
/-
  THE REFERENCE'S RUN WITH ITS VALUES, at any float instance: each result array ends holding the body's payload
  (Proof/Gen/ReferenceIdeal/Skeleton.lean) of the whole argument arrays. The body runs at one grid point, its windows
  are the whole arrays.
-/
module
public import proofs.«01_k».proof.Proof.Gen.ReferenceIdeal.Frame
public import Idealize.ShloMosaic.Lib.Pipeline.Value
public import Idealize.ShloMosaic.Lib.Affine
@[expose] public section
set_option maxRecDepth 16384
noncomputable section
namespace Cert.Proof.Ref
open Idealize.ShloMosaic Idealize.SL.Sem Cert.ReferenceIdeal
open Cert.ReferenceIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The one grid point. -/
def t₀ : Fin cfg0.N := ⟨0, by decide⟩

theorem z2 : (![0, 0] : Fin 2 → Nat) = fun _ => 0 := funext fun a => by fin_cases a <;> rfl
theorem z3 : (![0, 0, 0] : Fin 3 → Nat) = fun _ => 0 := funext fun a => by fin_cases a <;> rfl

/-- Window 0's one block is its whole array. -/
theorem iblk_0 (c : Dev nD) : (iblk m c 0 t₀ : Vec F S8192x6912 _) = V m c main_arg0 := by
  have hz : (fun a => (win0_0.index t₀) a * main_arg0.ty.shape.size a) = fun _ => 0 := funext fun a => by fin_cases a <;> decide
  exact Memref.read_access_unit_zero (Elt F) main_arg0 hz (fun a => by fin_cases a <;> decide) _

/-- Window 1's one block is its whole array. -/
theorem iblk_1 (c : Dev nD) : (iblk m c 1 t₀ : Vec F S2x6912 _) = V m c main_arg1 := by
  have hz : (fun a => (win0_1.index t₀) a * main_arg1.ty.shape.size a) = fun _ => 0 := funext fun a => by fin_cases a <;> decide
  exact Memref.read_access_unit_zero (Elt F) main_arg1 hz (fun a => by fin_cases a <;> decide) _

/-- Window 2's one block is its whole array. -/
theorem iblk_2 (c : Dev nD) : (iblk m c 2 t₀ : Vec F S6912x5120 _) = V m c main_arg2 := by
  have hz : (fun a => (win0_2.index t₀) a * main_arg2.ty.shape.size a) = fun _ => 0 := funext fun a => by fin_cases a <;> decide
  exact Memref.read_access_unit_zero (Elt F) main_arg2 hz (fun a => by fin_cases a <;> decide) _

/-- Window 3's one block is its whole array. -/
theorem iblk_3 (c : Dev nD) : (iblk m c 3 t₀ : Vec F S1x5120 _) = V m c main_v0 := by
  have hz : (fun a => (win0_3.index t₀) a * main_v0.ty.shape.size a) = fun _ => 0 := funext fun a => by fin_cases a <;> decide
  exact Memref.read_access_unit_zero (Elt F) main_v0 hz (fun a => by fin_cases a <;> decide) _

/-- Window 4's one block is its whole array. -/
theorem iblk_4 (c : Dev nD) : (iblk m c 4 t₀ : Vec F S1x5120 _) = V m c main_v1 := by
  have hz : (fun a => (win0_4.index t₀) a * main_v1.ty.shape.size a) = fun _ => 0 := funext fun a => by fin_cases a <;> decide
  exact Memref.read_access_unit_zero (Elt F) main_v1 hz (fun a => by fin_cases a <;> decide) _

/-- Window 5's result array after the run. -/
theorem final_5 (c : Dev nD) : (dats (F := F) m 0 c).arrAt 5 cfg0.N = k0_pay7 (V m c main_arg0) := by
  have ho : ((cfg0.win 5).blk t₀).view.read (Elt F) ((dats (F := F) m 0 c).arrAt 5 cfg0.N) = (dats (F := F) m 0 c).flushed 5 t₀ := by
    rw [show cfg0.N = (t₀ : Fin cfg0.N).val + 1 from rfl, (dats (F := F) m 0 c).arrAt_succ 5 t₀]
    rw [show (cfg0.win 5).flush t₀ = true from by decide, if_pos rfl]
    exact View.read_write_univ _ _
  have hz : (fun a => (win0_5.index t₀) a * main_v2_0.ty.shape.size a) = fun _ => 0 := funext fun a => by fin_cases a <;> decide
  have hr := fun f => Memref.read_access_unit_zero (Elt F) main_v2_0 hz (fun a => by fin_cases a <;> decide) f
  rw [hr] at ho
  rw [ho]
  show (cfg0.win 5).cut _ ((dats (F := F) m 0 c).after 5 t₀) = _
  rw [after0_5]
  unfold out0_5
  rw [View.canon_unit_zero (show (![0, 0] : Fin S8192x6912.rank → Nat) = fun _ => 0 from z2), View.ld_unit_zero (show (![0, 0] : Fin S8192x6912.rank → Nat) = fun _ => 0 from z2), iblk_0]
  rfl

/-- Window 6's result array after the run. -/
theorem final_6 (c : Dev nD) : (dats (F := F) m 0 c).arrAt 6 cfg0.N = k0_pay8 (V m c main_arg0) := by
  have ho : ((cfg0.win 6).blk t₀).view.read (Elt F) ((dats (F := F) m 0 c).arrAt 6 cfg0.N) = (dats (F := F) m 0 c).flushed 6 t₀ := by
    rw [show cfg0.N = (t₀ : Fin cfg0.N).val + 1 from rfl, (dats (F := F) m 0 c).arrAt_succ 6 t₀]
    rw [show (cfg0.win 6).flush t₀ = true from by decide, if_pos rfl]
    exact View.read_write_univ _ _
  have hz : (fun a => (win0_6.index t₀) a * main_v2_1.ty.shape.size a) = fun _ => 0 := funext fun a => by fin_cases a <;> decide
  have hr := fun f => Memref.read_access_unit_zero (Elt F) main_v2_1 hz (fun a => by fin_cases a <;> decide) f
  rw [hr] at ho
  rw [ho]
  show (cfg0.win 6).cut _ ((dats (F := F) m 0 c).after 6 t₀) = _
  rw [after0_6]
  unfold out0_6
  rw [View.canon_unit_zero (show (![0, 0, 0] : Fin S32x2x128.rank → Nat) = fun _ => 0 from z3), View.ld_unit_zero (show (![0, 0] : Fin S8192x6912.rank → Nat) = fun _ => 0 from z2), iblk_0]
  rfl

/-- Window 7's result array after the run. -/
theorem final_7 (c : Dev nD) : (dats (F := F) m 0 c).arrAt 7 cfg0.N = k0_pay9 (V m c main_arg0) (V m c main_arg2) (V m c main_v0) (V m c main_v1) := by
  have ho : ((cfg0.win 7).blk t₀).view.read (Elt F) ((dats (F := F) m 0 c).arrAt 7 cfg0.N) = (dats (F := F) m 0 c).flushed 7 t₀ := by
    rw [show cfg0.N = (t₀ : Fin cfg0.N).val + 1 from rfl, (dats (F := F) m 0 c).arrAt_succ 7 t₀]
    rw [show (cfg0.win 7).flush t₀ = true from by decide, if_pos rfl]
    exact View.read_write_univ _ _
  have hz : (fun a => (win0_7.index t₀) a * main_v2_2.ty.shape.size a) = fun _ => 0 := funext fun a => by fin_cases a <;> decide
  have hr := fun f => Memref.read_access_unit_zero (Elt F) main_v2_2 hz (fun a => by fin_cases a <;> decide) f
  rw [hr] at ho
  rw [ho]
  show (cfg0.win 7).cut _ ((dats (F := F) m 0 c).after 7 t₀) = _
  rw [after0_7]
  unfold out0_7
  rw [View.canon_unit_zero (show (![0, 0] : Fin S8192x5120.rank → Nat) = fun _ => 0 from z2), View.ld_unit_zero (show (![0, 0] : Fin S8192x6912.rank → Nat) = fun _ => 0 from z2), View.ld_unit_zero (show (![0, 0] : Fin S6912x5120.rank → Nat) = fun _ => 0 from z2), View.ld_unit_zero (show (![0, 0] : Fin S1x5120.rank → Nat) = fun _ => 0 from z2), View.ld_unit_zero (show (![0, 0] : Fin S1x5120.rank → Nat) = fun _ => 0 from z2), iblk_0, iblk_2, iblk_3, iblk_4]
  rfl

/-- Window 8's result array after the run. -/
theorem final_8 (c : Dev nD) : (dats (F := F) m 0 c).arrAt 8 cfg0.N = k0_pay4 (V m c main_arg1) := by
  have ho : ((cfg0.win 8).blk t₀).view.read (Elt F) ((dats (F := F) m 0 c).arrAt 8 cfg0.N) = (dats (F := F) m 0 c).flushed 8 t₀ := by
    rw [show cfg0.N = (t₀ : Fin cfg0.N).val + 1 from rfl, (dats (F := F) m 0 c).arrAt_succ 8 t₀]
    rw [show (cfg0.win 8).flush t₀ = true from by decide, if_pos rfl]
    exact View.read_write_univ _ _
  have hz : (fun a => (win0_8.index t₀) a * main_v2_3.ty.shape.size a) = fun _ => 0 := funext fun a => by fin_cases a <;> decide
  have hr := fun f => Memref.read_access_unit_zero (Elt F) main_v2_3 hz (fun a => by fin_cases a <;> decide) f
  rw [hr] at ho
  rw [ho]
  show (cfg0.win 8).cut _ ((dats (F := F) m 0 c).after 8 t₀) = _
  rw [after0_8]
  unfold out0_8
  rw [View.canon_unit_zero (show (![0, 0] : Fin S2x6912.rank → Nat) = fun _ => 0 from z2), View.ld_unit_zero (show (![0, 0] : Fin S2x6912.rank → Nat) = fun _ => 0 from z2), iblk_1]
  rfl

/-- Window 9's result array after the run. -/
theorem final_9 (c : Dev nD) : (dats (F := F) m 0 c).arrAt 9 cfg0.N = k0_pay3 (V m c main_arg1) := by
  have ho : ((cfg0.win 9).blk t₀).view.read (Elt F) ((dats (F := F) m 0 c).arrAt 9 cfg0.N) = (dats (F := F) m 0 c).flushed 9 t₀ := by
    rw [show cfg0.N = (t₀ : Fin cfg0.N).val + 1 from rfl, (dats (F := F) m 0 c).arrAt_succ 9 t₀]
    rw [show (cfg0.win 9).flush t₀ = true from by decide, if_pos rfl]
    exact View.read_write_univ _ _
  have hz : (fun a => (win0_9.index t₀) a * main_v2_4.ty.shape.size a) = fun _ => 0 := funext fun a => by fin_cases a <;> decide
  have hr := fun f => Memref.read_access_unit_zero (Elt F) main_v2_4 hz (fun a => by fin_cases a <;> decide) f
  rw [hr] at ho
  rw [ho]
  show (cfg0.win 9).cut _ ((dats (F := F) m 0 c).after 9 t₀) = _
  rw [after0_9]
  unfold out0_9
  rw [View.canon_unit_zero (show (![0, 0] : Fin S2x54.rank → Nat) = fun _ => 0 from z2), View.ld_unit_zero (show (![0, 0] : Fin S2x6912.rank → Nat) = fun _ => 0 from z2), iblk_1]
  rfl

/-- The scale row the region reads is the vector argument laid out as one row. -/
theorem V_main_v0 (c : Dev nD) : V m c main_v0 = shapeCast S1x5120 (m ((c : Thread nD τ).loc main_arg3)) shapeCasts_S5120_S1x5120 := by
  show StableHlo.after hostOps0 _ (Proc.devRef .tc main_v0) = _
  after_results
  rfl

theorem V_main_v1 (c : Dev nD) : V m c main_v1 = shapeCast S1x5120 (m ((c : Thread nD τ).loc main_arg4)) shapeCasts_S5120_S1x5120 := by
  show StableHlo.after hostOps0 _ (Proc.devRef .tc main_v1) = _
  after_results
  rfl

end Cert.Proof.Ref
end
-- ==== Proof.RefSpec.lean ====
/-
  The reference's payloads are the specification's functions of the arguments.
-/
module
public import proofs.«01_k».proof.Proof.Gen.ReferenceIdeal.Skeleton
public import proofs.«01_k».proof.Proof.Spec
@[expose] public section
set_option maxRecDepth 16384
noncomputable section
namespace Cert.Proof.Ref
open Idealize.ShloMosaic Cert.ReferenceIdeal Cert.ReferenceIdeal.Gen

theorem pay5_eq (v : Vec Ideal S8192x6912 .f32) :
    k0_pay5 v = scaleV (n := 8192) (w := 6912) v reduces_S8192x6912_S8192 shapeCasts_S8192_S8192x1 := rfl
theorem pay6_eq (v : Vec Ideal S8192x6912 .f32) :
    k0_pay6 v = codeV (n := 8192) (w := 6912) v reduces_S8192x6912_S8192 shapeCasts_S8192_S8192x1 broadcasts_S8192x1_S8192x6912 := rfl
theorem pay5_apply (v : Vec Ideal S8192x6912 .f32) (r : Fin 8192) (l : Fin 1) : k0_pay5 v (ix2 r l) = rscale fun k => v (ix2 r k) := by
  rw [pay5_eq]; exact scaleV_apply v _ _ r l
theorem pay6_apply (v : Vec Ideal S8192x6912 .f32) (r : Fin 8192) (l : Fin 6912) : k0_pay6 v (ix2 r l) = rcode (fun k => v (ix2 r k)) l := by
  rw [pay6_eq]; exact codeV_apply v _ _ _ r l

theorem oq_eq (v : Vec Ideal S8192x6912 .f32) : k0_pay7 v = oqSpec v := by
  funext j
  idx_vars j
  show FloatOps.fptosi (F := Ideal) (φ := .f32) 8 (k0_pay6 v (ix2 j0 j1)) = _
  rw [pay6_apply]; rfl

theorem cast_scale (x : FVec Ideal S8192x1 .f32) (a : Fin 32) (b : Fin 2) (l : Fin 128) :
    shapeCast S32x2x128 x shapeCasts_S8192x1_S32x2x128 (ix3 a b l) = x (ix2 (osRow a b l) 0) := by
  unfold osRow; pointwise

theorem os_eq (v : Vec Ideal S8192x6912 .f32) : k0_pay8 v = osSpec v := by
  funext j
  idx_vars j
  unfold k0_pay8
  refine (cast_scale (k0_pay5 v) j0 j1 j2).trans ?_
  rw [pay5_apply]; rfl

theorem spread (x : FVec Ideal S8192x1 .f32) (r : Fin 8192) (l : Fin 5120) :
    broadcastTo S8192x5120 x broadcasts_S8192x1_S8192x5120 (ix2 r l) = x (ix2 r 0) := by
  pointwise

theorem dot (v : FVec Ideal S8192x6912 .bf16) (w : FVec Ideal S6912x5120 .bf16) (r : Fin 8192) (l : Fin 5120) :
    (matmul dot_S8192x6912_S6912x5120_S8192x5120_1_0_0_1_n_n none v w (constant S8192x5120 .f32 0x00000000#32) : FVec Ideal S8192x5120 .f32) (ix2 r l)
      = ∑ x, v (ix2 r x) * w (ix2 x l) := by
  pointwise

theorem row (x : FVec Ideal S5120 .f32) (r : Fin 8192) (l : Fin 5120) :
    broadcastTo S8192x5120 (shapeCast S1x5120 (shapeCast S1x5120 x shapeCasts_S5120_S1x5120) shapeCasts_S1x5120_S1x5120) broadcasts_S1x5120_S8192x5120 (ix2 r l)
      = x (ix1 l) := by
  pointwise

theorem comb {s : Shape} (a b c d : FVec Ideal s .f32) (h : FTy.bf16.bits < FTy.f32.bits) (j : s.Idx) :
    truncf .bf16 (addf (mulf (mulf a b) c) d) h j = a j * b j * c j + d j := rfl
theorem trunc_at {s : Shape} (a : FVec Ideal s .f32) (h : FTy.bf16.bits < FTy.f32.bits) (j : s.Idx) : truncf .bf16 a h j = a j := rfl
theorem sitofp_at {s : Shape} (a : IVec s 8) (j : s.Idx) : sitofp (F := Ideal) .f32 a j = FloatOps.sitofp (F := Ideal) .f32 (a j) := rfl

theorem out_eq (v : Vec Ideal S8192x6912 .f32) (w : Vec Ideal S6912x5120 .i8) (so bo : Vec Ideal S5120 .f32) :
    k0_pay9 v w (shapeCast S1x5120 so shapeCasts_S5120_S1x5120) (shapeCast S1x5120 bo shapeCasts_S5120_S1x5120) = outSpec v w so bo := by
  funext j
  idx_vars j
  unfold k0_pay9
  refine (comb _ _ _ _ _ _).trans ?_
  rw [row so, row bo, spread, dot, pay5_apply]
  simp only [trunc_at, sitofp_at, pay6_apply]
  unfold outSpec
  rfl
end Cert.Proof.Ref
end
-- ==== Proof.HRef.lean ====
/-
  The reference's codes and scales of the last state are the specification's.
-/
module
public import proofs.«01_k».proof.Proof.Gen.ReferenceIdeal.Skeleton
public import proofs.«01_k».proof.Proof.HSpec
@[expose] public section
set_option maxRecDepth 16384
noncomputable section
namespace Cert.Proof.Ref
open Idealize.ShloMosaic Cert.ReferenceIdeal Cert.ReferenceIdeal.Gen

theorem exp_eq (v : Vec Ideal S2x6912 .f32) (r : Fin 2) (l : Fin 54) : k0_pay2 v (ix2 r l) = ((hE (grp v r l) : ℝ) : EReal) := by
  rw [← log_exp]
  unfold_payloads
  pointwise
  rfl

theorem hs_eq (v : Vec Ideal S2x6912 .f32) : k0_pay3 v = hsSpec v := by
  funext j
  idx_vars j
  show Ideal.exp2 (k0_pay2 v (ix2 j0 j1)) = _
  rw [exp_eq]
  rfl

theorem hc_eq (v : Vec Ideal S2x6912 .f32) : k0_pay4 v = hcSpec v := by
  funext j
  idx_vars j
  unfold k0_pay4 k0_pay1
  pointwise
  rw [exp_eq]
  unfold hcSpec hC
  show min _ (max _ (v (ix2 j0 j1) * Ideal.exp2 (0 - ((hE (grp v j0 (grpOf j1)) : ℝ) : EReal)))) =
    min _ (max _ (v (ix2 j0 ⟨j1.val / 128 * 128 + j1.val % 128, by omega⟩) * _))
  have e : (⟨j1.val / 128 * 128 + j1.val % 128, by omega⟩ : Fin 6912) = j1 := Fin.ext (Nat.div_add_mod' _ _)
  rw [e, ← EReal.coe_zero, ← EReal.coe_sub]
  push_cast
  rw [zero_sub]

end Cert.Proof.Ref
end
-- ==== Proof.RefRun.lean ====
/-
  THE REFERENCE'S RUN WITH ITS VALUES, over the reals.
-/
module
public import proofs.«01_k».proof.Proof.RefValue
public import proofs.«01_k».proof.Proof.RefSpec
public import proofs.«01_k».proof.Proof.HRef
public import Idealize.ShloMosaic.Lib.Claim
@[expose] public section
set_option maxRecDepth 16384
noncomputable section
namespace Cert.Proof.Ref
open Idealize.ShloMosaic Idealize.SL.Sem Cert.ReferenceIdeal Cert.ReferenceIdeal.Gen Idealize.ShloMosaic.TcCoe

variable (m : (ℓ : Loc nD τ sig) → Buf (Elt Ideal) ℓ) (ρ : Dev nD → PrngReg)

theorem out7 (c : Dev nD) : k0_pay9 (V m c main_arg0) (V m c main_arg2) (V m c main_v0) (V m c main_v1)
    = outSpec (m ((c.tc : Thread nD τ).loc main_arg0)) (m ((c.tc : Thread nD τ).loc main_arg2)) (m ((c.tc : Thread nD τ).loc main_arg3)) (m ((c.tc : Thread nD τ).loc main_arg4)) := by
  rw [V_main_v0, V_main_v1]
  refine (out_eq _ _ _ _).trans ?_
  rw [V_main_arg0, V_main_arg2]

/-- Every run ends with the result arrays at these values and the arguments unchanged. -/
theorem run : θ_run (defs (F := Ideal)) (onTc (τ := τ) (main (F := Ideal))) ⟨m, fun _ => 0, ρ⟩ (fun r => ∀ c : Dev nD,
      r.2.mem ((c.tc : Thread nD τ).loc main_v2_0) = oqSpec (m ((c.tc : Thread nD τ).loc main_arg0))
      ∧ r.2.mem ((c.tc : Thread nD τ).loc main_v2_1) = osSpec (m ((c.tc : Thread nD τ).loc main_arg0))
      ∧ r.2.mem ((c.tc : Thread nD τ).loc main_v2_2) = outSpec (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v2_3) = hcSpec (m ((c.tc : Thread nD τ).loc main_arg1))
      ∧ r.2.mem ((c.tc : Thread nD τ).loc main_v2_4) = hsSpec (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).1 5).trans ((final_5 m c).trans ((oq_eq _).trans (congrArg oqSpec (V_main_arg0 m c)))), ((h.1 c).1 6).trans ((final_6 m c).trans ((os_eq _).trans (congrArg osSpec (V_main_arg0 m c)))), ((h.1 c).1 7).trans ((final_7 m c).trans (out7 m c)), ((h.1 c).1 8).trans ((final_8 m c).trans ((hc_eq _).trans (congrArg hcSpec (V_main_arg1 m c)))), ((h.1 c).1 9).trans ((final_9 m c).trans ((hs_eq _).trans (congrArg hsSpec (V_main_arg1 m c)))), h.2 c⟩)
    (θ_run_and (run_main m ρ) (unchanged m ρ))

end Cert.Proof.Ref
end
-- ==== Proof.XSpec.lean ====
/-
  THE QUANTISED INPUT AS FUNCTIONS OF THE INPUT, entry by entry: each token's row of x is coded by its own scale.
-/
module
public import proofs.«01_k».proof.Proof.Rows
@[expose] public section
set_option maxRecDepth 16384
noncomputable section
namespace Cert.Proof
open Idealize.ShloMosaic

/-- Every entry coded by its row's scale. -/
def xqSpec (x : (⟨2, ![8192, 5120]⟩ : Shape).Idx → EReal) : (⟨2, ![8192, 5120]⟩ : Shape).Idx → BitVec 8 := fun j =>
  FloatOps.fptosi (F := Ideal) (φ := .f32) 8 (rcode (fun k => x (ix2 (j 0) k)) (j 1))

/-- The rows' scales, each spread over 128 lanes. -/
def xbSpec (x : (⟨2, ![8192, 5120]⟩ : Shape).Idx → EReal) : (⟨2, ![8192, 128]⟩ : Shape).Idx → EReal := fun j =>
  rscale fun k => x (ix2 (j 0) k)

/-- The rows' scales, 128 to a row: entry (a, b, l) belongs to row 256 a + 128 b + l. -/
def xsSpec (x : (⟨2, ![8192, 5120]⟩ : Shape).Idx → EReal) : (⟨3, ![32, 2, 128]⟩ : Shape).Idx → EReal := fun j =>
  rscale fun k => x (ix2 ⟨(j 0).val * 256 + (j 1).val * 128 + (j 2).val, by
    have h0 : (j 0).val < 32 := (j 0).isLt
    have h1 : (j 1).val < 2 := (j 1).isLt
    have h2 : (j 2).val < 128 := (j 2).isLt
    omega⟩ k)
end Cert.Proof
end
-- ==== Proof.XRows.lean ====
/-
  One block of 256 rows of the quantising call: eight groups of 32 rows, each coded alone; the block's outputs read at
  an index.
-/
module
public import proofs.«01_k».proof.Proof.Gen.QuantXIdeal.Frame
public import proofs.«01_k».proof.Proof.Windows
public import proofs.«01_k».proof.Proof.XSpec
@[expose] public section
set_option maxRecDepth 16384
noncomputable section
namespace Cert.Proof.Qx
open Idealize.ShloMosaic Cert.QuantXIdeal Cert.QuantXIdeal.Gen

/-- The codes of 32 rows. -/
def codes (v : Vec Ideal S32x5120 .bf16) : IVec S32x5120 8 := k0_pay5 v
/-- The scales of 32 rows, each spread over 128 lanes. -/
def lanes (v : Vec Ideal S32x5120 .bf16) : FVec Ideal S32x128 .f32 := k0_pay6 v

theorem pay4_apply (v : Vec Ideal S32x5120 .bf16) (r : Fin 32) (l : Fin 1) : k0_pay4 v (ix2 r l) = rscale fun k => v (ix2 r k) := by
  have e : k0_pay4 v = scaleV (n := 32) (w := 5120) (k0_pay3 v) reduces_S32x5120_S32 shapeCasts_S32_S32x1 := rfl
  have e3 : k0_pay3 v = v := by unfold k0_pay3; funext j; idx_vars j; pointwise
  rw [e, e3]; exact scaleV_apply v _ _ r l
theorem codes_apply (v : Vec Ideal S32x5120 .bf16) (r : Fin 32) (l : Fin 5120) :
    codes v (ix2 r l) = FloatOps.fptosi (F := Ideal) (φ := .f32) 8 (rcode (fun k => v (ix2 r k)) l) := by
  have e : codes v = fptosi 8 (codeV (n := 32) (w := 5120) (k0_pay3 v) reduces_S32x5120_S32 shapeCasts_S32_S32x1 broadcasts_S32x1_S32x5120) := rfl
  have e3 : k0_pay3 v = v := by unfold k0_pay3; funext j; idx_vars j; pointwise
  rw [e, e3]
  exact congrArg (FloatOps.fptosi (F := Ideal) (φ := .f32) 8) (codeV_apply v _ _ _ r l)
theorem lanes_apply (v : Vec Ideal S32x5120 .bf16) (r : Fin 32) (l : Fin 128) : lanes v (ix2 r l) = rscale fun k => v (ix2 r k) := by
  rw [← pay4_apply v r 0]
  unfold lanes k0_pay6
  pointwise

/-- What a block of 256 rows' codes ends at. -/
def xqE (x : Vec Ideal S256x5120 .bf16) : S256x5120.Idx → BitVec 8 := fun y =>
  FloatOps.fptosi (F := Ideal) (φ := .f32) 8 (rcode (fun k => x (ix2 (y 0) k)) (y 1))
/-- What a block of 256 rows' spread scales ends at. -/
def xbE (x : Vec Ideal S256x5120 .bf16) : S256x128.Idx → EReal := fun y => rscale fun k => x (ix2 (y 0) k)

section
variable (c : Dev nD) (i : grid0.Coords) (a1 : Memref sig .tc .vmem S256x5120 .bf16) (h1 : a1.IsWhole) (a2 : Memref sig .tc .vmem S256x5120 .i8) (h2 : a2.IsWhole)
  (a3 : Memref sig .tc .vmem S256x128 .f32) (h3 : a3.IsWhole) (a4 : Memref sig .tc .vmem S1x2x128 .f32) (h4 : a4.IsWhole) (x : Vec Ideal S256x5120 .bf16)

/-- The 32 rows from row o on, as the body loads them. -/
def ld (o : ℕ) (inb : ∀ a, (![o, 0] : Fin 2 → ℕ) a + S32x5120.size a ≤ S256x5120.size a) : Vec Ideal S32x5120 .bf16 :=
  a1.view.readAt (Elt Ideal) (Rect.unit (s := S256x5120) ![o, 0] S32x5120.size inb).toLoadRect (h1.unread x)

theorem ld_at (o : ℕ) (inb : ∀ a, (![o, 0] : Fin 2 → ℕ) a + S32x5120.size a ≤ S256x5120.size a) (r : Fin 32) (k : Fin 5120) (hr : o + r.val < 256) :
    ld a1 h1 x o inb (ix2 r k) = x (ix2 ⟨o + r.val, hr⟩ k) := by
  unfold ld
  refine (congrFun (readAt_unread_unit h1 x inb) (ix2 r k)).trans ?_
  show x _ = x _
  congr 1
  funext a
  apply Fin.ext
  match a with
  | ⟨0, _⟩ => show o + 1 * r.val = o + r.val; omega
  | ⟨1, _⟩ => show 0 + 1 * k.val = k.val; omega

theorem code_piece (o : ℕ) (ho : o + 32 ≤ 256) (inb : ∀ a, (![o, 0] : Fin 2 → ℕ) a + S32x5120.size a ≤ S256x5120.size a) (z : S32x5120.Idx) :
    codes (ld a1 h1 x o inb) z = xqE x ((Rect.unit (s := S256x5120) ![o, 0] S32x5120.size inb).emb z) := by
  idx_vars z
  rw [codes_apply]
  unfold xqE
  have e1 : (Rect.unit (s := S256x5120) ![o, 0] S32x5120.size inb).emb (ix2 z0 z1) 1 = z1 := Fin.ext (show 0 + 1 * z1.val = z1.val by omega)
  have e0 : (Rect.unit (s := S256x5120) ![o, 0] S32x5120.size inb).emb (ix2 z0 z1) 0 = (⟨o + z0.val, by omega⟩ : Fin 256) := Fin.ext (show o + 1 * z0.val = o + z0.val by omega)
  rw [e1, e0]
  simp only [ld_at a1 h1 x o inb z0 _ (by omega)]

theorem lane_piece (o : ℕ) (ho : o + 32 ≤ 256) (inb : ∀ a, (![o, 0] : Fin 2 → ℕ) a + S32x5120.size a ≤ S256x5120.size a)
    (inb' : ∀ a, (![o, 0] : Fin 2 → ℕ) a + S32x128.size a ≤ S256x128.size a) (z : S32x128.Idx) :
    lanes (ld a1 h1 x o inb) z = xbE x ((Rect.unit (s := S256x128) ![o, 0] S32x128.size inb').emb z) := by
  idx_vars z
  rw [lanes_apply]
  unfold xbE
  have e0 : (Rect.unit (s := S256x128) ![o, 0] S32x128.size inb').emb (ix2 z0 z1) 0 = (⟨o + z0.val, by omega⟩ : Fin 256) := Fin.ext (show o + 1 * z0.val = o + z0.val by omega)
  rw [e0]
  simp only [ld_at a1 h1 x o inb z0 _ (by omega)]

theorem codes_all : out0_A_1 c i a1 h1 a2 h2 a3 h3 a4 h4 x = xqE x := by
  unfold out0_A_1
  rw [View.read_writes_eq_canon _ _ _ (cover0_A_1 c i a1 h1 a2 h2 a3 h3 a4 h4 x)]
  funext y
  refine View.canon_apply_of_pieces (Val := Elt Ideal) (xqE x) _ ?_ y (cover0_A_1 c i a1 h1 a2 h2 a3 h3 a4 h4 x y)
  unfold kernelRun0_A
  dsimp only
  refine List.forall_mem_cons.2 ⟨code_piece a1 h1 x 224 (by decide) _, List.forall_mem_cons.2 ⟨code_piece a1 h1 x 192 (by decide) _,
    List.forall_mem_cons.2 ⟨code_piece a1 h1 x 160 (by decide) _, List.forall_mem_cons.2 ⟨code_piece a1 h1 x 128 (by decide) _,
    List.forall_mem_cons.2 ⟨code_piece a1 h1 x 96 (by decide) _, List.forall_mem_cons.2 ⟨code_piece a1 h1 x 64 (by decide) _,
    List.forall_mem_cons.2 ⟨code_piece a1 h1 x 32 (by decide) _, List.forall_mem_cons.2 ⟨code_piece a1 h1 x 0 (by decide) _,
    fun p hp => absurd hp List.not_mem_nil⟩⟩⟩⟩⟩⟩⟩⟩

/-- The eight stores of a block's spread scales, the last first. -/
theorem lanes_list : kernelRun0_A.sl.H2_8 c a1 h1 x =
    [⟨Rect.unit (s := S256x128) ![224, 0] S32x128.size inb_S256x128_S32x128_224_0, lanes (ld a1 h1 x 224 inb_S256x5120_S32x5120_224_0)⟩,
      ⟨Rect.unit (s := S256x128) ![192, 0] S32x128.size inb_S256x128_S32x128_192_0, lanes (ld a1 h1 x 192 inb_S256x5120_S32x5120_192_0)⟩,
      ⟨Rect.unit (s := S256x128) ![160, 0] S32x128.size inb_S256x128_S32x128_160_0, lanes (ld a1 h1 x 160 inb_S256x5120_S32x5120_160_0)⟩,
      ⟨Rect.unit (s := S256x128) ![128, 0] S32x128.size inb_S256x128_S32x128_128_0, lanes (ld a1 h1 x 128 inb_S256x5120_S32x5120_128_0)⟩,
      ⟨Rect.unit (s := S256x128) ![96, 0] S32x128.size inb_S256x128_S32x128_96_0, lanes (ld a1 h1 x 96 inb_S256x5120_S32x5120_96_0)⟩,
      ⟨Rect.unit (s := S256x128) ![64, 0] S32x128.size inb_S256x128_S32x128_64_0, lanes (ld a1 h1 x 64 inb_S256x5120_S32x5120_64_0)⟩,
      ⟨Rect.unit (s := S256x128) ![32, 0] S32x128.size inb_S256x128_S32x128_32_0, lanes (ld a1 h1 x 32 inb_S256x5120_S32x5120_32_0)⟩,
      ⟨Rect.unit (s := S256x128) ![0, 0] S32x128.size inb_S256x128_S32x128_0_0, lanes (ld a1 h1 x 0 inb_S256x5120_S32x5120_0_0)⟩] := by
  unfold kernelRun0_A.sl.H2_8
  rfl

include i a2 h2 a3 h3 a4 h4 in
theorem lanes_cover (y : S256x128.Idx) : ∃ p ∈ kernelRun0_A.sl.H2_8 c a1 h1 x, y ∈ p.1.set := by
  have h := cover0_A_2 c i a1 h1 a2 h2 a3 h3 a4 h4 x y
  unfold kernelRun0_A at h
  exact h

include i a2 h2 a3 h3 a4 h4 in
theorem lanes_canon : View.canon (Val := Elt Ideal) (kernelRun0_A.sl.H2_8 c a1 h1 x) = xbE x := by
  funext y
  refine View.canon_apply_of_pieces (Val := Elt Ideal) (xbE x) _ ?_ y (lanes_cover c i a1 h1 a2 h2 a3 h3 a4 h4 x y)
  rw [lanes_list]
  simp only [List.forall_mem_cons]
  exact ⟨lane_piece a1 h1 x 224 (by decide) inb_S256x5120_S32x5120_224_0 inb_S256x128_S32x128_224_0,
    lane_piece a1 h1 x 192 (by decide) inb_S256x5120_S32x5120_192_0 inb_S256x128_S32x128_192_0,
    lane_piece a1 h1 x 160 (by decide) inb_S256x5120_S32x5120_160_0 inb_S256x128_S32x128_160_0,
    lane_piece a1 h1 x 128 (by decide) inb_S256x5120_S32x5120_128_0 inb_S256x128_S32x128_128_0,
    lane_piece a1 h1 x 96 (by decide) inb_S256x5120_S32x5120_96_0 inb_S256x128_S32x128_96_0,
    lane_piece a1 h1 x 64 (by decide) inb_S256x5120_S32x5120_64_0 inb_S256x128_S32x128_64_0,
    lane_piece a1 h1 x 32 (by decide) inb_S256x5120_S32x5120_32_0 inb_S256x128_S32x128_32_0,
    lane_piece a1 h1 x 0 (by decide) inb_S256x5120_S32x5120_0_0 inb_S256x128_S32x128_0_0,
    fun p hp => absurd hp List.not_mem_nil⟩

theorem lanes_all : out0_A_2 c i a1 h1 a2 h2 a3 h3 a4 h4 x = xbE x := by
  unfold out0_A_2
  rw [View.read_writes_eq_canon _ _ _ (cover0_A_2 c i a1 h1 a2 h2 a3 h3 a4 h4 x)]
  refine Eq.trans ?_ (lanes_canon c i a1 h1 a2 h2 a3 h3 a4 h4 x)
  unfold kernelRun0_A
  rfl
end

theorem diag (f : Fin 128 → EReal) (l : Fin 128) :
    (∑ x : Fin 128, Scalar.select (IntOp.cmpi CmpIPredicate.eq (BitVec.ofNat 32 x.val) (BitVec.ofNat 32 l.val)) (f x) 0) = f l := by
  rw [Finset.sum_eq_single l]
  · simp [Scalar.select, IntOp.cmpi]
  · intro b _ hb
    have hne : (BitVec.ofNat 32 b.val == BitVec.ofNat 32 l.val) = false := beq_eq_false_iff_ne.2 fun h => hb (Fin.ext (by
      have := congrArg BitVec.toNat h
      simp only [BitVec.toNat_ofNat] at this
      omega))
    simp [Scalar.select, IntOp.cmpi, hne]
  · intro h; exact absurd (Finset.mem_univ l) h

/-- The dense scales of a block: the diagonals of the two 128 by 128 halves of its spread scales. -/
theorem pay2_apply (s : Vec Ideal S256x128 .f32) (r : Fin 2) (l : Fin 128) :
    k0_pay2 s (ix3 0 r l) = s (ix2 ⟨128 * r.val + l.val, by omega⟩ l) := by
  unfold_payloads
  pointwise
  split
  · rename_i h
    refine (diag (fun x => s (ix2 ⟨x.val, by omega⟩ l)) l).trans ?_
    refine congrArg s (congrArg (fun q => ix2 q l) (Fin.ext ?_))
    show l.val = 128 * r.val + l.val
    omega
  · rename_i h
    refine (diag (fun x => s (ix2 ⟨128 + x.val, by omega⟩ l)) l).trans ?_
    refine congrArg s (congrArg (fun q => ix2 q l) (Fin.ext ?_))
    show 128 + l.val = 128 * r.val + l.val
    omega

theorem z2 : (![0, 0] : Fin 2 → ℕ) = fun _ => 0 := funext fun a => by fin_cases a <;> rfl
theorem z3 : (![0, 0, 0] : Fin 3 → ℕ) = fun _ => 0 := funext fun a => by fin_cases a <;> rfl

theorem dense_all (c : Dev nD) (i : grid0.Coords) (a1 : Memref sig .tc .vmem S256x5120 .bf16) (h1 : a1.IsWhole) (a2 : Memref sig .tc .vmem S256x5120 .i8) (h2 : a2.IsWhole)
    (a3 : Memref sig .tc .vmem S256x128 .f32) (h3 : a3.IsWhole) (a4 : Memref sig .tc .vmem S1x2x128 .f32) (h4 : a4.IsWhole) (x : Vec Ideal S256x5120 .bf16) :
    out0_A_3 c i a1 h1 a2 h2 a3 h3 a4 h4 x = k0_pay2 (F := Ideal) (xbE x) := by
  unfold out0_A_3
  rw [View.read_writes_eq_canon _ _ _ (cover0_A_3 c i a1 h1 a2 h2 a3 h3 a4 h4 x)]
  unfold kernelRun0_A
  dsimp only
  rw [View.canon_unit_zero (show (![0, 0, 0] : Fin S1x2x128.rank → ℕ) = fun _ => 0 from z3)]
  refine congrArg (k0_pay2 (F := Ideal)) ?_
  unfold kernelRun0_A.sl.v192
  refine Eq.trans (View.readAt_full a3.view _ _) ?_
  rw [View.read_writes_eq_canon _ _ _ (lanes_cover c i a1 h1 a2 h2 a3 h3 a4 h4 x)]
  exact lanes_canon c i a1 h1 a2 h2 a3 h3 a4 h4 x
end Cert.Proof.Qx
end
-- ==== Proof.XValue.lean ====
/-
  THE QUANTISING CALL'S RESULT ARRAYS over the reals: point t codes rows 256 t to 256 t + 255, and the 32 blocks tile
  each result.
-/
module
public import proofs.«01_k».proof.Proof.XRows
public import Idealize.ShloMosaic.Lib.Pipeline.Value
public import Idealize.ShloMosaic.Lib.Affine
public import Idealize.ShloMosaic.Lib.Claim
@[expose] public section
set_option maxRecDepth 16384
noncomputable section
namespace Cert.Proof.Qx
open Idealize.ShloMosaic Idealize.SL.Sem Cert.QuantXIdeal Cert.QuantXIdeal.Gen Idealize.ShloMosaic.TcCoe
open Idealize.ShloMosaic.Pipeline (Dat Cfg Window)

variable (m : (ℓ : Loc nD τ sig) → Buf (Elt Ideal) ℓ) (ρ : Dev nD → PrngReg)

theorem ixa : ∀ t : Fin cfg0.N, win0_0.index t 0 = t.val ∧ win0_0.index t 1 = 0 :=
  (by decide +kernel : ∀ t : Fin grid0.N, win0_0.index t 0 = t.val ∧ win0_0.index t 1 = 0)
theorem ixb : ∀ t : Fin cfg0.N, win0_1.index t 0 = t.val ∧ win0_1.index t 1 = 0 :=
  (by decide +kernel : ∀ t : Fin grid0.N, win0_1.index t 0 = t.val ∧ win0_1.index t 1 = 0)
theorem ixc : ∀ t : Fin cfg0.N, win0_2.index t 0 = t.val ∧ win0_2.index t 1 = 0 :=
  (by decide +kernel : ∀ t : Fin grid0.N, win0_2.index t 0 = t.val ∧ win0_2.index t 1 = 0)
theorem ixd : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem fla : ∀ t : Fin cfg0.N, win0_1.flush t = true ∧ win0_2.flush t = true ∧ win0_3.flush t = true :=
  (by decide +kernel : ∀ t : Fin grid0.N, win0_1.flush t = true ∧ win0_2.flush t = true ∧ win0_3.flush t = true)

theorem tlt (t : Fin cfg0.N) : t.val < 32 := lt_of_lt_of_eq t.isLt N_0

/-- A grid point by its number. -/
def pnt (n : ℕ) (h : n < 32) : Fin cfg0.N := ⟨n, lt_of_lt_of_eq h N_0.symm⟩

/-- The input laid out as rows, 4096 of each sequence. -/
def rows (c : Dev nD) : S8192x5120.Idx → EReal := shapeCast S8192x5120 (m ((c : Thread nD τ).loc main_arg0)) shapeCasts_S2x4096x5120_S8192x5120

theorem V_main_v0 (c : Dev nD) : V m c main_v0 = rows m c := by
  show StableHlo.after hostOps0 _ (Proc.devRef .tc main_v0) = _
  after_results
  rfl

theorem x_at (c : Dev nD) (t : Fin cfg0.N) (r : Fin 256) (k : Fin 5120) :
    (iblk m c 0 t : Vec Ideal S256x5120 .bf16) (ix2 r k) = rows m c (ix2 ⟨256 * t.val + r.val, by have := tlt t; omega⟩ k) := by
  rw [← V_main_v0]
  unfold iblk
  rw [View.read_apply]
  show V m c main_v0 _ = _
  congr 1
  funext a
  apply Fin.ext
  match a with
  | ⟨0, _⟩ => show win0_0.index t 0 * 256 + 1 * r.val = 256 * t.val + r.val; rw [(ixa t).1]; omega
  | ⟨1, _⟩ => show win0_0.index t 1 * 5120 + 1 * k.val = k.val; rw [(ixa t).2]; omega

/-! ## The codes -/

theorem read1 (G : S8192x5120.Idx → BitVec 8) (t : Fin cfg0.N) (r : Fin 256) (l : Fin 5120) :
    ((cfg0.win 1).blk t).view.read (Elt Ideal) G (ix2 r l) = G (ix2 ⟨256 * t.val + r.val, by have := tlt t; omega⟩ l) := by
  rw [View.read_apply]
  show G _ = G _
  congr 1
  funext a
  apply Fin.ext
  match a with
  | ⟨0, _⟩ => show win0_1.index t 0 * 256 + 1 * r.val = 256 * t.val + r.val; rw [(ixb t).1]; omega
  | ⟨1, _⟩ => show win0_1.index t 1 * 5120 + 1 * l.val = l.val; rw [(ixb t).2]; omega

theorem flushed1 (c : Dev nD) (t : Fin cfg0.N) :
    (dats m 0 c).flushed 1 t = ((cfg0.win 1).blk t).view.read (Elt Ideal) (xqSpec (rows m c)) := by
  show (cfg0.win 1).cut _ ((dats m 0 c).after 1 t) = _
  rw [after0_1]
  simp only [outsAt0]
  rw [codes_all]
  funext (y : S256x5120.Idx)
  obtain ⟨r, l, rfl⟩ : ∃ (r : Fin 256) (l : Fin 5120), y = ix2 r l := ⟨y 0, y 1, eq_ix2 y⟩
  refine Eq.trans ?_ (read1 _ t r l).symm
  show xqE (iblk m c 0 t) (ix2 r l) = _
  unfold xqE xqSpec
  show FloatOps.fptosi (F := Ideal) (φ := .f32) 8 (rcode (fun k => (iblk m c 0 t : Vec Ideal S256x5120 .bf16) (ix2 r k)) l) = _
  simp only [x_at]
  rfl

theorem final1 (c : Dev nD) : (dats m 0 c).arrAt 1 cfg0.N = xqSpec (rows m c) :=
  (dats m 0 c).arrAt_eq_of_cover 1 _ (fun t _ => flushed1 m c t) fun i => by
    have h0 : (i 0 : Nat) < 8192 := (i 0).isLt
    have h1 : (i 1 : Nat) < 5120 := (i 1).isLt
    have hv : (pnt ((i 0 : Nat) / 256) (by omega)).val = (i 0 : Nat) / 256 := rfl
    generalize pnt ((i 0 : Nat) / 256) (by omega) = t at hv
    refine ⟨t, (fla t).1, ?_⟩
    show i ∈ ((View.whole main_v1_0).slice (win0_1.rect t)).set
    rw [View.set_slice_whole, Rect.mem_set_unit]
    intro a
    match a with
    | ⟨0, _⟩ => show win0_1.index t 0 * 256 ≤ (i 0 : Nat) ∧ (i 0 : Nat) < win0_1.index t 0 * 256 + 256; rw [(ixb t).1]; omega
    | ⟨1, _⟩ => show win0_1.index t 1 * 5120 ≤ (i 1 : Nat) ∧ (i 1 : Nat) < win0_1.index t 1 * 5120 + 5120; rw [(ixb t).2]; omega

/-! ## The spread scales -/

theorem read2 (G : S8192x128.Idx → EReal) (t : Fin cfg0.N) (r : Fin 256) (l : Fin 128) :
    ((cfg0.win 2).blk t).view.read (Elt Ideal) G (ix2 r l) = G (ix2 ⟨256 * t.val + r.val, by have := tlt t; omega⟩ l) := by
  rw [View.read_apply]
  show G _ = G _
  congr 1
  funext a
  apply Fin.ext
  match a with
  | ⟨0, _⟩ => show win0_2.index t 0 * 256 + 1 * r.val = 256 * t.val + r.val; rw [(ixc t).1]; omega
  | ⟨1, _⟩ => show win0_2.index t 1 * 128 + 1 * l.val = l.val; rw [(ixc t).2]; omega

theorem flushed2 (c : Dev nD) (t : Fin cfg0.N) :
    (dats m 0 c).flushed 2 t = ((cfg0.win 2).blk t).view.read (Elt Ideal) (xbSpec (rows m c)) := by
  show (cfg0.win 2).cut _ ((dats m 0 c).after 2 t) = _
  rw [after0_2]
  simp only [outsAt0]
  rw [lanes_all]
  funext (y : S256x128.Idx)
  obtain ⟨r, l, rfl⟩ : ∃ (r : Fin 256) (l : Fin 128), y = ix2 r l := ⟨y 0, y 1, eq_ix2 y⟩
  refine Eq.trans ?_ (read2 _ t r l).symm
  show xbE (iblk m c 0 t) (ix2 r l) = _
  unfold xbE xbSpec
  show rscale (fun k => (iblk m c 0 t : Vec Ideal S256x5120 .bf16) (ix2 r k)) = _
  simp only [x_at]
  rfl

theorem final2 (c : Dev nD) : (dats m 0 c).arrAt 2 cfg0.N = xbSpec (rows m c) :=
  (dats m 0 c).arrAt_eq_of_cover 2 _ (fun t _ => flushed2 m c t) fun i => by
    have h0 : (i 0 : Nat) < 8192 := (i 0).isLt
    have h1 : (i 1 : Nat) < 128 := (i 1).isLt
    have hv : (pnt ((i 0 : Nat) / 256) (by omega)).val = (i 0 : Nat) / 256 := rfl
    generalize pnt ((i 0 : Nat) / 256) (by omega) = t at hv
    refine ⟨t, (fla t).2.1, ?_⟩
    show i ∈ ((View.whole main_v1_1).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [(ixc t).1]; omega
    | ⟨1, _⟩ => show win0_2.index t 1 * 128 ≤ (i 1 : Nat) ∧ (i 1 : Nat) < win0_2.index t 1 * 128 + 128; rw [(ixc t).2]; omega

/-! ## The dense scales -/

theorem read3 (G : S32x2x128.Idx → EReal) (t : Fin cfg0.N) (r : Fin 2) (l : Fin 128) :
    ((cfg0.win 3).blk t).view.read (Elt Ideal) G (ix3 0 r l) = G (ix3 ⟨t.val, tlt t⟩ r l) := by
  rw [View.read_apply]
  show G _ = G _
  congr 1
  funext a
  apply Fin.ext
  match a with
  | ⟨0, _⟩ => show win0_3.index t 0 * 1 + 1 * 0 = t.val; rw [(ixd t).1]; omega
  | ⟨1, _⟩ => show win0_3.index t 1 * 2 + 1 * r.val = r.val; rw [(ixd t).2.1]; omega
  | ⟨2, _⟩ => show win0_3.index t 2 * 128 + 1 * l.val = l.val; rw [(ixd t).2.2]; omega

theorem flushed3 (c : Dev nD) (t : Fin cfg0.N) :
    (dats m 0 c).flushed 3 t = ((cfg0.win 3).blk t).view.read (Elt Ideal) (xsSpec (rows m c)) := by
  have hlt := tlt t
  show (cfg0.win 3).cut _ ((dats m 0 c).after 3 t) = _
  rw [after0_3]
  simp only [outsAt0]
  rw [dense_all]
  funext (y : S1x2x128.Idx)
  obtain ⟨r, l, rfl⟩ : ∃ (r : Fin 2) (l : Fin 128), y = ix3 0 r l :=
    ⟨y 1, y 2, (eq_ix3 y).trans (congrArg (fun q => ix3 q (y 1) (y 2)) (Subsingleton.elim (α := Fin 1) _ _))⟩
  refine Eq.trans ?_ (read3 _ t r l).symm
  show k0_pay2 (F := Ideal) (xbE (iblk m c 0 t)) (ix3 0 r l) = _
  rw [pay2_apply]
  unfold xbE xsSpec
  show rscale (fun k => (iblk m c 0 t : Vec Ideal S256x5120 .bf16) (ix2 ⟨128 * r.val + l.val, _⟩ k)) = _
  simp only [x_at]
  refine congrArg rscale (funext fun k => congrArg (rows m c) (congrArg (fun q => ix2 q k) (Fin.ext ?_)))
  show 256 * t.val + (128 * r.val + l.val) = t.val * 256 + r.val * 128 + l.val
  omega

theorem final3 (c : Dev nD) : (dats m 0 c).arrAt 3 cfg0.N = xsSpec (rows m c) :=
  (dats m 0 c).arrAt_eq_of_cover 3 _ (fun t _ => flushed3 m c t) fun i => by
    have h0 : (i 0 : Nat) < 32 := (i 0).isLt
    have h1 : (i 1 : Nat) < 2 := (i 1).isLt
    have h2 : (i 2 : Nat) < 128 := (i 2).isLt
    have hv : (pnt (i 0 : Nat) h0).val = (i 0 : Nat) := rfl
    generalize pnt (i 0 : Nat) h0 = t at hv
    refine ⟨t, (fla t).2.2, ?_⟩
    show i ∈ ((View.whole main_v1_2).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [(ixd t).1]; omega
    | ⟨1, _⟩ => show win0_3.index t 1 * 2 ≤ (i 1 : Nat) ∧ (i 1 : Nat) < win0_3.index t 1 * 2 + 2; rw [(ixd t).2.1]; omega
    | ⟨2, _⟩ => show win0_3.index t 2 * 128 ≤ (i 2 : Nat) ∧ (i 2 : Nat) < win0_3.index t 2 * 128 + 128; rw [(ixd t).2.2]; omega

/-- Every run ends with the result arrays at these values and the argument unchanged. -/
theorem run : θ_run (defs (F := Ideal)) (onTc (τ := τ) (main (F := Ideal))) ⟨m, fun _ => 0, ρ⟩ (fun r => ∀ c : Dev nD,
      r.2.mem ((c.tc : Thread nD τ).loc main_v1_0) = xqSpec (rows m c)
      ∧ r.2.mem ((c.tc : Thread nD τ).loc main_v1_1) = xbSpec (rows m c)
      ∧ r.2.mem ((c.tc : Thread nD τ).loc main_v1_2) = xsSpec (rows m c)
      ∧ r.2.mem ((c.tc : Thread nD τ).loc main_arg0) = m ((c.tc : Thread nD τ).loc main_arg0)) :=
  (θ_run defs _ _).mono (fun r h c =>
      ⟨((h.1 c).1 1).trans (final1 m c), ((h.1 c).1 2).trans (final2 m c), ((h.1 c).1 3).trans (final3 m c), h.2 c⟩)
    (θ_run_and (run_main m ρ) (unchanged m ρ))

end Cert.Proof.Qx
end
-- ==== Proof.XRef.lean ====
/-
  THE REFERENCE'S RUN OF THE QUANTISED INPUT over the reals: the body runs at one grid point on the whole arrays.
-/
module
public import proofs.«01_k».proof.Proof.Gen.XReferenceIdeal.Frame
public import proofs.«01_k».proof.Proof.XSpec
public import Idealize.ShloMosaic.Lib.Pipeline.Value
public import Idealize.ShloMosaic.Lib.Affine
public import Idealize.ShloMosaic.Lib.Claim
@[expose] public section
set_option maxRecDepth 16384
noncomputable section
namespace Cert.Proof.Rx
open Idealize.ShloMosaic Idealize.SL.Sem Cert.XReferenceIdeal Cert.XReferenceIdeal.Gen Idealize.ShloMosaic.TcCoe
open Idealize.ShloMosaic.Pipeline (Dat Cfg Window)

/-! ## The payloads are the specification's functions -/

theorem pay1_eq (v : Vec Ideal S8192x5120 .bf16) : k0_pay1 v = v := by unfold k0_pay1; funext j; idx_vars j; pointwise

theorem pay2_apply (v : Vec Ideal S8192x5120 .bf16) (r : Fin 8192) (l : Fin 1) : k0_pay2 v (ix2 r l) = rscale fun k => v (ix2 r k) := by
  have e : k0_pay2 v = scaleV (n := 8192) (w := 5120) (k0_pay1 v) reduces_S8192x5120_S8192 shapeCasts_S8192_S8192x1 := rfl
  rw [e, pay1_eq]; exact scaleV_apply v _ _ r l

theorem xq_eq (v : Vec Ideal S8192x5120 .bf16) : k0_pay3 v = xqSpec v := by
  funext j
  idx_vars j
  have e : k0_pay3 v = fptosi 8 (codeV (n := 8192) (w := 5120) (k0_pay1 v) reduces_S8192x5120_S8192 shapeCasts_S8192_S8192x1 broadcasts_S8192x1_S8192x5120) := rfl
  rw [e, pay1_eq]
  exact congrArg (FloatOps.fptosi (F := Ideal) (φ := .f32) 8) (codeV_apply v _ _ _ j0 j1)

theorem spread (x : FVec Ideal S8192x1 .f32) (r : Fin 8192) (l : Fin 128) :
    broadcastTo S8192x128 (shapeCast S8192x1 x shapeCasts_S8192x1_S8192x1) broadcasts_S8192x1_S8192x128 (ix2 r l) = x (ix2 r 0) := by
  pointwise

theorem xb_eq (v : Vec Ideal S8192x5120 .bf16) : k0_pay4 v = xbSpec v := by
  funext j
  idx_vars j
  refine (spread (k0_pay2 v) j0 j1).trans ?_
  rw [pay2_apply]; rfl

theorem cast_scale (x : FVec Ideal S8192x1 .f32) (a : Fin 32) (b : Fin 2) (l : Fin 128) :
    shapeCast S32x2x128 x shapeCasts_S8192x1_S32x2x128 (ix3 a b l) = x (ix2 ⟨a.val * 256 + b.val * 128 + l.val, by omega⟩ 0) := by
  pointwise

theorem xs_eq (v : Vec Ideal S8192x5120 .bf16) : k0_pay5 v = xsSpec v := by
  funext j
  idx_vars j
  refine (cast_scale (k0_pay2 v) j0 j1 j2).trans ?_
  rw [pay2_apply]; rfl

/-! ## The result arrays after the run -/

variable (m : (ℓ : Loc nD τ sig) → Buf (Elt Ideal) ℓ) (ρ : Dev nD → PrngReg)

/-- The one grid point. -/
def t₀ : Fin cfg0.N := ⟨0, by decide⟩

theorem z2 : (![0, 0] : Fin 2 → Nat) = fun _ => 0 := funext fun a => by fin_cases a <;> rfl
theorem z3 : (![0, 0, 0] : Fin 3 → Nat) = fun _ => 0 := funext fun a => by fin_cases a <;> rfl

/-- The input laid out as rows, 4096 of each sequence. -/
def rows (c : Dev nD) : S8192x5120.Idx → EReal := shapeCast S8192x5120 (m ((c : Thread nD τ).loc main_arg0)) shapeCasts_S2x4096x5120_S8192x5120

theorem V_main_v0 (c : Dev nD) : V m c main_v0 = rows m c := by
  show StableHlo.after hostOps0 _ (Proc.devRef .tc main_v0) = _
  after_results
  rfl

/-- Window 0's one block is its whole array. -/
theorem iblk_0 (c : Dev nD) : (iblk m c 0 t₀ : Vec Ideal S8192x5120 _) = rows m c := by
  rw [← V_main_v0]
  have hz : (fun a => (win0_0.index t₀) a * main_v0.ty.shape.size a) = fun _ => 0 := funext fun a => by fin_cases a <;> decide
  exact Memref.read_access_unit_zero (Elt Ideal) main_v0 hz (fun a => by fin_cases a <;> decide) _

/-- Window 1's result array after the run. -/
theorem final_1 (c : Dev nD) : (dats (F := Ideal) m 0 c).arrAt 1 cfg0.N = xqSpec (rows m c) := by
  have ho : ((cfg0.win 1).blk t₀).view.read (Elt Ideal) ((dats (F := Ideal) m 0 c).arrAt 1 cfg0.N) = (dats (F := Ideal) m 0 c).flushed 1 t₀ := by
    rw [show cfg0.N = (t₀ : Fin cfg0.N).val + 1 from rfl, (dats (F := Ideal) m 0 c).arrAt_succ 1 t₀]
    rw [show (cfg0.win 1).flush t₀ = true from by decide, if_pos rfl]
    exact View.read_write_univ _ _
  have hz : (fun a => (win0_1.index t₀) a * main_v1_0.ty.shape.size a) = fun _ => 0 := funext fun a => by fin_cases a <;> decide
  have hr := fun f => Memref.read_access_unit_zero (Elt Ideal) main_v1_0 hz (fun a => by fin_cases a <;> decide) f
  rw [hr] at ho
  rw [ho]
  show (cfg0.win 1).cut _ ((dats (F := Ideal) m 0 c).after 1 t₀) = _
  rw [after0_1]
  unfold out0_1
  rw [View.canon_unit_zero (show (![0, 0] : Fin S8192x5120.rank → Nat) = fun _ => 0 from z2), View.ld_unit_zero (show (![0, 0] : Fin S8192x5120.rank → Nat) = fun _ => 0 from z2), iblk_0]
  exact xq_eq (rows m c)

/-- Window 2's result array after the run. -/
theorem final_2 (c : Dev nD) : (dats (F := Ideal) m 0 c).arrAt 2 cfg0.N = xbSpec (rows m c) := by
  have ho : ((cfg0.win 2).blk t₀).view.read (Elt Ideal) ((dats (F := Ideal) m 0 c).arrAt 2 cfg0.N) = (dats (F := Ideal) m 0 c).flushed 2 t₀ := by
    rw [show cfg0.N = (t₀ : Fin cfg0.N).val + 1 from rfl, (dats (F := Ideal) m 0 c).arrAt_succ 2 t₀]
    rw [show (cfg0.win 2).flush t₀ = true from by decide, if_pos rfl]
    exact View.read_write_univ _ _
  have hz : (fun a => (win0_2.index t₀) a * main_v1_1.ty.shape.size a) = fun _ => 0 := funext fun a => by fin_cases a <;> decide
  have hr := fun f => Memref.read_access_unit_zero (Elt Ideal) main_v1_1 hz (fun a => by fin_cases a <;> decide) f
  rw [hr] at ho
  rw [ho]
  show (cfg0.win 2).cut _ ((dats (F := Ideal) m 0 c).after 2 t₀) = _
  rw [after0_2]
  unfold out0_2
  rw [View.canon_unit_zero (show (![0, 0] : Fin S8192x128.rank → Nat) = fun _ => 0 from z2), View.ld_unit_zero (show (![0, 0] : Fin S8192x5120.rank → Nat) = fun _ => 0 from z2), iblk_0]
  exact xb_eq (rows m c)

/-- Window 3's result array after the run. -/
theorem final_3 (c : Dev nD) : (dats (F := Ideal) m 0 c).arrAt 3 cfg0.N = xsSpec (rows m c) := by
  have ho : ((cfg0.win 3).blk t₀).view.read (Elt Ideal) ((dats (F := Ideal) m 0 c).arrAt 3 cfg0.N) = (dats (F := Ideal) m 0 c).flushed 3 t₀ := by
    rw [show cfg0.N = (t₀ : Fin cfg0.N).val + 1 from rfl, (dats (F := Ideal) m 0 c).arrAt_succ 3 t₀]
    rw [show (cfg0.win 3).flush t₀ = true from by decide, if_pos rfl]
    exact View.read_write_univ _ _
  have hz : (fun a => (win0_3.index t₀) a * main_v1_2.ty.shape.size a) = fun _ => 0 := funext fun a => by fin_cases a <;> decide
  have hr := fun f => Memref.read_access_unit_zero (Elt Ideal) main_v1_2 hz (fun a => by fin_cases a <;> decide) f
  rw [hr] at ho
  rw [ho]
  show (cfg0.win 3).cut _ ((dats (F := Ideal) m 0 c).after 3 t₀) = _
  rw [after0_3]
  unfold out0_3
  rw [View.canon_unit_zero (show (![0, 0, 0] : Fin S32x2x128.rank → Nat) = fun _ => 0 from z3), View.ld_unit_zero (show (![0, 0] : Fin S8192x5120.rank → Nat) = fun _ => 0 from z2), iblk_0]
  exact xs_eq (rows m c)

/-- Every run ends with the result arrays at these values and the argument unchanged. -/
theorem run : θ_run (defs (F := Ideal)) (onTc (τ := τ) (main (F := Ideal))) ⟨m, fun _ => 0, ρ⟩ (fun r => ∀ c : Dev nD,
      r.2.mem ((c.tc : Thread nD τ).loc main_v1_0) = xqSpec (rows m c)
      ∧ r.2.mem ((c.tc : Thread nD τ).loc main_v1_1) = xbSpec (rows m c)
      ∧ r.2.mem ((c.tc : Thread nD τ).loc main_v1_2) = xsSpec (rows m c)
      ∧ r.2.mem ((c.tc : Thread nD τ).loc main_arg0) = m ((c.tc : Thread nD τ).loc main_arg0)) :=
  (θ_run defs _ _).mono (fun r h c =>
      ⟨((h.1 c).1 1).trans (final_1 m c), ((h.1 c).1 2).trans (final_2 m c), ((h.1 c).1 3).trans (final_3 m c), h.2 c⟩)
    (θ_run_and (run_main m ρ) (unchanged m ρ))

end Cert.Proof.Rx
end
-- ==== Proof.PSpec.lean ====
/-
  A PROJECTION AS A FUNCTION OF THE ARGUMENTS: the coded rows times a weight of codes, scaled by row and by column, and
  biased, entry by entry.
-/
module
public import Idealize.ShloMosaic.Lib.Pointwise
public import Idealize.ShloMosaic.Lib.ValueLayoutCasts
@[expose] public section
set_option maxRecDepth 16384
noncomputable section
namespace Cert.Proof
open Idealize.ShloMosaic

/-- A row of codes times a column of codes. -/
def dotSpec {n w : Nat} (x : (⟨2, ![n, 5120]⟩ : Shape).Idx → BitVec 8) (w_ : (⟨2, ![5120, w]⟩ : Shape).Idx → BitVec 8) (r : Fin n) (l : Fin w) : EReal :=
  ∑ k : Fin 5120, FloatOps.sitofp (F := Ideal) .f32 (x (ix2 r k)) * FloatOps.sitofp (F := Ideal) .f32 (w_ (ix2 k l))

/-- The projection of every row. -/
def prSpec (x : (⟨2, ![8192, 5120]⟩ : Shape).Idx → BitVec 8) (xs : (⟨1, ![8192]⟩ : Shape).Idx → EReal) (w : (⟨2, ![5120, 6912]⟩ : Shape).Idx → BitVec 8)
    (s b : (⟨1, ![6912]⟩ : Shape).Idx → EReal) : (⟨2, ![8192, 6912]⟩ : Shape).Idx → EReal := fun j =>
  dotSpec x w (j 0) (j 1) * xs (ix1 (j 0)) * s (ix1 (j 1)) + b (ix1 (j 1))
end Cert.Proof
end
-- ==== Proof.PTile.lean ====
/-
  One grid point of the projections: a tile of products of codes, and a tile of products scaled and biased 32 rows by
  128 columns at a time, each block read at an index.
-/
module
public import proofs.«01_k».proof.Proof.Gen.MixerIdeal.Skeleton
public import proofs.«01_k».proof.Proof.Windows
public import Idealize.ShloMosaic.Lib.Pipeline.CanonAppend
public import proofs.«01_k».proof.Proof.PSpec
@[expose] public section
set_option maxRecDepth 16384
noncomputable section
namespace Cert.Proof.Mx
open Idealize.ShloMosaic Cert.MixerIdeal Cert.MixerIdeal.Gen

/-- 256 columns of the products. -/
def mm (w : Vec Ideal S5120x256 .i8) (x : Vec Ideal S256x5120 .bf16) : FVec Ideal S256x256 .f32 := k0_pay4 w x
/-- A tile of codes as it enters the product. -/
def cast16 (x : Vec Ideal S256x5120 .i8) : FVec Ideal S256x5120 .bf16 := k0_pay3 x
/-- Products scaled by row and column, and biased. -/
def deq (tok p : Vec Ideal S32x128 .f32) (s b : Vec Ideal S1x128 .f32) : FVec Ideal S32x128 .f32 := k0_pay6 tok p s b

theorem cast16_apply (x : Vec Ideal S256x5120 .i8) (r : Fin 256) (k : Fin 5120) : cast16 x (ix2 r k) = FloatOps.sitofp (F := Ideal) .f32 (x (ix2 r k)) := by
  unfold cast16 k0_pay3; pointwise
theorem mm_apply (w : Vec Ideal S5120x256 .i8) (x : Vec Ideal S256x5120 .i8) (r : Fin 256) (l : Fin 256) :
    mm w (cast16 x) (ix2 r l) = dotSpec x w r l := by
  unfold mm k0_pay4 dotSpec
  simp only [← cast16_apply]
  pointwise
theorem deq_apply (tok p : Vec Ideal S32x128 .f32) (s b : Vec Ideal S1x128 .f32) (r : Fin 32) (l : Fin 128) :
    deq tok p s b (ix2 r l) = p (ix2 r l) * tok (ix2 r l) * s (ix2 0 l) + b (ix2 0 l) := by
  unfold deq k0_pay6 k0_pay5; pointwise

/-- The last eight rows of 32. -/
def last8 (tok p : Vec Ideal S32x128 .f32) (s b : Vec Ideal S1x128 .f32) : FVec Ideal S8x128 .f32 := k0_pay7 tok p s b
theorem last8_apply (tok p : Vec Ideal S32x128 .f32) (s b : Vec Ideal S1x128 .f32) (r : Fin 8) (l : Fin 128) :
    last8 tok p s b (ix2 r l) = deq tok p s b (ix2 (⟨24 + r.val, by omega⟩ : Fin 32) l) := by
  unfold last8 k0_pay7
  show extractStridedSlice S8x128 ![24, 0] (deq tok p s b) slices_S32x128_o24_0_S8x128 _ = _
  generalize deq tok p s b = v
  pointwise
/-- Eight rows as a block of one sequence. -/
def asBlock (v : Vec Ideal S8x768 .f32) : FVec Ideal S1x8x768 .f32 := k0_pay2 v
theorem asBlock_apply (v : Vec Ideal S8x768 .f32) (r : Fin 8) (l : Fin 768) : asBlock v (ix3 0 r l) = v (ix2 r l) := by
  unfold asBlock k0_pay2; pointwise

/-- The products of a tile: 768 columns of one weight, then 768 of the other. -/
def prodE (x : Vec Ideal S256x5120 .i8) (wy wx : Vec Ideal S5120x768 .i8) : S256x1536.Idx → EReal := fun y =>
  if h : (y 1).val < 768 then dotSpec x wy (y 0) (⟨(y 1).val, h⟩ : Fin 768) else dotSpec x wx (y 0) (⟨(y 1).val - 768, by have : (y 1).val < 1536 := (y 1).isLt; omega⟩ : Fin 768)

/-- A tile of scaled products, from column off of the products on. -/
def deqE (off : ℕ) (ho : off ≤ 768) (tok : Vec Ideal S256x128 .f32) (p : Vec Ideal S256x1536 .f32) (s b : Vec Ideal S1x768 .f32) : S256x768.Idx → EReal := fun y =>
  p (ix2 (y 0) (⟨off + (y 1).val, by have : (y 1).val < 768 := (y 1).isLt; omega⟩ : Fin 1536)) * tok (ix2 (y 0) (⟨(y 1).val % 128, Nat.mod_lt _ (by decide)⟩ : Fin 128))
    * s (ix2 0 (y 1)) + b (ix2 0 (y 1))

theorem win2_at {α : Type} {n w n' w' : ℕ} (x : (⟨2, ![n, w]⟩ : Shape).Idx → α) (o l : ℕ)
    (inb : ∀ a, (![o, l] : Fin 2 → ℕ) a + (![n', w'] : Fin 2 → ℕ) a ≤ (⟨2, ![n, w]⟩ : Shape).size a) (r : Fin n') (k : Fin w') (hr : o + r.val < n) (hk : l + k.val < w) :
    win x ![o, l] ![n', w'] inb (ix2 r k) = x (ix2 ⟨o + r.val, hr⟩ ⟨l + k.val, hk⟩) := by
  show x _ = x _
  congr 1
  funext a
  apply Fin.ext
  match a with
  | ⟨0, _⟩ => show o + 1 * r.val = o + r.val; omega
  | ⟨1, _⟩ => show l + 1 * k.val = l + k.val; omega

theorem emb2 {n w n' w' : ℕ} (o l : ℕ) (inb : ∀ a, (![o, l] : Fin 2 → ℕ) a + (![n', w'] : Fin 2 → ℕ) a ≤ (⟨2, ![n, w]⟩ : Shape).size a)
    (r : Fin n') (k : Fin w') (hr : o + r.val < n) (hk : l + k.val < w) :
    (Rect.unit (s := ⟨2, ![n, w]⟩) ![o, l] ![n', w'] inb).emb (ix2 r k) = ix2 ⟨o + r.val, hr⟩ ⟨l + k.val, hk⟩ := by
  funext a
  apply Fin.ext
  match a with
  | ⟨0, _⟩ => show o + 1 * r.val = o + r.val; omega
  | ⟨1, _⟩ => show l + 1 * k.val = l + k.val; omega

section
variable {a2 : Memref sig .tc .vmem S256x128 .f32} (h2 : a2.IsWhole) {ap : Memref sig .tc .vmem S256x1536 .f32} (hp : ap.IsWhole)
  {as_ : Memref sig .tc .vmem S1x768 .f32} (hs : as_.IsWhole) {ab : Memref sig .tc .vmem S1x768 .f32} (hb : ab.IsWhole)
  (off : ℕ) (ho : off ≤ 768) (tok : Vec Ideal S256x128 .f32) (p : Vec Ideal S256x1536 .f32) (s b : Vec Ideal S1x768 .f32)

theorem inb_tok (r : Fin 8) : ∀ a, (![32 * r.val, 0] : Fin 2 → ℕ) a + S32x128.size a ≤ S256x128.size a := fun a => by
  match a with
  | ⟨0, _⟩ => show 32 * r.val + 32 ≤ 256; omega
  | ⟨1, _⟩ => show 0 + 128 ≤ 128; omega
theorem inb_row (l : Fin 6) : ∀ a, (![0, 128 * l.val] : Fin 2 → ℕ) a + S1x128.size a ≤ S1x768.size a := fun a => by
  match a with
  | ⟨0, _⟩ => show 0 + 1 ≤ 1; omega
  | ⟨1, _⟩ => show 128 * l.val + 128 ≤ 768; omega
include ho in
theorem inb_p (r : Fin 8) (l : Fin 6) : ∀ a, (![32 * r.val, off + 128 * l.val] : Fin 2 → ℕ) a + S32x128.size a ≤ S256x1536.size a := fun a => by
  match a with
  | ⟨0, _⟩ => show 32 * r.val + 32 ≤ 256; omega
  | ⟨1, _⟩ => show off + 128 * l.val + 128 ≤ 1536; omega
theorem inb_out (r : Fin 8) (l : Fin 6) : ∀ a, (![32 * r.val, 128 * l.val] : Fin 2 → ℕ) a + S32x128.size a ≤ S256x768.size a := fun a => by
  match a with
  | ⟨0, _⟩ => show 32 * r.val + 32 ≤ 256; omega
  | ⟨1, _⟩ => show 128 * l.val + 128 ≤ 768; omega

/-- The store of 32 rows and 128 columns. -/
def piece (r : Fin 8) (l : Fin 6) : View.Piece (Elt Ideal) S256x768 .f32 :=
  ⟨Rect.unit (s := S256x768) ![32 * r.val, 128 * l.val] S32x128.size (inb_out r l),
    deq (a2.view.readAt (Elt Ideal) (Rect.unit (s := S256x128) ![32 * r.val, 0] S32x128.size (inb_tok r)).toLoadRect (h2.unread tok))
      (ap.view.readAt (Elt Ideal) (Rect.unit (s := S256x1536) ![32 * r.val, off + 128 * l.val] S32x128.size (inb_p off ho r l)).toLoadRect (hp.unread p))
      (as_.view.readAt (Elt Ideal) (Rect.unit (s := S1x768) ![0, 128 * l.val] S1x128.size (inb_row l)).toLoadRect (hs.unread s))
      (ab.view.readAt (Elt Ideal) (Rect.unit (s := S1x768) ![0, 128 * l.val] S1x128.size (inb_row l)).toLoadRect (hb.unread b))⟩

theorem piece_at (r : Fin 8) (l : Fin 6) (z : S32x128.Idx) :
    (piece h2 hp hs hb off ho tok p s b r l).2 z = deqE off ho tok p s b ((piece h2 hp hs hb off ho tok p s b r l).1.emb z) := by
  idx_vars z
  unfold piece
  show deq _ _ _ _ (ix2 z0 z1) = deqE off ho tok p s b ((Rect.unit (s := S256x768) ![32 * r.val, 128 * l.val] S32x128.size (inb_out r l)).emb (ix2 z0 z1))
  rw [deq_apply, readAt_unread_unit h2, readAt_unread_unit hp, readAt_unread_unit hs, readAt_unread_unit hb]
  have e := emb2 (n := 256) (w := 768) (n' := 32) (w' := 128) (32 * r.val) (128 * l.val) (inb_out r l) z0 z1 (by omega) (by omega)
  refine Eq.trans ?_ (congrArg (deqE off ho tok p s b) e).symm
  unfold deqE
  have e1 := win2_at (n := 256) (w := 128) (n' := 32) (w' := 128) tok (32 * r.val) 0 (inb_tok r) z0 z1 (by omega) (by omega)
  have e2 := win2_at (n := 256) (w := 1536) (n' := 32) (w' := 128) p (32 * r.val) (off + 128 * l.val) (inb_p off ho r l) z0 z1 (by omega) (by omega)
  have e3 := win2_at (n := 1) (w := 768) (n' := 1) (w' := 128) s 0 (128 * l.val) (inb_row l) 0 z1 (by decide) (by omega)
  have e4 := win2_at (n := 1) (w := 768) (n' := 1) (w' := 128) b 0 (128 * l.val) (inb_row l) 0 z1 (by decide) (by omega)
  refine congrArg₂ (· + ·) (congrArg₂ (· * ·) (congrArg₂ (· * ·) (e2.trans ?_) (e1.trans ?_)) e3) e4
  · exact congrArg (fun q => p (ix2 (⟨32 * r.val + z0.val, by omega⟩ : Fin 256) q)) (Fin.ext (show off + 128 * l.val + z1.val = off + (128 * l.val + z1.val) by omega))
  · exact congrArg (fun q => tok (ix2 (⟨32 * r.val + z0.val, by omega⟩ : Fin 256) q)) (Fin.ext (show 0 + z1.val = (128 * l.val + z1.val) % 128 by omega))

/-- The stores of a tile, the last one first: the second half of the columns, then the first, rows from the last up. -/
def pieces : List (View.Piece (Elt Ideal) S256x768 .f32) :=
  (List.flatMap (fun r => List.map (piece h2 hp hs hb off ho tok p s b r) [5, 4, 3]) [7, 6, 5, 4, 3, 2, 1, 0])
    ++ List.flatMap (fun r => List.map (piece h2 hp hs hb off ho tok p s b r) [2, 1, 0]) [7, 6, 5, 4, 3, 2, 1, 0]

theorem canon_pieces (cover : ∀ y, ∃ q ∈ pieces h2 hp hs hb off ho tok p s b, y ∈ q.1.set) :
    View.canon (Val := Elt Ideal) (pieces h2 hp hs hb off ho tok p s b) = deqE off ho tok p s b := by
  funext y
  refine View.canon_apply_of_pieces (Val := Elt Ideal) _ _ (fun q hq => ?_) y (cover y)
  unfold pieces at hq
  rw [List.mem_append, List.mem_flatMap, List.mem_flatMap] at hq
  obtain ⟨r, -, hq⟩ | ⟨r, -, hq⟩ := hq <;> obtain ⟨l, -, rfl⟩ := List.mem_map.1 hq <;> exact piece_at h2 hp hs hb off ho tok p s b r l

theorem inb_hist (l : Fin 6) : ∀ a, (![0, 128 * l.val] : Fin 2 → ℕ) a + S8x128.size a ≤ S8x768.size a := fun a => by
  match a with
  | ⟨0, _⟩ => show 0 + 8 ≤ 8; omega
  | ⟨1, _⟩ => show 128 * l.val + 128 ≤ 768; omega

/-- The store of the last eight of 32 rows, 128 columns, into the history. -/
def hpiece (r : Fin 8) (l : Fin 6) : View.Piece (Elt Ideal) S8x768 .f32 :=
  ⟨Rect.unit (s := S8x768) ![0, 128 * l.val] S8x128.size (inb_hist l),
    last8 (a2.view.readAt (Elt Ideal) (Rect.unit (s := S256x128) ![32 * r.val, 0] S32x128.size (inb_tok r)).toLoadRect (h2.unread tok))
      (ap.view.readAt (Elt Ideal) (Rect.unit (s := S256x1536) ![32 * r.val, off + 128 * l.val] S32x128.size (inb_p off ho r l)).toLoadRect (hp.unread p))
      (as_.view.readAt (Elt Ideal) (Rect.unit (s := S1x768) ![0, 128 * l.val] S1x128.size (inb_row l)).toLoadRect (hs.unread s))
      (ab.view.readAt (Elt Ideal) (Rect.unit (s := S1x768) ![0, 128 * l.val] S1x128.size (inb_row l)).toLoadRect (hb.unread b))⟩

/-- The last eight rows of a tile. -/
def histE : S8x768.Idx → EReal := fun y => deqE off ho tok p s b (ix2 (⟨248 + (y 0).val, by have : (y 0).val < 8 := (y 0).isLt; omega⟩ : Fin 256) (y 1))

theorem hpiece_at (l : Fin 6) (z : S8x128.Idx) :
    (hpiece h2 hp hs hb off ho tok p s b 7 l).2 z = histE off ho tok p s b ((hpiece h2 hp hs hb off ho tok p s b 7 l).1.emb z) := by
  idx_vars z
  unfold hpiece
  show last8 _ _ _ _ (ix2 z0 z1) = histE off ho tok p s b ((Rect.unit (s := S8x768) ![0, 128 * l.val] S8x128.size (inb_hist l)).emb (ix2 z0 z1))
  rw [last8_apply]
  refine (piece_at h2 hp hs hb off ho tok p s b 7 l (ix2 (⟨24 + z0.val, by omega⟩ : Fin 32) z1)).trans ?_
  have e := emb2 (n := 8) (w := 768) (n' := 8) (w' := 128) 0 (128 * l.val) (inb_hist l) z0 z1 (by omega) (by omega)
  have e' := emb2 (n := 256) (w := 768) (n' := 32) (w' := 128) (32 * 7) (128 * l.val) (inb_out 7 l) (⟨24 + z0.val, by omega⟩ : Fin 32) z1 (by show 32 * 7 + (24 + z0.val) < 256; omega) (by omega)
  refine (congrArg (deqE off ho tok p s b) e').trans (Eq.trans ?_ (congrArg (histE off ho tok p s b) e).symm)
  unfold histE
  exact congrArg (fun q => deqE off ho tok p s b (ix2 q (⟨128 * l.val + z1.val, by omega⟩ : Fin 768))) (Fin.ext (show 32 * 7 + (24 + z0.val) = 248 + (0 + z0.val) by omega))

/-- The stores into the history of one half of the columns, the last one first. -/
def hhalf (ls : List (Fin 6)) : List (View.Piece (Elt Ideal) S8x768 .f32) :=
  List.flatMap (fun r => List.map (hpiece h2 hp hs hb off ho tok p s b r) ls) [7, 6, 5, 4, 3, 2, 1, 0]

theorem hhalf_at (ls : List (Fin 6)) (L : List (View.Piece (Elt Ideal) S8x768 .f32)) (y : S8x768.Idx) (l : Fin 6) (hl : l ∈ ls) (hy : (y 1).val / 128 = l.val) :
    View.canon (Val := Elt Ideal) (hhalf h2 hp hs hb off ho tok p s b ls ++ L) y = histE off ho tok p s b y := by
  unfold hhalf
  rw [List.flatMap_cons, List.append_assoc]
  refine View.canon_append_of_pieces (Val := Elt Ideal) _ _ _ (fun q hq => ?_) y ⟨_, List.mem_map.2 ⟨l, hl, rfl⟩, ?_⟩
  · obtain ⟨l', -, rfl⟩ := List.mem_map.1 hq
    exact hpiece_at h2 hp hs hb off ho tok p s b l'
  · show y ∈ (Rect.unit (s := S8x768) ![0, 128 * l.val] S8x128.size (inb_hist l)).set
    rw [Rect.mem_set_unit]
    have hy0 : (y 0).val < 8 := (y 0).isLt
    intro a
    match a with
    | ⟨0, _⟩ => show 0 ≤ (y 0).val ∧ (y 0).val < 0 + 8; omega
    | ⟨1, _⟩ => show 128 * l.val ≤ (y 1).val ∧ (y 1).val < 128 * l.val + 128; omega

theorem hhalf_off (ls : List (Fin 6)) (L : List (View.Piece (Elt Ideal) S8x768 .f32)) (y : S8x768.Idx) (hy : ∀ l ∈ ls, (y 1).val / 128 ≠ l.val) :
    View.canon (Val := Elt Ideal) (hhalf h2 hp hs hb off ho tok p s b ls ++ L) y = View.canon (Val := Elt Ideal) L y := by
  have h : ∀ q ∈ hhalf h2 hp hs hb off ho tok p s b ls, y ∉ q.1.set := by
    intro q hq hm
    unfold hhalf at hq
    rw [List.mem_flatMap] at hq
    obtain ⟨r, -, hq⟩ := hq
    obtain ⟨l, hl, rfl⟩ := List.mem_map.1 hq
    have hm' : y ∈ (Rect.unit (s := S8x768) ![0, 128 * l.val] S8x128.size (inb_hist l)).set := hm
    rw [Rect.mem_set_unit] at hm'
    have h1 : 128 * l.val ≤ (y 1).val ∧ (y 1).val < 128 * l.val + 128 := hm' 1
    exact hy l hl (by omega)
  generalize hhalf h2 hp hs hb off ho tok p s b ls = M at h
  induction M with
  | nil => rfl
  | cons q M ih =>
    rw [List.cons_append, View.canon_cons_of_not_mem _ _ (h q (by simp))]
    exact ih fun q' hq' => h q' (by simp [hq'])

/-- All stores of a tile into the history, the last one first. -/
def hpieces : List (View.Piece (Elt Ideal) S8x768 .f32) :=
  hhalf h2 hp hs hb off ho tok p s b [5, 4, 3] ++ (hhalf h2 hp hs hb off ho tok p s b [2, 1, 0] ++ [])

theorem canon_hpieces : View.canon (Val := Elt Ideal) (hpieces h2 hp hs hb off ho tok p s b) = histE off ho tok p s b := by
  funext y
  have hy1 : (y 1).val < 768 := (y 1).isLt
  unfold hpieces
  by_cases h : (y 1).val < 384
  · rw [hhalf_off h2 hp hs hb off ho tok p s b [5, 4, 3] _ y (by
      intro l hl e
      simp only [List.mem_cons, List.not_mem_nil, or_false] at hl
      rcases hl with rfl | rfl | rfl
      · have e' : (y 1).val / 128 = 5 := e; omega
      · have e' : (y 1).val / 128 = 4 := e; omega
      · have e' : (y 1).val / 128 = 3 := e; omega)]
    refine hhalf_at h2 hp hs hb off ho tok p s b [2, 1, 0] [] y ⟨(y 1).val / 128, by omega⟩ ?_ rfl
    obtain h' | h' | h' : (y 1).val / 128 = 0 ∨ (y 1).val / 128 = 1 ∨ (y 1).val / 128 = 2 := by omega
    all_goals simp [Fin.ext_iff, h']
  · refine hhalf_at h2 hp hs hb off ho tok p s b [5, 4, 3] _ y ⟨(y 1).val / 128, by omega⟩ ?_ rfl
    obtain h' | h' | h' : (y 1).val / 128 = 3 ∨ (y 1).val / 128 = 4 ∨ (y 1).val / 128 = 5 := by omega
    all_goals simp [Fin.ext_iff, h']

theorem hpieces_cover (y : S8x768.Idx) : ∃ q ∈ hpieces h2 hp hs hb off ho tok p s b, y ∈ q.1.set := by
  have hy0 : (y 0).val < 8 := (y 0).isLt
  have hy1 : (y 1).val < 768 := (y 1).isLt
  have hm : ∀ l : Fin 6, hpiece h2 hp hs hb off ho tok p s b 7 l ∈ hpieces h2 hp hs hb off ho tok p s b := by
    intro l
    unfold hpieces hhalf
    rw [List.mem_append, List.mem_append, List.mem_flatMap, List.mem_flatMap]
    by_cases h : l.val < 3
    · exact .inr (.inl ⟨7, by simp, List.mem_map.2 ⟨l, by
        obtain h' | h' | h' : l.val = 0 ∨ l.val = 1 ∨ l.val = 2 := by omega
        all_goals simp [Fin.ext_iff, h'], rfl⟩⟩)
    · exact .inl ⟨7, by simp, List.mem_map.2 ⟨l, by
        obtain h' | h' | h' : l.val = 3 ∨ l.val = 4 ∨ l.val = 5 := by omega
        all_goals simp [Fin.ext_iff, h'], rfl⟩⟩
  refine ⟨_, hm ⟨(y 1).val / 128, by omega⟩, ?_⟩
  show y ∈ (Rect.unit (s := S8x768) ![0, 128 * ((y 1).val / 128)] S8x128.size (inb_hist ⟨(y 1).val / 128, by omega⟩)).set
  rw [Rect.mem_set_unit]
  intro a
  match a with
  | ⟨0, _⟩ => show 0 ≤ (y 0).val ∧ (y 0).val < 0 + 8; omega
  | ⟨1, _⟩ => show 128 * ((y 1).val / 128) ≤ (y 1).val ∧ (y 1).val < 128 * ((y 1).val / 128) + 128; omega
end

section
variable {ay : Memref sig .tc .vmem S5120x768 .i8} (hy : ay.IsWhole) {ax : Memref sig .tc .vmem S5120x768 .i8} (hx : ax.IsWhole)
  (x : Vec Ideal S256x5120 .i8) (wy wx : Vec Ideal S5120x768 .i8)

theorem inb_w (n : Fin 3) : ∀ a, (![0, 256 * n.val] : Fin 2 → ℕ) a + S5120x256.size a ≤ S5120x768.size a := fun a => by
  match a with
  | ⟨0, _⟩ => show 0 + 5120 ≤ 5120; omega
  | ⟨1, _⟩ => show 256 * n.val + 256 ≤ 768; omega
theorem inb_m (o : ℕ) (ho : o ≤ 768) (n : Fin 3) : ∀ a, (![0, o + 256 * n.val] : Fin 2 → ℕ) a + S256x256.size a ≤ S256x1536.size a := fun a => by
  match a with
  | ⟨0, _⟩ => show 0 + 256 ≤ 256; omega
  | ⟨1, _⟩ => show o + 256 * n.val + 256 ≤ 1536; omega

/-- The store of 256 columns of products with the weight held at w, at column o of the tile on. -/
def mpiece {a : Memref sig .tc .vmem S5120x768 .i8} (h : a.IsWhole) (w : Vec Ideal S5120x768 .i8) (x16 : Vec Ideal S256x5120 .bf16) (o : ℕ) (ho : o ≤ 768) (n : Fin 3) :
    View.Piece (Elt Ideal) S256x1536 .f32 :=
  ⟨Rect.unit (s := S256x1536) ![0, o + 256 * n.val] S256x256.size (inb_m o ho n),
    mm (a.view.readAt (Elt Ideal) (Rect.unit (s := S5120x768) ![0, 256 * n.val] S5120x256.size (inb_w n)).toLoadRect (h.unread w)) x16⟩

theorem mpiece_at {a : Memref sig .tc .vmem S5120x768 .i8} (h : a.IsWhole) (w : Vec Ideal S5120x768 .i8) (o : ℕ) (ho : o ≤ 768) (n : Fin 3) (z : S256x256.Idx)
    (hw : ∀ (r : Fin 256) (l : Fin 768), prodE x wy wx (ix2 r ⟨o + l.val, by omega⟩) = dotSpec x w r l) :
    (mpiece h w (cast16 x) o ho n).2 z = prodE x wy wx ((mpiece h w (cast16 x) o ho n).1.emb z) := by
  idx_vars z
  unfold mpiece
  show mm _ (cast16 x) (ix2 z0 z1) = prodE x wy wx ((Rect.unit (s := S256x1536) ![0, o + 256 * n.val] S256x256.size (inb_m o ho n)).emb (ix2 z0 z1))
  rw [mm_apply, readAt_unread_unit h]
  have e := emb2 (n := 256) (w := 1536) (n' := 256) (w' := 256) 0 (o + 256 * n.val) (inb_m o ho n) z0 z1 (by omega) (by omega)
  refine Eq.trans ?_ (congrArg (prodE x wy wx) e).symm
  have e' : (ix2 (⟨0 + z0.val, by omega⟩ : Fin 256) (⟨o + 256 * n.val + z1.val, by omega⟩ : Fin 1536) : S256x1536.Idx) = ix2 z0 ⟨o + (⟨256 * n.val + z1.val, by omega⟩ : Fin 768).val, by omega⟩ :=
    congrArg₂ ix2 (Fin.ext (by show 0 + z0.val = z0.val; omega)) (Fin.ext (by show o + 256 * n.val + z1.val = o + (256 * n.val + z1.val); omega))
  refine Eq.trans ?_ (congrArg (prodE x wy wx) e').symm
  rw [hw]
  unfold dotSpec
  refine Finset.sum_congr rfl fun k _ => congrArg (fun q => FloatOps.sitofp (F := Ideal) .f32 (x (ix2 z0 k)) * FloatOps.sitofp (F := Ideal) .f32 q) ?_
  refine (win2_at (n := 5120) (w := 768) (n' := 5120) (w' := 256) w 0 (256 * n.val) (inb_w n) k z1 (by omega) (by omega)).trans ?_
  exact congrArg (fun q => w (ix2 q (⟨256 * n.val + z1.val, by omega⟩ : Fin 768))) (Fin.ext (show 0 + k.val = k.val by omega))

theorem prod_y (r : Fin 256) (l : Fin 768) : prodE x wy wx (ix2 r ⟨0 + l.val, by omega⟩) = dotSpec x wy r l := by
  unfold prodE
  refine (dif_pos (show 0 + l.val < 768 by omega)).trans (congrArg (dotSpec x wy r) (Fin.ext (show 0 + l.val = l.val by omega)))
theorem prod_x (r : Fin 256) (l : Fin 768) : prodE x wy wx (ix2 r ⟨768 + l.val, by omega⟩) = dotSpec x wx r l := by
  unfold prodE
  refine (dif_neg (show ¬768 + l.val < 768 by omega)).trans (congrArg (dotSpec x wx r) (Fin.ext (show 768 + l.val - 768 = l.val by omega)))

/-- The stores of a tile of products, the last one first. -/
def mpieces (x16 : Vec Ideal S256x5120 .bf16) : List (View.Piece (Elt Ideal) S256x1536 .f32) :=
  [mpiece hx wx x16 768 (by decide) 2, mpiece hy wy x16 0 (by decide) 2, mpiece hx wx x16 768 (by decide) 1, mpiece hy wy x16 0 (by decide) 1,
    mpiece hx wx x16 768 (by decide) 0, mpiece hy wy x16 0 (by decide) 0]

theorem canon_mpieces (cover : ∀ y, ∃ q ∈ mpieces hy hx wy wx (cast16 x), y ∈ q.1.set) :
    View.canon (Val := Elt Ideal) (mpieces hy hx wy wx (cast16 x)) = prodE x wy wx := by
  funext y
  refine View.canon_apply_of_pieces (Val := Elt Ideal) _ _ (fun q hq => ?_) y (cover y)
  simp only [mpieces, List.mem_cons, List.not_mem_nil, or_false] at hq
  rcases hq with rfl | rfl | rfl | rfl | rfl | rfl
  · exact fun z => mpiece_at x wy wx hx wx 768 _ 2 z (prod_x x wy wx)
  · exact fun z => mpiece_at x wy wx hy wy 0 _ 2 z (prod_y x wy wx)
  · exact fun z => mpiece_at x wy wx hx wx 768 _ 1 z (prod_x x wy wx)
  · exact fun z => mpiece_at x wy wx hy wy 0 _ 1 z (prod_y x wy wx)
  · exact fun z => mpiece_at x wy wx hx wx 768 _ 0 z (prod_x x wy wx)
  · exact fun z => mpiece_at x wy wx hy wy 0 _ 0 z (prod_y x wy wx)
end
end Cert.Proof.Mx
end
-- ==== Proof.PCases.lean ====
/-
  The stores of each case of a grid point, as the pieces of PTile: the first point fills one buffer of products, a later
  point writes the scaled products of one buffer and fills the other.
-/
module
public import proofs.«01_k».proof.Proof.Gen.MixerIdeal.Value
public import proofs.«01_k».proof.Proof.PTile
@[expose] public section
set_option maxRecDepth 65536
noncomputable section
namespace Cert.Proof.Mx
open Idealize.ShloMosaic Cert.MixerIdeal Cert.MixerIdeal.Gen

variable (c : Dev nD) (i : grid0.Coords) (a1 : Memref sig .tc .vmem S256x5120 .i8) (h1 : a1.IsWhole) (a2 : Memref sig .tc .vmem S256x128 .f32) (h2 : a2.IsWhole)
  (a3 : Memref sig .tc .vmem S5120x768 .i8) (h3 : a3.IsWhole) (a4 : Memref sig .tc .vmem S5120x768 .i8) (h4 : a4.IsWhole) (a5 : Memref sig .tc .vmem S1x768 .f32) (h5 : a5.IsWhole)
  (a6 : Memref sig .tc .vmem S1x768 .f32) (h6 : a6.IsWhole) (a7 : Memref sig .tc .vmem S1x768 .f32) (h7 : a7.IsWhole) (a8 : Memref sig .tc .vmem S1x768 .f32) (h8 : a8.IsWhole)
  (a9 : Memref sig .tc .vmem S256x768 .f32) (h9 : a9.IsWhole) (a10 : Memref sig .tc .vmem S256x768 .f32) (h10 : a10.IsWhole) (a11 : Memref sig .tc .vmem S1x8x768 .f32) (h11 : a11.IsWhole) (a12 : Memref sig .tc .vmem S256x5120 .bf16) (h12 : a12.IsWhole)
  (a13 : Memref sig .tc .vmem S256x1536 .f32) (h13 : a13.IsWhole) (a14 : Memref sig .tc .vmem S256x1536 .f32) (h14 : a14.IsWhole) (a15 : Memref sig .tc .vmem S8x768 .f32) (h15 : a15.IsWhole)
  (x0 : Vec Ideal S256x5120 .i8) (x1 : Vec Ideal S256x128 .f32) (x2 x3 : Vec Ideal S5120x768 .i8) (x4 x5 x6 x7 : Vec Ideal S1x768 .f32) (xs : Vec Ideal S256x1536 .f32)

/-- The codes as the products read them back from the buffer they were cast into. -/
def back16 : Vec Ideal S256x5120 .bf16 :=
  a12.view.readCov (Val := Elt Ideal) [⟨Rect.unit (s := S256x5120) ![0, 0] S256x5120.size inb_S256x5120_S256x5120_0_0,
      cast16 (a1.view.readAt (Elt Ideal) (Rect.unit (s := S256x5120) ![0, 0] S256x5120.size inb_S256x5120_S256x5120_0_0).toLoadRect (h1.unread x0))⟩]
    (Rect.unit (s := S256x5120) ![0, 0] S256x5120.size inb_S256x5120_S256x5120_0_0).toLoadRect

theorem back16_eq : back16 a1 h1 a12 x0 = cast16 x0 := by
  unfold back16
  rw [View.readCov_full, readAt_unread_full h1]

section
variable (hc0 : cond0_0 i) (hc1 : cond0_1 i) (hc2 : cond0_2 i) (hc3 : ¬cond0_3 i)
theorem m_A : (kernelRun0_A c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7).2.2.2.1 = mpieces h3 h4 x2 x3 (cast16 x0) := by
  refine Eq.trans (b := mpieces h3 h4 x2 x3 (back16 a1 h1 a12 x0)) ?_ (congrArg _ (back16_eq a1 h1 a12 x0))
  unfold kernelRun0_A
  rfl
theorem prod_A : sout0_A_1 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 = prodE x0 x2 x3 := by
  have e := m_A c i a1 h1 a2 h2 a3 h3 a4 h4 a5 h5 a6 h6 a7 h7 a8 h8 a9 h9 a10 h10 a11 h11 a12 h12 a13 h13 a14 h14 a15 h15 x0 x1 x2 x3 x4 x5 x6 x7 hc0 hc1 hc2 hc3
  have cv : ∀ y, ∃ q ∈ mpieces h3 h4 x2 x3 (cast16 x0), y ∈ q.1.set := fun y => e ▸ scover0_A_1 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 y
  unfold sout0_A_1
  exact (read_canon (Val := Elt Ideal) _ _ e cv).trans (canon_mpieces h3 h4 x0 x2 x3 cv)
end
section
variable (hc0 : ¬cond0_0 i) (hc1 : cond0_1 i) (hc2 : ¬cond0_2 i) (hc3 : cond0_3 i)
theorem xb_B : (kernelRun0_B c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).1 = pieces h2 h13 h7 h8 768 (by decide) x1 xs x6 x7 := by
  unfold kernelRun0_B
  rfl
theorem out_xb_B : out0_B_8 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = deqE 768 (by decide) x1 xs x6 x7 := by
  have e := xb_B c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ pieces h2 h13 h7 h8 768 (by decide) x1 xs x6 x7, y ∈ q.1.set := fun y => e ▸ cover0_B_8 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_B_8
  exact (read_canon (Val := Elt Ideal) _ _ e cv).trans (canon_pieces h2 h13 h7 h8 768 (by decide) x1 xs x6 x7 cv)
theorem y_B : (kernelRun0_B c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.1 = pieces h2 h13 h5 h6 0 (by decide) x1 xs x4 x5 := by
  unfold kernelRun0_B
  rfl
theorem out_y_B : out0_B_9 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = deqE 0 (by decide) x1 xs x4 x5 := by
  have e := y_B c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ pieces h2 h13 h5 h6 0 (by decide) x1 xs x4 x5, y ∈ q.1.set := fun y => e ▸ cover0_B_9 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_B_9
  exact (read_canon (Val := Elt Ideal) _ _ e cv).trans (canon_pieces h2 h13 h5 h6 0 (by decide) x1 xs x4 x5 cv)
theorem m_B : (kernelRun0_B c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.2.2.2.1 = mpieces h3 h4 x2 x3 (cast16 x0) := by
  refine Eq.trans (b := mpieces h3 h4 x2 x3 (back16 a1 h1 a12 x0)) ?_ (congrArg _ (back16_eq a1 h1 a12 x0))
  unfold kernelRun0_B
  rfl
theorem prod_B : sout0_B_2 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = prodE x0 x2 x3 := by
  have e := m_B c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ mpieces h3 h4 x2 x3 (cast16 x0), y ∈ q.1.set := fun y => e ▸ scover0_B_2 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold sout0_B_2
  exact (read_canon (Val := Elt Ideal) _ _ e cv).trans (canon_mpieces h3 h4 x0 x2 x3 cv)
end
section
variable (hc0 : ¬cond0_0 i) (hc1 : ¬cond0_1 i) (hc2 : cond0_2 i) (hc3 : ¬cond0_3 i)
theorem xb_C : (kernelRun0_C c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).1 = pieces h2 h14 h7 h8 768 (by decide) x1 xs x6 x7 := by
  unfold kernelRun0_C
  rfl
theorem out_xb_C : out0_C_8 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = deqE 768 (by decide) x1 xs x6 x7 := by
  have e := xb_C c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ pieces h2 h14 h7 h8 768 (by decide) x1 xs x6 x7, y ∈ q.1.set := fun y => e ▸ cover0_C_8 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_C_8
  exact (read_canon (Val := Elt Ideal) _ _ e cv).trans (canon_pieces h2 h14 h7 h8 768 (by decide) x1 xs x6 x7 cv)
theorem y_C : (kernelRun0_C c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.1 = pieces h2 h14 h5 h6 0 (by decide) x1 xs x4 x5 := by
  unfold kernelRun0_C
  rfl
theorem out_y_C : out0_C_9 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = deqE 0 (by decide) x1 xs x4 x5 := by
  have e := y_C c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ pieces h2 h14 h5 h6 0 (by decide) x1 xs x4 x5, y ∈ q.1.set := fun y => e ▸ cover0_C_9 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_C_9
  exact (read_canon (Val := Elt Ideal) _ _ e cv).trans (canon_pieces h2 h14 h5 h6 0 (by decide) x1 xs x4 x5 cv)
theorem m_C : (kernelRun0_C c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.2.2.1 = mpieces h3 h4 x2 x3 (cast16 x0) := by
  refine Eq.trans (b := mpieces h3 h4 x2 x3 (back16 a1 h1 a12 x0)) ?_ (congrArg _ (back16_eq a1 h1 a12 x0))
  unfold kernelRun0_C
  rfl
theorem prod_C : sout0_C_1 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = prodE x0 x2 x3 := by
  have e := m_C c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ mpieces h3 h4 x2 x3 (cast16 x0), y ∈ q.1.set := fun y => e ▸ scover0_C_1 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold sout0_C_1
  exact (read_canon (Val := Elt Ideal) _ _ e cv).trans (canon_mpieces h3 h4 x0 x2 x3 cv)
/-- The history as the store of a sequence's last rows reads it back. -/
def backHist : Vec Ideal S8x768 .f32 :=
  a15.view.readCov (Val := Elt Ideal) (hpieces h2 h14 h7 h8 768 (by decide) x1 xs x6 x7)
    (Rect.unit (s := S8x768) ![0, 0] S8x768.size inb_S8x768_S8x768_0_0).toLoadRect
theorem backHist_eq : backHist a2 h2 a7 h7 a8 h8 a14 h14 a15 x1 x6 x7 xs = histE 768 (by decide) x1 xs x6 x7 := by
  unfold backHist
  exact (View.readAt_full (Val := Elt Ideal) _ _ _).trans
    ((View.read_writes_eq_canon (Val := Elt Ideal) _ _ _ (hpieces_cover h2 h14 h7 h8 768 (by decide) x1 xs x6 x7)).trans (canon_hpieces h2 h14 h7 h8 768 (by decide) x1 xs x6 x7))
theorem t_C : (kernelRun0_C c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.2.1 = [⟨Rect.unit (s := S1x8x768) ![0, 0, 0] S1x8x768.size inb_S1x8x768_S1x8x768_0_0_0, asBlock (histE 768 (by decide) x1 xs x6 x7)⟩] := by
  refine Eq.trans (b := [⟨Rect.unit (s := S1x8x768) ![0, 0, 0] S1x8x768.size inb_S1x8x768_S1x8x768_0_0_0, asBlock (backHist a2 h2 a7 h7 a8 h8 a14 h14 a15 x1 x6 x7 xs)⟩]) ?_
    (congrArg (fun v => [(⟨Rect.unit (s := S1x8x768) ![0, 0, 0] S1x8x768.size inb_S1x8x768_S1x8x768_0_0_0, asBlock v⟩ : View.Piece (Elt Ideal) S1x8x768 .f32)]) (backHist_eq a2 h2 a7 h7 a8 h8 a14 h14 a15 x1 x6 x7 xs))
  unfold kernelRun0_C
  rfl
theorem out_t_C : out0_C_10 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = asBlock (histE 768 (by decide) x1 xs x6 x7) := by
  have e := t_C c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ [(⟨Rect.unit (s := S1x8x768) ![0, 0, 0] S1x8x768.size inb_S1x8x768_S1x8x768_0_0_0, asBlock (histE 768 (by decide) x1 xs x6 x7)⟩ : View.Piece (Elt Ideal) S1x8x768 .f32)], y ∈ q.1.set :=
    fun y => e ▸ cover0_C_10 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_C_10
  exact (read_canon (Val := Elt Ideal) _ _ e cv).trans (View.canon_unit_zero (Val := Elt Ideal) (S := S1x8x768) (by decide) _ _)
end
section
variable (hc0 : ¬cond0_0 i) (hc1 : ¬cond0_1 i) (hc2 : ¬cond0_2 i) (hc3 : cond0_3 i)
theorem xb_D : (kernelRun0_D c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).1 = pieces h2 h13 h7 h8 768 (by decide) x1 xs x6 x7 := by
  unfold kernelRun0_D
  rfl
theorem out_xb_D : out0_D_8 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = deqE 768 (by decide) x1 xs x6 x7 := by
  have e := xb_D c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ pieces h2 h13 h7 h8 768 (by decide) x1 xs x6 x7, y ∈ q.1.set := fun y => e ▸ cover0_D_8 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_D_8
  exact (read_canon (Val := Elt Ideal) _ _ e cv).trans (canon_pieces h2 h13 h7 h8 768 (by decide) x1 xs x6 x7 cv)
theorem y_D : (kernelRun0_D c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.1 = pieces h2 h13 h5 h6 0 (by decide) x1 xs x4 x5 := by
  unfold kernelRun0_D
  rfl
theorem out_y_D : out0_D_9 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = deqE 0 (by decide) x1 xs x4 x5 := by
  have e := y_D c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ pieces h2 h13 h5 h6 0 (by decide) x1 xs x4 x5, y ∈ q.1.set := fun y => e ▸ cover0_D_9 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold out0_D_9
  exact (read_canon (Val := Elt Ideal) _ _ e cv).trans (canon_pieces h2 h13 h5 h6 0 (by decide) x1 xs x4 x5 cv)
theorem m_D : (kernelRun0_D c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs).2.2.2.2.1 = mpieces h3 h4 x2 x3 (cast16 x0) := by
  refine Eq.trans (b := mpieces h3 h4 x2 x3 (back16 a1 h1 a12 x0)) ?_ (congrArg _ (back16_eq a1 h1 a12 x0))
  unfold kernelRun0_D
  rfl
theorem prod_D : sout0_D_2 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs = prodE x0 x2 x3 := by
  have e := m_D c i a1 h1 a2 h2 a3 h3 a4 h4 a5 h5 a6 h6 a7 h7 a8 h8 a9 h9 a10 h10 a11 h11 a12 h12 a13 h13 a14 h14 a15 h15 x0 x1 x2 x3 x4 x5 x6 x7 xs hc0 hc1 hc2 hc3
  have cv : ∀ y, ∃ q ∈ mpieces h3 h4 x2 x3 (cast16 x0), y ∈ q.1.set := fun y => e ▸ scover0_D_2 c i a1 h1 a2 h2 a3 h3 a4 h4 a5 h5 a6 h6 a7 h7 a8 h8 a9 h9 a10 h10 a11 h11 a12 h12 a13 h13 a14 h14 a15 h15 hc0 hc1 hc2 hc3 x0 x1 x2 x3 x4 x5 x6 x7 xs y
  unfold sout0_D_2
  exact (read_canon (Val := Elt Ideal) _ _ e cv).trans (canon_mpieces h3 h4 x0 x2 x3 cv)
end

end Cert.Proof.Mx
end
-- ==== Proof.PValue.lean ====
/-
  THE TWO PROJECTIONS' ARRAYS AND THE LAST ROWS OF EACH SEQUENCE: a block is written one point after the one that multiplied its rows, from the buffer of
  products that point filled; together the blocks are the projections of the arguments.
-/
module
public import proofs.«01_k».proof.Proof.PCases
public import Idealize.ShloMosaic.Lib.Pipeline.Value
public import Idealize.ShloMosaic.Lib.Affine
public import Idealize.ShloMosaic.Lib.Claim
@[expose] public section
set_option maxRecDepth 16384
noncomputable section
namespace Cert.Proof.Mx
open Idealize.ShloMosaic Idealize.SL.Sem Cert.MixerIdeal Cert.MixerIdeal.Gen Cert.MixerIdeal.Value Idealize.ShloMosaic.TcCoe
open Idealize.ShloMosaic.Pipeline (Dat Cfg Window)

variable (m : (ℓ : Loc nD τ sig) → Buf (Elt Ideal) ℓ)

/-! ## Which block each window takes at a point -/

theorem tlt (t : Fin cfg0.N) : t.val < 289 := lt_of_lt_of_eq t.isLt N_0
/-- The point before. -/
def prev (t : Fin cfg0.N) : Fin cfg0.N := ⟨t.val - 1, Nat.lt_of_le_of_lt (Nat.sub_le _ _) t.isLt⟩
/-- The point at a number below 289. -/
def pt (n : ℕ) (h : n < 289) : Fin cfg0.N := ⟨n, lt_of_lt_of_eq h N_0.symm⟩
theorem ix0 : ∀ t : Fin cfg0.N, t.val < 288 → win0_0.index t 0 = t.val % 32 ∧ win0_0.index t 1 = 0 :=
  (by decide +kernel : ∀ t : Fin grid0.N, t.val < 288 → win0_0.index t 0 = t.val % 32 ∧ win0_0.index t 1 = 0)
theorem ix1' : ∀ t : Fin cfg0.N, win0_1.index t 0 = (t.val - 1) % 32 ∧ win0_1.index t 1 = 0 :=
  (by decide +kernel : ∀ t : Fin grid0.N, win0_1.index t 0 = (t.val - 1) % 32 ∧ win0_1.index t 1 = 0)
theorem ix2' : ∀ t : Fin cfg0.N, t.val < 288 → win0_2.index t 0 = 0 ∧ win0_2.index t 1 = t.val / 32 :=
  (by decide +kernel : ∀ t : Fin grid0.N, t.val < 288 → win0_2.index t 0 = 0 ∧ win0_2.index t 1 = t.val / 32)
theorem ix3' : ∀ t : Fin cfg0.N, t.val < 288 → win0_3.index t 0 = 0 ∧ win0_3.index t 1 = t.val / 32 :=
  (by decide +kernel : ∀ t : Fin grid0.N, t.val < 288 → win0_3.index t 0 = 0 ∧ win0_3.index t 1 = t.val / 32)
theorem ix4' : ∀ t : Fin cfg0.N, win0_4.index t 0 = 0 ∧ win0_4.index t 1 = (t.val - 1) / 32 :=
  (by decide +kernel : ∀ t : Fin grid0.N, win0_4.index t 0 = 0 ∧ win0_4.index t 1 = (t.val - 1) / 32)
theorem ix5' : ∀ t : Fin cfg0.N, win0_5.index t 0 = 0 ∧ win0_5.index t 1 = (t.val - 1) / 32 :=
  (by decide +kernel : ∀ t : Fin grid0.N, win0_5.index t 0 = 0 ∧ win0_5.index t 1 = (t.val - 1) / 32)
theorem ix6' : ∀ t : Fin cfg0.N, win0_6.index t 0 = 0 ∧ win0_6.index t 1 = (t.val - 1) / 32 :=
  (by decide +kernel : ∀ t : Fin grid0.N, win0_6.index t 0 = 0 ∧ win0_6.index t 1 = (t.val - 1) / 32)
theorem ix7' : ∀ t : Fin cfg0.N, win0_7.index t 0 = 0 ∧ win0_7.index t 1 = (t.val - 1) / 32 :=
  (by decide +kernel : ∀ t : Fin grid0.N, win0_7.index t 0 = 0 ∧ win0_7.index t 1 = (t.val - 1) / 32)
theorem ix8' : ∀ t : Fin cfg0.N, win0_8.index t 0 = (t.val - 1) % 32 ∧ win0_8.index t 1 = (t.val - 1) / 32 :=
  (by decide +kernel : ∀ t : Fin grid0.N, win0_8.index t 0 = (t.val - 1) % 32 ∧ win0_8.index t 1 = (t.val - 1) / 32)
theorem ix9' : ∀ t : Fin cfg0.N, win0_9.index t 0 = (t.val - 1) % 32 ∧ win0_9.index t 1 = (t.val - 1) / 32 :=
  (by decide +kernel : ∀ t : Fin grid0.N, win0_9.index t 0 = (t.val - 1) % 32 ∧ win0_9.index t 1 = (t.val - 1) / 32)
theorem fl8 : ∀ t : Fin cfg0.N, (win0_8.flush t = true) ↔ 1 ≤ t.val :=
  (by decide +kernel : ∀ t : Fin grid0.N, (win0_8.flush t = true) ↔ 1 ≤ t.val)
theorem fl9 : ∀ t : Fin cfg0.N, (win0_9.flush t = true) ↔ 1 ≤ t.val :=
  (by decide +kernel : ∀ t : Fin grid0.N, (win0_9.flush t = true) ↔ 1 ≤ t.val)

theorem ix10' : ∀ t : Fin cfg0.N, win0_10.index t 0 = (t.val - 1) % 32 / 16 ∧ win0_10.index t 1 = 0 ∧ win0_10.index t 2 = (t.val - 1) / 32 :=
  (by decide +kernel : ∀ t : Fin grid0.N, win0_10.index t 0 = (t.val - 1) % 32 / 16 ∧ win0_10.index t 1 = 0 ∧ win0_10.index t 2 = (t.val - 1) / 32)
theorem fl10 : ∀ t : Fin cfg0.N, (win0_10.flush t = true) ↔ 1 ≤ t.val ∧ t.val % 16 = 0 :=
  (by decide +kernel : ∀ t : Fin grid0.N, (win0_10.flush t = true) ↔ 1 ≤ t.val ∧ t.val % 16 = 0)
/-- The points that write the first tile of a sequence, and the first point. -/
abbrev Firsts (n : ℕ) : Prop := n % 289 = 0 ∨ n % 289 = 1 ∨ n % 289 = 17 ∨ n % 289 = 33 ∨ n % 289 = 49 ∨ n % 289 = 65 ∨ n % 289 = 81 ∨ n % 289 = 97 ∨ n % 289 = 113 ∨ n % 289 = 129 ∨ n % 289 = 145 ∨ n % 289 = 161 ∨ n % 289 = 177 ∨ n % 289 = 193 ∨ n % 289 = 209 ∨ n % 289 = 225 ∨ n % 289 = 241 ∨ n % 289 = 257 ∨ n % 289 = 273

/-! ## The blocks read at an index -/

theorem x_at (c : Dev nD) (t : Fin cfg0.N) (ht : t.val < 288) (r : Fin 256) (k : Fin 5120) :
    (iblk m c 0 t : Vec Ideal S256x5120 .i8) (ix2 r k) = V m c main_arg0 (ix2 ⟨256 * (t.val % 32) + r.val, by omega⟩ k) := by
  unfold iblk
  rw [View.read_apply]
  show V m c main_arg0 _ = _
  congr 1
  funext a
  apply Fin.ext
  match a with
  | ⟨0, _⟩ => show win0_0.index t 0 * 256 + 1 * r.val = 256 * (t.val % 32) + r.val; rw [(ix0 t ht).1]; omega
  | ⟨1, _⟩ => show win0_0.index t 1 * 5120 + 1 * k.val = k.val; rw [(ix0 t ht).2]; omega

theorem tok_at (c : Dev nD) (t : Fin cfg0.N) (r : Fin 256) (l : Fin 128) :
    (iblk m c 1 t : Vec Ideal S256x128 .f32) (ix2 r l) = V m c main_v1 (ix2 ⟨256 * ((t.val - 1) % 32) + r.val, by omega⟩ l) := by
  unfold iblk
  rw [View.read_apply]
  show V m c main_v1 _ = _
  congr 1
  funext a
  apply Fin.ext
  match a with
  | ⟨0, _⟩ => show win0_1.index t 0 * 256 + 1 * r.val = 256 * ((t.val - 1) % 32) + r.val; rw [(ix1' t).1]; omega
  | ⟨1, _⟩ => show win0_1.index t 1 * 128 + 1 * l.val = l.val; rw [(ix1' t).2]; omega

theorem wy_at (c : Dev nD) (t : Fin cfg0.N) (ht : t.val < 288) (k : Fin 5120) (l : Fin 768) :
    (iblk m c 2 t : Vec Ideal S5120x768 .i8) (ix2 k l) = V m c main_arg2 (ix2 k ⟨768 * (t.val / 32) + l.val, by omega⟩) := by
  unfold iblk
  rw [View.read_apply]
  show V m c main_arg2 _ = _
  congr 1
  funext a
  apply Fin.ext
  match a with
  | ⟨0, _⟩ => show win0_2.index t 0 * 5120 + 1 * k.val = k.val; rw [(ix2' t ht).1]; omega
  | ⟨1, _⟩ => show win0_2.index t 1 * 768 + 1 * l.val = 768 * (t.val / 32) + l.val; rw [(ix2' t ht).2]; omega

theorem wx_at (c : Dev nD) (t : Fin cfg0.N) (ht : t.val < 288) (k : Fin 5120) (l : Fin 768) :
    (iblk m c 3 t : Vec Ideal S5120x768 .i8) (ix2 k l) = V m c main_arg3 (ix2 k ⟨768 * (t.val / 32) + l.val, by omega⟩) := by
  unfold iblk
  rw [View.read_apply]
  show V m c main_arg3 _ = _
  congr 1
  funext a
  apply Fin.ext
  match a with
  | ⟨0, _⟩ => show win0_3.index t 0 * 5120 + 1 * k.val = k.val; rw [(ix3' t ht).1]; omega
  | ⟨1, _⟩ => show win0_3.index t 1 * 768 + 1 * l.val = 768 * (t.val / 32) + l.val; rw [(ix3' t ht).2]; omega

theorem V_main_v2 (c : Dev nD) (k : Fin 6912) : V m c main_v2 (ix2 0 k) = m ((c : Thread nD τ).loc main_arg4) (ix1 k) := by
  have e : V m c main_v2 = shapeCast S1x6912 (m ((c : Thread nD τ).loc main_arg4)) shapeCasts_S6912_S1x6912 := by
    show StableHlo.after hostOps0 _ (Proc.devRef .tc main_v2) = _
    after_results
    rfl
  rw [e]
  exact ValueIdx.shapeCast_a_1a_apply _ _ 0 k
theorem sy_at (c : Dev nD) (t : Fin cfg0.N) (l : Fin 768) :
    (iblk m c 4 t : Vec Ideal S1x768 .f32) (ix2 0 l) = m ((c : Thread nD τ).loc main_arg4) (ix1 ⟨768 * ((t.val - 1) / 32) + l.val, by have := tlt t; omega⟩) := by
  refine Eq.trans ?_ (V_main_v2 m c _)
  unfold iblk
  rw [View.read_apply]
  show V m c main_v2 _ = _
  congr 1
  funext a
  apply Fin.ext
  match a with
  | ⟨0, _⟩ => show win0_4.index t 0 * 1 + 1 * 0 = 0; rw [(ix4' t).1]
  | ⟨1, _⟩ => show win0_4.index t 1 * 768 + 1 * l.val = 768 * ((t.val - 1) / 32) + l.val; rw [(ix4' t).2]; omega

theorem V_main_v3 (c : Dev nD) (k : Fin 6912) : V m c main_v3 (ix2 0 k) = m ((c : Thread nD τ).loc main_arg5) (ix1 k) := by
  have e : V m c main_v3 = shapeCast S1x6912 (m ((c : Thread nD τ).loc main_arg5)) shapeCasts_S6912_S1x6912 := by
    show StableHlo.after hostOps0 _ (Proc.devRef .tc main_v3) = _
    after_results
    rfl
  rw [e]
  exact ValueIdx.shapeCast_a_1a_apply _ _ 0 k
theorem by_at (c : Dev nD) (t : Fin cfg0.N) (l : Fin 768) :
    (iblk m c 5 t : Vec Ideal S1x768 .f32) (ix2 0 l) = m ((c : Thread nD τ).loc main_arg5) (ix1 ⟨768 * ((t.val - 1) / 32) + l.val, by have := tlt t; omega⟩) := by
  refine Eq.trans ?_ (V_main_v3 m c _)
  unfold iblk
  rw [View.read_apply]
  show V m c main_v3 _ = _
  congr 1
  funext a
  apply Fin.ext
  match a with
  | ⟨0, _⟩ => show win0_5.index t 0 * 1 + 1 * 0 = 0; rw [(ix5' t).1]
  | ⟨1, _⟩ => show win0_5.index t 1 * 768 + 1 * l.val = 768 * ((t.val - 1) / 32) + l.val; rw [(ix5' t).2]; omega

theorem V_main_v4 (c : Dev nD) (k : Fin 6912) : V m c main_v4 (ix2 0 k) = m ((c : Thread nD τ).loc main_arg6) (ix1 k) := by
  have e : V m c main_v4 = shapeCast S1x6912 (m ((c : Thread nD τ).loc main_arg6)) shapeCasts_S6912_S1x6912 := by
    show StableHlo.after hostOps0 _ (Proc.devRef .tc main_v4) = _
    after_results
    rfl
  rw [e]
  exact ValueIdx.shapeCast_a_1a_apply _ _ 0 k
theorem sx_at (c : Dev nD) (t : Fin cfg0.N) (l : Fin 768) :
    (iblk m c 6 t : Vec Ideal S1x768 .f32) (ix2 0 l) = m ((c : Thread nD τ).loc main_arg6) (ix1 ⟨768 * ((t.val - 1) / 32) + l.val, by have := tlt t; omega⟩) := by
  refine Eq.trans ?_ (V_main_v4 m c _)
  unfold iblk
  rw [View.read_apply]
  show V m c main_v4 _ = _
  congr 1
  funext a
  apply Fin.ext
  match a with
  | ⟨0, _⟩ => show win0_6.index t 0 * 1 + 1 * 0 = 0; rw [(ix6' t).1]
  | ⟨1, _⟩ => show win0_6.index t 1 * 768 + 1 * l.val = 768 * ((t.val - 1) / 32) + l.val; rw [(ix6' t).2]; omega

theorem V_main_v5 (c : Dev nD) (k : Fin 6912) : V m c main_v5 (ix2 0 k) = m ((c : Thread nD τ).loc main_arg7) (ix1 k) := by
  have e : V m c main_v5 = shapeCast S1x6912 (m ((c : Thread nD τ).loc main_arg7)) shapeCasts_S6912_S1x6912 := by
    show StableHlo.after hostOps0 _ (Proc.devRef .tc main_v5) = _
    after_results
    rfl
  rw [e]
  exact ValueIdx.shapeCast_a_1a_apply _ _ 0 k
theorem bx_at (c : Dev nD) (t : Fin cfg0.N) (l : Fin 768) :
    (iblk m c 7 t : Vec Ideal S1x768 .f32) (ix2 0 l) = m ((c : Thread nD τ).loc main_arg7) (ix1 ⟨768 * ((t.val - 1) / 32) + l.val, by have := tlt t; omega⟩) := by
  refine Eq.trans ?_ (V_main_v5 m c _)
  unfold iblk
  rw [View.read_apply]
  show V m c main_v5 _ = _
  congr 1
  funext a
  apply Fin.ext
  match a with
  | ⟨0, _⟩ => show win0_7.index t 0 * 1 + 1 * 0 = 0; rw [(ix7' t).1]
  | ⟨1, _⟩ => show win0_7.index t 1 * 768 + 1 * l.val = 768 * ((t.val - 1) / 32) + l.val; rw [(ix7' t).2]; omega

/-- A column broadcast along the rows. -/
theorem down {n w : Nat} (hbc : (⟨2, ![n, 1]⟩ : Shape).BroadcastsInDim ⟨2, ![n, w]⟩ ![0, 1]) (y : (⟨2, ![n, 1]⟩ : Shape).Idx → EReal) (r : Fin n) (l : Fin w) :
    broadcastInDim ⟨2, ![n, w]⟩ ![0, 1] hbc y (ix2 r l) = y (ix2 r (0 : Fin 1)) := by
  refine broadcastInDim_apply ![0, 1] hbc y (ix2 r l) (ix2 r (0 : Fin 1)) ?_
  intro a
  match a with
  | ⟨0, _⟩ =>
    show r.val = if n = 1 then 0 else r.val
    split
    · have := r.isLt; omega
    · rfl
  | ⟨1, _⟩ => rfl

theorem V_main_v1 (c : Dev nD) (r : Fin 8192) (l : Fin 128) : V m c main_v1 (ix2 r l) = m ((c : Thread nD τ).loc main_arg1) (ix1 r) := by
  have e : V m c main_v1 = broadcastInDim S8192x128 ![0, 1] bcast_S8192x1_S8192x128_0_1 (shapeCast S8192x1 (m ((c : Thread nD τ).loc main_arg1)) shapeCasts_S8192_S8192x1) := by
    show StableHlo.after hostOps0 _ (Proc.devRef .tc main_v1) = _
    after_results
    rfl
  rw [e]
  exact (down _ _ r l).trans (ValueIdx.shapeCast_a_a1_apply _ _ r 0)

/-! ## What a buffer of products holds one point later -/

/-- The products of a point's rows. -/
def prodAt (c : Dev nD) (p : Fin cfg0.N) : S256x1536.Idx → EReal := prodE (iblk m c 0 p) (iblk m c 2 p) (iblk m c 3 p)

theorem left_even (c : Dev nD) (p : Fin cfg0.N) (h : p.val % 2 = 0) : (outsAt0 m c p.val p.isLt).2.2.2.1 = prodAt m c p := by
  have hlt := tlt p
  by_cases h0 : p.val % 289 = 0
  · rw [outsAt0_A m c p h0 (.inl h0) h (by omega), prod_A]
    rfl
  · rw [outsAt0_C m c p h0 (by omega) h (by omega), prod_C]
    rfl
theorem left_odd (c : Dev nD) (p : Fin cfg0.N) (h : p.val % 2 = 1) : (outsAt0 m c p.val p.isLt).2.2.2.2 = prodAt m c p := by
  have hlt := tlt p
  by_cases h1 : Firsts p.val
  · rw [outsAt0_B m c p (by omega) h1 (by omega) h, prod_B]
    rfl
  · rw [outsAt0_D m c p (by omega) h1 (by omega) h, prod_D]
    rfl

/-! ## The blocks written -/

/-- The projection xb of the argument arrays. -/
def xbArr (c : Dev nD) : S8192x6912.Idx → EReal :=
  prSpec (m ((c : Thread nD τ).loc main_arg0)) (m ((c : Thread nD τ).loc main_arg1)) (m ((c : Thread nD τ).loc main_arg3)) (m ((c : Thread nD τ).loc main_arg6)) (m ((c : Thread nD τ).loc main_arg7))

theorem xb_block (c : Dev nD) (t : Fin cfg0.N) (h1 : 1 ≤ t.val) (r : Fin 256) (l : Fin 768) :
    deqE 768 (by decide) (iblk m c 1 t) (prodAt m c (prev t)) (iblk m c 6 t) (iblk m c 7 t) (ix2 r l)
      = xbArr m c (ix2 ⟨256 * ((t.val - 1) % 32) + r.val, by omega⟩ ⟨768 * ((t.val - 1) / 32) + l.val, by have := tlt t; omega⟩) := by
  have hlt := tlt t
  have hp : (prev t).val < 288 := by show t.val - 1 < 288; omega
  unfold deqE prodAt xbArr prSpec
  refine congrArg₂ (· + ·) (congrArg₂ (· * ·) (congrArg₂ (· * ·) ((prod_x (iblk m c 0 (prev t)) (iblk m c 2 (prev t)) (iblk m c 3 (prev t)) r l).trans ?_) ?_) ?_) ?_
  · unfold dotSpec
    refine Finset.sum_congr rfl fun k _ => congrArg₂ (fun a b => FloatOps.sitofp (F := Ideal) .f32 a * FloatOps.sitofp (F := Ideal) .f32 b)
      ((x_at m c (prev t) hp r k).trans ?_) ((wx_at m c (prev t) hp k l).trans ?_)
    · rw [V_main_arg0]; rfl
    · rw [V_main_arg3]; rfl
  · exact (tok_at m c t r _).trans (V_main_v1 m c _ _)
  · exact sx_at m c t l
  · exact bx_at m c t l

theorem read8 (G : S8192x6912.Idx → EReal) (t : Fin cfg0.N) (r : Fin 256) (l : Fin 768) :
    ((cfg0.win 8).blk t).view.read (Elt Ideal) G (ix2 r l)
      = G (ix2 ⟨256 * ((t.val - 1) % 32) + r.val, by omega⟩ ⟨768 * ((t.val - 1) / 32) + l.val, by have := tlt t; omega⟩) := by
  rw [View.read_apply]
  show G _ = G _
  congr 1
  funext a
  apply Fin.ext
  match a with
  | ⟨0, _⟩ => show win0_8.index t 0 * 256 + 1 * r.val = 256 * ((t.val - 1) % 32) + r.val; rw [(ix8' t).1]; omega
  | ⟨1, _⟩ => show win0_8.index t 1 * 768 + 1 * l.val = 768 * ((t.val - 1) / 32) + l.val; rw [(ix8' t).2]; omega

theorem flushed8' (c : Dev nD) (t : Fin cfg0.N) (hf : (cfg0.win 8).flush t = true) :
    (dats m 0 c).flushed 8 t = ((cfg0.win 8).blk t).view.read (Elt Ideal) (xbArr m c) := by
  have h1 := (fl8 t).1 hf
  have hlt := tlt t
  have e : (dats m 0 c).flushed 8 t = (cfg0.win 8).cut (grid0.coords t) (deqE 768 (by decide) (iblk m c 1 t) (prodAt m c (prev t)) (iblk m c 6 t) (iblk m c 7 t)) := by
    by_cases h2 : t.val % 2 = 1
    · by_cases h3 : Firsts t.val
      · rw [flushed8_B m c t (by omega) h3 (by omega) h2, out_xb_B]
        exact congrArg (fun p => (cfg0.win 8).cut (grid0.coords t) (deqE 768 (by decide) (iblk m c 1 t) p (iblk m c 6 t) (iblk m c 7 t)))
          (left_even m c (prev t) (by show (t.val - 1) % 2 = 0; omega))
      · rw [flushed8_D m c t (by omega) h3 (by omega) h2, out_xb_D]
        exact congrArg (fun p => (cfg0.win 8).cut (grid0.coords t) (deqE 768 (by decide) (iblk m c 1 t) p (iblk m c 6 t) (iblk m c 7 t)))
          (left_even m c (prev t) (by show (t.val - 1) % 2 = 0; omega))
    · rw [flushed8_C m c t (by omega) (by omega) (by omega) h2, out_xb_C]
      exact congrArg (fun p => (cfg0.win 8).cut (grid0.coords t) (deqE 768 (by decide) (iblk m c 1 t) p (iblk m c 6 t) (iblk m c 7 t)))
        (left_odd m c (prev t) (by show (t.val - 1) % 2 = 1; omega))
  rw [e]
  funext (y : S256x768.Idx)
  obtain ⟨r, l, rfl⟩ : ∃ (r : Fin 256) (l : Fin 768), y = ix2 r l := ⟨y 0, y 1, eq_ix2 y⟩
  exact (xb_block m c t h1 r l).trans (read8 _ t r l).symm

theorem final8' (c : Dev nD) : (dats m 0 c).arrAt 8 cfg0.N = xbArr m c :=
  (dats m 0 c).arrAt_eq_of_cover 8 _ (fun t hf => flushed8' m c t hf) fun i => by
    have h0 : (i 0 : Nat) < 8192 := (i 0).isLt
    have h1 : (i 1 : Nat) < 6912 := (i 1).isLt
    have hv : (pt (32 * ((i 1 : Nat) / 768) + (i 0 : Nat) / 256 + 1) (by omega)).val = 32 * ((i 1 : Nat) / 768) + (i 0 : Nat) / 256 + 1 := rfl
    generalize pt (32 * ((i 1 : Nat) / 768) + (i 0 : Nat) / 256 + 1) (by omega) = t at hv
    refine ⟨t, (fl8 _).2 (by omega), ?_⟩
    show i ∈ ((View.whole main_v6_0).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256; rw [(ix8' t).1]; omega
    | ⟨1, _⟩ => show win0_8.index t 1 * 768 ≤ (i 1 : Nat) ∧ (i 1 : Nat) < win0_8.index t 1 * 768 + 768; rw [(ix8' t).2]; omega

/-- The projection y of the argument arrays. -/
def yArr (c : Dev nD) : S8192x6912.Idx → EReal :=
  prSpec (m ((c : Thread nD τ).loc main_arg0)) (m ((c : Thread nD τ).loc main_arg1)) (m ((c : Thread nD τ).loc main_arg2)) (m ((c : Thread nD τ).loc main_arg4)) (m ((c : Thread nD τ).loc main_arg5))

theorem y_block (c : Dev nD) (t : Fin cfg0.N) (h1 : 1 ≤ t.val) (r : Fin 256) (l : Fin 768) :
    deqE 0 (by decide) (iblk m c 1 t) (prodAt m c (prev t)) (iblk m c 4 t) (iblk m c 5 t) (ix2 r l)
      = yArr m c (ix2 ⟨256 * ((t.val - 1) % 32) + r.val, by omega⟩ ⟨768 * ((t.val - 1) / 32) + l.val, by have := tlt t; omega⟩) := by
  have hlt := tlt t
  have hp : (prev t).val < 288 := by show t.val - 1 < 288; omega
  unfold deqE prodAt yArr prSpec
  refine congrArg₂ (· + ·) (congrArg₂ (· * ·) (congrArg₂ (· * ·) ((prod_y (iblk m c 0 (prev t)) (iblk m c 2 (prev t)) (iblk m c 3 (prev t)) r l).trans ?_) ?_) ?_) ?_
  · unfold dotSpec
    refine Finset.sum_congr rfl fun k _ => congrArg₂ (fun a b => FloatOps.sitofp (F := Ideal) .f32 a * FloatOps.sitofp (F := Ideal) .f32 b)
      ((x_at m c (prev t) hp r k).trans ?_) ((wy_at m c (prev t) hp k l).trans ?_)
    · rw [V_main_arg0]; rfl
    · rw [V_main_arg2]; rfl
  · exact (tok_at m c t r _).trans (V_main_v1 m c _ _)
  · exact sy_at m c t l
  · exact by_at m c t l

theorem read9 (G : S8192x6912.Idx → EReal) (t : Fin cfg0.N) (r : Fin 256) (l : Fin 768) :
    ((cfg0.win 9).blk t).view.read (Elt Ideal) G (ix2 r l)
      = G (ix2 ⟨256 * ((t.val - 1) % 32) + r.val, by omega⟩ ⟨768 * ((t.val - 1) / 32) + l.val, by have := tlt t; omega⟩) := by
  rw [View.read_apply]
  show G _ = G _
  congr 1
  funext a
  apply Fin.ext
  match a with
  | ⟨0, _⟩ => show win0_9.index t 0 * 256 + 1 * r.val = 256 * ((t.val - 1) % 32) + r.val; rw [(ix9' t).1]; omega
  | ⟨1, _⟩ => show win0_9.index t 1 * 768 + 1 * l.val = 768 * ((t.val - 1) / 32) + l.val; rw [(ix9' t).2]; omega

theorem flushed9' (c : Dev nD) (t : Fin cfg0.N) (hf : (cfg0.win 9).flush t = true) :
    (dats m 0 c).flushed 9 t = ((cfg0.win 9).blk t).view.read (Elt Ideal) (yArr m c) := by
  have h1 := (fl9 t).1 hf
  have hlt := tlt t
  have e : (dats m 0 c).flushed 9 t = (cfg0.win 9).cut (grid0.coords t) (deqE 0 (by decide) (iblk m c 1 t) (prodAt m c (prev t)) (iblk m c 4 t) (iblk m c 5 t)) := by
    by_cases h2 : t.val % 2 = 1
    · by_cases h3 : Firsts t.val
      · rw [flushed9_B m c t (by omega) h3 (by omega) h2, out_y_B]
        exact congrArg (fun p => (cfg0.win 9).cut (grid0.coords t) (deqE 0 (by decide) (iblk m c 1 t) p (iblk m c 4 t) (iblk m c 5 t)))
          (left_even m c (prev t) (by show (t.val - 1) % 2 = 0; omega))
      · rw [flushed9_D m c t (by omega) h3 (by omega) h2, out_y_D]
        exact congrArg (fun p => (cfg0.win 9).cut (grid0.coords t) (deqE 0 (by decide) (iblk m c 1 t) p (iblk m c 4 t) (iblk m c 5 t)))
          (left_even m c (prev t) (by show (t.val - 1) % 2 = 0; omega))
    · rw [flushed9_C m c t (by omega) (by omega) (by omega) h2, out_y_C]
      exact congrArg (fun p => (cfg0.win 9).cut (grid0.coords t) (deqE 0 (by decide) (iblk m c 1 t) p (iblk m c 4 t) (iblk m c 5 t)))
        (left_odd m c (prev t) (by show (t.val - 1) % 2 = 1; omega))
  rw [e]
  funext (y : S256x768.Idx)
  obtain ⟨r, l, rfl⟩ : ∃ (r : Fin 256) (l : Fin 768), y = ix2 r l := ⟨y 0, y 1, eq_ix2 y⟩
  exact (y_block m c t h1 r l).trans (read9 _ t r l).symm

theorem final9' (c : Dev nD) : (dats m 0 c).arrAt 9 cfg0.N = yArr m c :=
  (dats m 0 c).arrAt_eq_of_cover 9 _ (fun t hf => flushed9' m c t hf) fun i => by
    have h0 : (i 0 : Nat) < 8192 := (i 0).isLt
    have h1 : (i 1 : Nat) < 6912 := (i 1).isLt
    have hv : (pt (32 * ((i 1 : Nat) / 768) + (i 0 : Nat) / 256 + 1) (by omega)).val = 32 * ((i 1 : Nat) / 768) + (i 0 : Nat) / 256 + 1 := rfl
    generalize pt (32 * ((i 1 : Nat) / 768) + (i 0 : Nat) / 256 + 1) (by omega) = t at hv
    refine ⟨t, (fl9 _).2 (by omega), ?_⟩
    show i ∈ ((View.whole main_v6_1).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + 256; rw [(ix9' t).1]; omega
    | ⟨1, _⟩ => show win0_9.index t 1 * 768 ≤ (i 1 : Nat) ∧ (i 1 : Nat) < win0_9.index t 1 * 768 + 768; rw [(ix9' t).2]; omega

/-- The last eight rows of xb in each sequence. -/
def tailArr (c : Dev nD) : S2x8x6912.Idx → EReal := fun i =>
  xbArr m c (ix2 (⟨4096 * (i 0).val + 4088 + (i 1).val, by have h0 : (i 0).val < 2 := (i 0).isLt; have h1 : (i 1).val < 8 := (i 1).isLt; omega⟩ : Fin 8192) (i 2))

theorem read10 (G : S2x8x6912.Idx → EReal) (t : Fin cfg0.N) (r : Fin 8) (l : Fin 768) :
    ((cfg0.win 10).blk t).view.read (Elt Ideal) G (ix3 (0 : Fin 1) r l)
      = G (ix3 (⟨(t.val - 1) % 32 / 16, by omega⟩ : Fin 2) r (⟨768 * ((t.val - 1) / 32) + l.val, by have := tlt t; omega⟩ : Fin 6912)) := by
  rw [View.read_apply]
  show G _ = G _
  congr 1
  funext a
  apply Fin.ext
  match a with
  | ⟨0, _⟩ => show win0_10.index t 0 * 1 + 1 * 0 = (t.val - 1) % 32 / 16; rw [(ix10' t).1]; omega
  | ⟨1, _⟩ => show win0_10.index t 1 * 8 + 1 * r.val = r.val; rw [(ix10' t).2.1]; omega
  | ⟨2, _⟩ => show win0_10.index t 2 * 768 + 1 * l.val = 768 * ((t.val - 1) / 32) + l.val; rw [(ix10' t).2.2]; omega

theorem flushed10' (c : Dev nD) (t : Fin cfg0.N) (hf : (cfg0.win 10).flush t = true) :
    (dats m 0 c).flushed 10 t = ((cfg0.win 10).blk t).view.read (Elt Ideal) (tailArr m c) := by
  obtain ⟨h1, h16⟩ := (fl10 t).1 hf
  have hlt := tlt t
  have e : (dats m 0 c).flushed 10 t = (cfg0.win 10).cut (grid0.coords t) (asBlock (histE 768 (by decide) (iblk m c 1 t) (prodAt m c (prev t)) (iblk m c 6 t) (iblk m c 7 t))) := by
    rw [flushed10_C m c t (by omega) (by omega) (by omega) (by omega), out_t_C]
    exact congrArg (fun p => (cfg0.win 10).cut (grid0.coords t) (asBlock (histE 768 (by decide) (iblk m c 1 t) p (iblk m c 6 t) (iblk m c 7 t))))
      (left_odd m c (prev t) (by show (t.val - 1) % 2 = 1; omega))
  rw [e]
  funext (y : S1x8x768.Idx)
  obtain ⟨z, r, l, rfl⟩ : ∃ (z : Fin 1) (r : Fin 8) (l : Fin 768), y = ix3 z r l := ⟨y 0, y 1, y 2, eq_ix3 y⟩
  obtain rfl : z = 0 := Subsingleton.elim _ _
  refine Eq.trans ?_ (read10 (tailArr m c) t r l).symm
  refine (asBlock_apply _ r l).trans ?_
  refine (xb_block m c t h1 (⟨248 + r.val, by omega⟩ : Fin 256) l).trans ?_
  unfold tailArr
  exact congrArg (fun q => xbArr m c (ix2 q (⟨768 * ((t.val - 1) / 32) + l.val, by omega⟩ : Fin 6912)))
    (Fin.ext (show 256 * ((t.val - 1) % 32) + (248 + r.val) = 4096 * ((t.val - 1) % 32 / 16) + 4088 + r.val by omega))

theorem final10' (c : Dev nD) : (dats m 0 c).arrAt 10 cfg0.N = tailArr m c :=
  (dats m 0 c).arrAt_eq_of_cover 10 _ (fun t hf => flushed10' m c t hf) fun i => by
    have h0 : (i 0 : Nat) < 2 := (i 0).isLt
    have h1 : (i 1 : Nat) < 8 := (i 1).isLt
    have h2 : (i 2 : Nat) < 6912 := (i 2).isLt
    have hv : (pt (32 * ((i 2 : Nat) / 768) + 16 * (i 0 : Nat) + 16) (by omega)).val = 32 * ((i 2 : Nat) / 768) + 16 * (i 0 : Nat) + 16 := rfl
    generalize pt (32 * ((i 2 : Nat) / 768) + 16 * (i 0 : Nat) + 16) (by omega) = t at hv
    refine ⟨t, (fl10 _).2 (by omega), ?_⟩
    show i ∈ ((View.whole main_v6_2).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1; rw [(ix10' t).1]; omega
    | ⟨1, _⟩ => show win0_10.index t 1 * 8 ≤ (i 1 : Nat) ∧ (i 1 : Nat) < win0_10.index t 1 * 8 + 8; rw [(ix10' t).2.1]; omega
    | ⟨2, _⟩ => show win0_10.index t 2 * 768 ≤ (i 2 : Nat) ∧ (i 2 : Nat) < win0_10.index t 2 * 768 + 768; rw [(ix10' t).2.2]; omega

variable (ρ : Dev nD → PrngReg)

/-- Every run ends with the two projections, the last rows and the arguments unchanged. -/
theorem run : θ_run (defs (F := Ideal)) (onTc (τ := τ) (main (F := Ideal))) ⟨m, fun _ => 0, ρ⟩ (fun r => ∀ c : Dev nD,
      r.2.mem ((c.tc : Thread nD τ).loc main_v6_0) = xbArr m c
      ∧ r.2.mem ((c.tc : Thread nD τ).loc main_v6_1) = yArr m c
      ∧ r.2.mem ((c.tc : Thread nD τ).loc main_v6_2) = tailArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (final8' m c), ((h.1 c).1 9).trans (final9' m c), ((h.1 c).1 10).trans (final10' m c), h.2 c⟩)
    (θ_run_and (run_main m ρ) (unchanged m ρ))

end Cert.Proof.Mx
end
-- ==== Proof.PRef.lean ====
/-
  THE REFERENCE OF THE TWO PROJECTIONS, with its values over the reals: one grid point, whole arrays.
-/
module
public import proofs.«01_k».proof.Proof.Gen.ProjectionsIdeal.Frame
public import proofs.«01_k».proof.Proof.PSpec
public import Idealize.ShloMosaic.Lib.Pipeline.Value
public import Idealize.ShloMosaic.Lib.Affine
public import Idealize.ShloMosaic.Lib.Claim
@[expose] public section
set_option maxRecDepth 16384
noncomputable section
namespace Cert.Proof.Rp
open Idealize.ShloMosaic Idealize.SL.Sem Cert.ProjectionsIdeal Cert.ProjectionsIdeal.Gen Idealize.ShloMosaic.TcCoe
open Idealize.ShloMosaic.Pipeline (Dat Cfg Window)

theorem spread (x : FVec Ideal S8192 .f32) (r : Fin 8192) (l : Fin 6912) :
    broadcastTo S8192x6912 (shapeCast S8192x1 (shapeCast S8192x1 x shapeCasts_S8192_S8192x1) shapeCasts_S8192x1_S8192x1) broadcasts_S8192x1_S8192x6912 (ix2 r l)
      = x (ix1 r) := by
  pointwise

theorem dot (v : FVec Ideal S8192x5120 .bf16) (w : FVec Ideal S5120x6912 .bf16) (r : Fin 8192) (l : Fin 6912) :
    (matmul dot_S8192x5120_S5120x6912_S8192x6912_1_0_0_1_n_n none v w (constant S8192x6912 .f32 0x00000000#32) : FVec Ideal S8192x6912 .f32) (ix2 r l)
      = ∑ x, v (ix2 r x) * w (ix2 x l) := by
  pointwise

theorem row (x : FVec Ideal S6912 .f32) (r : Fin 8192) (l : Fin 6912) :
    broadcastTo S8192x6912 (shapeCast S1x6912 (shapeCast S1x6912 x shapeCasts_S6912_S1x6912) shapeCasts_S1x6912_S1x6912) broadcasts_S1x6912_S8192x6912 (ix2 r l)
      = x (ix1 l) := by
  pointwise

theorem comb {s : Shape} (a b c d : FVec Ideal s .f32) (j : s.Idx) : addf (mulf (mulf a b) c) d j = a j * b j * c j + d j := rfl
theorem code_at {s : Shape} (a : IVec s 8) (h : FTy.bf16.bits < FTy.f32.bits) (j : s.Idx) :
    truncf .bf16 (sitofp (F := Ideal) .f32 a) h j = FloatOps.sitofp (F := Ideal) .f32 (a j) := rfl

theorem pay_eq (x : Vec Ideal S8192x5120 .i8) (w : Vec Ideal S5120x6912 .i8) (xs : Vec Ideal S8192 .f32) (s b : Vec Ideal S6912 .f32) :
    k0_pay3 x w (shapeCast S8192x1 xs shapeCasts_S8192_S8192x1) (shapeCast S1x6912 s shapeCasts_S6912_S1x6912) (shapeCast S1x6912 b shapeCasts_S6912_S1x6912)
      = prSpec x xs w s b := by
  funext j
  idx_vars j
  unfold k0_pay3 k0_pay2
  refine (comb _ _ _ _ _).trans ?_
  rw [row s, row b, spread, dot]
  simp only [code_at]
  unfold prSpec dotSpec
  rfl

theorem tail_at (v : FVec Ideal S8192x6912 .f32) (q : Fin 2) (r : Fin 8) (l : Fin 6912) :
    k0_pay1 v (ix3 q r l) = v (ix2 (⟨4096 * q.val + 4088 + r.val, by omega⟩ : Fin 8192) l) := by
  unfold k0_pay1
  pointwise
  exact congrArg (fun a => v (ix2 a l)) (Fin.ext (show q.val * 4096 + (4088 + r.val) = 4096 * q.val + 4088 + r.val by omega))

variable (m : (ℓ : Loc nD τ sig) → Buf (Elt Ideal) ℓ) (ρ : Dev nD → PrngReg)

/-- The one grid point. -/
def t₀ : Fin cfg0.N := ⟨0, by decide⟩

theorem z2 : (![0, 0] : Fin 2 → Nat) = fun _ => 0 := funext fun a => by fin_cases a <;> rfl

theorem V_v0 (c : Dev nD) : V m c main_v0 = shapeCast S8192x1 (m ((c : Thread nD τ).loc main_arg1)) shapeCasts_S8192_S8192x1 := by
  show StableHlo.after hostOps0 _ (Proc.devRef .tc main_v0) = _
  after_results
  rfl
theorem V_v1 (c : Dev nD) : V m c main_v1 = shapeCast S1x6912 (m ((c : Thread nD τ).loc main_arg4)) shapeCasts_S6912_S1x6912 := by
  show StableHlo.after hostOps0 _ (Proc.devRef .tc main_v1) = _
  after_results
  rfl
theorem V_v2 (c : Dev nD) : V m c main_v2 = shapeCast S1x6912 (m ((c : Thread nD τ).loc main_arg5)) shapeCasts_S6912_S1x6912 := by
  show StableHlo.after hostOps0 _ (Proc.devRef .tc main_v2) = _
  after_results
  rfl
theorem V_v3 (c : Dev nD) : V m c main_v3 = shapeCast S1x6912 (m ((c : Thread nD τ).loc main_arg6)) shapeCasts_S6912_S1x6912 := by
  show StableHlo.after hostOps0 _ (Proc.devRef .tc main_v3) = _
  after_results
  rfl
theorem V_v4 (c : Dev nD) : V m c main_v4 = shapeCast S1x6912 (m ((c : Thread nD τ).loc main_arg7)) shapeCasts_S6912_S1x6912 := by
  show StableHlo.after hostOps0 _ (Proc.devRef .tc main_v4) = _
  after_results
  rfl

/-- Each window's one block is its whole array. -/
theorem iblk_0 (c : Dev nD) : (iblk m c 0 t₀ : Vec Ideal S8192x5120 _) = m ((c : Thread nD τ).loc main_arg0) := by
  rw [← V_main_arg0 m c]
  have hz : (fun a => (win0_0.index t₀) a * main_arg0.ty.shape.size a) = fun _ => 0 := funext fun a => by fin_cases a <;> decide
  exact Memref.read_access_unit_zero (Elt Ideal) main_arg0 hz (fun a => by fin_cases a <;> decide) _
theorem iblk_1 (c : Dev nD) : (iblk m c 1 t₀ : Vec Ideal S8192x1 _) = shapeCast S8192x1 (m ((c : Thread nD τ).loc main_arg1)) shapeCasts_S8192_S8192x1 := by
  rw [← V_v0]
  have hz : (fun a => (win0_1.index t₀) a * main_v0.ty.shape.size a) = fun _ => 0 := funext fun a => by fin_cases a <;> decide
  exact Memref.read_access_unit_zero (Elt Ideal) main_v0 hz (fun a => by fin_cases a <;> decide) _
theorem iblk_2 (c : Dev nD) : (iblk m c 2 t₀ : Vec Ideal S5120x6912 _) = m ((c : Thread nD τ).loc main_arg2) := by
  rw [← V_main_arg2 m c]
  have hz : (fun a => (win0_2.index t₀) a * main_arg2.ty.shape.size a) = fun _ => 0 := funext fun a => by fin_cases a <;> decide
  exact Memref.read_access_unit_zero (Elt Ideal) main_arg2 hz (fun a => by fin_cases a <;> decide) _
theorem iblk_3 (c : Dev nD) : (iblk m c 3 t₀ : Vec Ideal S5120x6912 _) = m ((c : Thread nD τ).loc main_arg3) := by
  rw [← V_main_arg3 m c]
  have hz : (fun a => (win0_3.index t₀) a * main_arg3.ty.shape.size a) = fun _ => 0 := funext fun a => by fin_cases a <;> decide
  exact Memref.read_access_unit_zero (Elt Ideal) main_arg3 hz (fun a => by fin_cases a <;> decide) _
theorem iblk_4 (c : Dev nD) : (iblk m c 4 t₀ : Vec Ideal S1x6912 _) = shapeCast S1x6912 (m ((c : Thread nD τ).loc main_arg4)) shapeCasts_S6912_S1x6912 := by
  rw [← V_v1]
  have hz : (fun a => (win0_4.index t₀) a * main_v1.ty.shape.size a) = fun _ => 0 := funext fun a => by fin_cases a <;> decide
  exact Memref.read_access_unit_zero (Elt Ideal) main_v1 hz (fun a => by fin_cases a <;> decide) _
theorem iblk_5 (c : Dev nD) : (iblk m c 5 t₀ : Vec Ideal S1x6912 _) = shapeCast S1x6912 (m ((c : Thread nD τ).loc main_arg5)) shapeCasts_S6912_S1x6912 := by
  rw [← V_v2]
  have hz : (fun a => (win0_5.index t₀) a * main_v2.ty.shape.size a) = fun _ => 0 := funext fun a => by fin_cases a <;> decide
  exact Memref.read_access_unit_zero (Elt Ideal) main_v2 hz (fun a => by fin_cases a <;> decide) _
theorem iblk_6 (c : Dev nD) : (iblk m c 6 t₀ : Vec Ideal S1x6912 _) = shapeCast S1x6912 (m ((c : Thread nD τ).loc main_arg6)) shapeCasts_S6912_S1x6912 := by
  rw [← V_v3]
  have hz : (fun a => (win0_6.index t₀) a * main_v3.ty.shape.size a) = fun _ => 0 := funext fun a => by fin_cases a <;> decide
  exact Memref.read_access_unit_zero (Elt Ideal) main_v3 hz (fun a => by fin_cases a <;> decide) _
theorem iblk_7 (c : Dev nD) : (iblk m c 7 t₀ : Vec Ideal S1x6912 _) = shapeCast S1x6912 (m ((c : Thread nD τ).loc main_arg7)) shapeCasts_S6912_S1x6912 := by
  rw [← V_v4]
  have hz : (fun a => (win0_7.index t₀) a * main_v4.ty.shape.size a) = fun _ => 0 := funext fun a => by fin_cases a <;> decide
  exact Memref.read_access_unit_zero (Elt Ideal) main_v4 hz (fun a => by fin_cases a <;> decide) _

/-- The recurrent branch's input: codes times the weight `w_x`. -/
def xbArr (c : Dev nD) : S8192x6912.Idx → EReal :=
  prSpec (m ((c : Thread nD τ).loc main_arg0)) (m ((c : Thread nD τ).loc main_arg1)) (m ((c : Thread nD τ).loc main_arg3)) (m ((c : Thread nD τ).loc main_arg6)) (m ((c : Thread nD τ).loc main_arg7))
/-- The gating branch before its activation: codes times the weight `w_y`. -/
def yArr (c : Dev nD) : S8192x6912.Idx → EReal :=
  prSpec (m ((c : Thread nD τ).loc main_arg0)) (m ((c : Thread nD τ).loc main_arg1)) (m ((c : Thread nD τ).loc main_arg2)) (m ((c : Thread nD τ).loc main_arg4)) (m ((c : Thread nD τ).loc main_arg5))

/-- Window 8's result array after the run. -/
theorem final_8 (c : Dev nD) : (dats (F := Ideal) m 0 c).arrAt 8 cfg0.N = xbArr m c := by
  have ho : ((cfg0.win 8).blk t₀).view.read (Elt Ideal) ((dats (F := Ideal) m 0 c).arrAt 8 cfg0.N) = (dats (F := Ideal) m 0 c).flushed 8 t₀ := by
    rw [show cfg0.N = (t₀ : Fin cfg0.N).val + 1 from rfl, (dats (F := Ideal) m 0 c).arrAt_succ 8 t₀]
    rw [show (cfg0.win 8).flush t₀ = true from by decide, if_pos rfl]
    exact View.read_write_univ _ _
  have hz : (fun a => (win0_8.index t₀) a * main_v5_0.ty.shape.size a) = fun _ => 0 := funext fun a => by fin_cases a <;> decide
  have hr := fun f => Memref.read_access_unit_zero (Elt Ideal) main_v5_0 hz (fun a => by fin_cases a <;> decide) f
  rw [hr] at ho
  rw [ho]
  show (cfg0.win 8).cut _ ((dats (F := Ideal) m 0 c).after 8 t₀) = _
  rw [after0_8]
  unfold out0_8 k0_pay5
  rw [View.canon_unit_zero (show (![0, 0] : Fin S8192x6912.rank → Nat) = fun _ => 0 from z2), View.ld_unit_zero (show (![0, 0] : Fin S8192x5120.rank → Nat) = fun _ => 0 from z2),
    View.ld_unit_zero (show (![0, 0] : Fin S5120x6912.rank → Nat) = fun _ => 0 from z2), View.ld_unit_zero (show (![0, 0] : Fin S8192x1.rank → Nat) = fun _ => 0 from z2),
    View.ld_unit_zero (show (![0, 0] : Fin S1x6912.rank → Nat) = fun _ => 0 from z2), View.ld_unit_zero (show (![0, 0] : Fin S1x6912.rank → Nat) = fun _ => 0 from z2),
    iblk_0, iblk_1, iblk_3, iblk_6, iblk_7]
  exact pay_eq _ _ _ _ _

/-- Window 9's result array after the run. -/
theorem final_9 (c : Dev nD) : (dats (F := Ideal) m 0 c).arrAt 9 cfg0.N = yArr m c := by
  have ho : ((cfg0.win 9).blk t₀).view.read (Elt Ideal) ((dats (F := Ideal) m 0 c).arrAt 9 cfg0.N) = (dats (F := Ideal) m 0 c).flushed 9 t₀ := by
    rw [show cfg0.N = (t₀ : Fin cfg0.N).val + 1 from rfl, (dats (F := Ideal) m 0 c).arrAt_succ 9 t₀]
    rw [show (cfg0.win 9).flush t₀ = true from by decide, if_pos rfl]
    exact View.read_write_univ _ _
  have hz : (fun a => (win0_9.index t₀) a * main_v5_1.ty.shape.size a) = fun _ => 0 := funext fun a => by fin_cases a <;> decide
  have hr := fun f => Memref.read_access_unit_zero (Elt Ideal) main_v5_1 hz (fun a => by fin_cases a <;> decide) f
  rw [hr] at ho
  rw [ho]
  show (cfg0.win 9).cut _ ((dats (F := Ideal) m 0 c).after 9 t₀) = _
  rw [after0_9]
  unfold out0_9
  rw [View.canon_unit_zero (show (![0, 0] : Fin S8192x6912.rank → Nat) = fun _ => 0 from z2), View.ld_unit_zero (show (![0, 0] : Fin S8192x5120.rank → Nat) = fun _ => 0 from z2),
    View.ld_unit_zero (show (![0, 0] : Fin S5120x6912.rank → Nat) = fun _ => 0 from z2), View.ld_unit_zero (show (![0, 0] : Fin S8192x1.rank → Nat) = fun _ => 0 from z2),
    View.ld_unit_zero (show (![0, 0] : Fin S1x6912.rank → Nat) = fun _ => 0 from z2), View.ld_unit_zero (show (![0, 0] : Fin S1x6912.rank → Nat) = fun _ => 0 from z2),
    iblk_0, iblk_1, iblk_2, iblk_4, iblk_5]
  exact pay_eq _ _ _ _ _

/-- The last eight rows of xb in each sequence. -/
def tailArr (c : Dev nD) : S2x8x6912.Idx → EReal := fun i =>
  xbArr m c (ix2 (⟨4096 * (i 0).val + 4088 + (i 1).val, by have h0 : (i 0).val < 2 := (i 0).isLt; have h1 : (i 1).val < 8 := (i 1).isLt; omega⟩ : Fin 8192) (i 2))

/-- Window 10's result array after the run. -/
theorem final_10 (c : Dev nD) : (dats (F := Ideal) m 0 c).arrAt 10 cfg0.N = tailArr m c := by
  have ho : ((cfg0.win 10).blk t₀).view.read (Elt Ideal) ((dats (F := Ideal) m 0 c).arrAt 10 cfg0.N) = (dats (F := Ideal) m 0 c).flushed 10 t₀ := by
    rw [show cfg0.N = (t₀ : Fin cfg0.N).val + 1 from rfl, (dats (F := Ideal) m 0 c).arrAt_succ 10 t₀]
    rw [show (cfg0.win 10).flush t₀ = true from by decide, if_pos rfl]
    exact View.read_write_univ _ _
  have hz : (fun a => (win0_10.index t₀) a * main_v5_2.ty.shape.size a) = fun _ => 0 := funext fun a => by fin_cases a <;> decide
  have hr := fun f => Memref.read_access_unit_zero (Elt Ideal) main_v5_2 hz (fun a => by fin_cases a <;> decide) f
  rw [hr] at ho
  rw [ho]
  show (cfg0.win 10).cut _ ((dats (F := Ideal) m 0 c).after 10 t₀) = _
  rw [after0_10]
  unfold out0_10 k0_pay5
  rw [View.canon_unit_zero (S := S2x8x6912) (show (![0, 0, 0] : Fin S2x8x6912.rank → Nat) = fun _ => 0 by decide), View.ld_unit_zero (show (![0, 0] : Fin S8192x5120.rank → Nat) = fun _ => 0 from z2),
    View.ld_unit_zero (show (![0, 0] : Fin S5120x6912.rank → Nat) = fun _ => 0 from z2), View.ld_unit_zero (show (![0, 0] : Fin S8192x1.rank → Nat) = fun _ => 0 from z2),
    View.ld_unit_zero (show (![0, 0] : Fin S1x6912.rank → Nat) = fun _ => 0 from z2), View.ld_unit_zero (show (![0, 0] : Fin S1x6912.rank → Nat) = fun _ => 0 from z2),
    iblk_0, iblk_1, iblk_3, iblk_6, iblk_7]
  funext (j : S2x8x6912.Idx)
  obtain ⟨q, r, l, rfl⟩ : ∃ (q : Fin 2) (r : Fin 8) (l : Fin 6912), j = ix3 q r l := ⟨j 0, j 1, j 2, eq_ix3 j⟩
  exact (tail_at _ q r l).trans (congrFun (pay_eq _ _ _ _ _) _)

/-- Every run ends with the result arrays at these values and the arguments unchanged. -/
theorem run : θ_run (defs (F := Ideal)) (onTc (τ := τ) (main (F := Ideal))) ⟨m, fun _ => 0, ρ⟩ (fun r => ∀ c : Dev nD,
      r.2.mem ((c.tc : Thread nD τ).loc main_v5_0) = xbArr m c
      ∧ r.2.mem ((c.tc : Thread nD τ).loc main_v5_1) = yArr m c
      ∧ r.2.mem ((c.tc : Thread nD τ).loc main_v5_2) = tailArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (final_8 m c), ((h.1 c).1 9).trans (final_9 m c), ((h.1 c).1 10).trans (final_10 m c), h.2 c⟩)
    (θ_run_and (run_main m ρ) (unchanged m ρ))

end Cert.Proof.Rp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.QuantX
public import proofs.«01_k».proof.Proof.Gen.QuantX.Skeleton
public import proofs.«01_k».proof.Proof.Gen.QuantX.Launch
public import proofs.«01_k».proof.Proof.Gen.QuantX.Points
public import proofs.«01_k».proof.Proof.Gen.QuantX.Frame
public import proofs.«01_k».proof.Proof.Gen.QuantXIdeal
public import proofs.«01_k».proof.Proof.Gen.QuantXIdeal.Skeleton
public import proofs.«01_k».proof.Proof.Gen.QuantXIdeal.Launch
public import proofs.«01_k».proof.Proof.Gen.QuantXIdeal.Points
public import proofs.«01_k».proof.Proof.Gen.QuantXIdeal.Frame
public import proofs.«01_k».proof.Proof.Gen.XReferenceIdeal
public import proofs.«01_k».proof.Proof.Gen.XReferenceIdeal.Skeleton
public import proofs.«01_k».proof.Proof.Gen.XReferenceIdeal.Launch
public import proofs.«01_k».proof.Proof.Gen.XReferenceIdeal.Points
public import proofs.«01_k».proof.Proof.Gen.XReferenceIdeal.Frame
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.KernelFrame
public import proofs.«01_k».proof.Proof.KernelRun
public import proofs.«01_k».proof.Proof.RefRun
public import proofs.«01_k».proof.Proof.XValue
public import proofs.«01_k».proof.Proof.XRef
public import proofs.«01_k».proof.Proof.PValue
public import proofs.«01_k».proof.Proof.PRef
public import Idealize.ShloMosaic.Adequacy
public import Idealize.ShloMosaic.Init

@[expose] public section

noncomputable section

namespace Cert.Proof

open Idealize.ShloMosaic Idealize.SL.Sem Cert.KernelIdeal Idealize.ShloMosaic.TcCoe

/-- The output projection: kernel and reference end at the same five arrays. -/
theorem out_proj : Cert.algebraic_KernelIdeal_ReferenceIdeal := by
  intro m g m' g' _ hagree
  refine ⟨fun c => oqSpec (m ((c.tc : Thread nD τ).loc main_arg0)), fun c => osSpec (m ((c.tc : Thread nD τ).loc main_arg0)),
    fun c => outSpec (m ((c.tc : Thread nD τ).loc main_arg0)) (m ((c.tc : Thread nD τ).loc main_arg2)) (m ((c.tc : Thread nD τ).loc main_arg3)) (m ((c.tc : Thread nD τ).loc main_arg4)),
    fun c => hcSpec (m ((c.tc : Thread nD τ).loc main_arg1)), fun c => hsSpec (m ((c.tc : Thread nD τ).loc main_arg1)), ?_, ?_⟩
  · exact (θ_run _ _ _).mono (fun r h c => h c) (Cert.Proof.Ker.run m g)
  · refine (θ_run _ _ _).mono (fun r h c => ?_) (Cert.Proof.Ref.run m' g')
    obtain ⟨h0, h1, h2, h3, h4, h5⟩ := h c
    obtain ⟨a0, a1, a2, a3, a4⟩ := hagree c
    rw [a0] at h0 h1
    rw [a0, a2, a3, a4] at h2
    rw [a1] at h3 h4
    exact ⟨h0, h1, h2, h3, h4, h5⟩

/-- The quantised input: kernel and reference end at the same three arrays. -/
theorem quant_x : Cert.algebraic_QuantXIdeal_XReferenceIdeal := by
  intro m g m' g' _ hagree
  refine ⟨fun c => xqSpec (Qx.rows m c), fun c => xbSpec (Qx.rows m c), fun c => xsSpec (Qx.rows m c), ?_, ?_⟩
  · exact (θ_run _ _ _).mono (fun r h c => h c) (Qx.run m g)
  · refine (θ_run _ _ _).mono (fun r h c => ?_) (Rx.run m' g')
    obtain ⟨h0, h1, h2, h3⟩ := h c
    have e : Rx.rows m' c = Qx.rows m c := by
      unfold Rx.rows Qx.rows
      rw [hagree c]
    rw [e] at h0 h1 h2
    exact ⟨h0, h1, h2, h3⟩

/-- The two projections of the mixer and the last rows of each sequence: kernel and reference end at the same three arrays. -/
theorem mixer : Cert.algebraic_MixerIdeal_ProjectionsIdeal := by
  intro m g m' g' _ hagree
  refine ⟨fun c => Mx.xbArr m c, fun c => Mx.yArr m c, fun c => Mx.tailArr m c, ?_, ?_⟩
  · exact (θ_run _ _ _).mono (fun r h c => h c) (Mx.run m g)
  · refine (θ_run _ _ _).mono (fun r h c => ?_) (Rp.run m' g')
    obtain ⟨h0, h1, h2, h3⟩ := h c
    obtain ⟨a0, a1, a2, a3, a4, a5, a6, a7⟩ := hagree c
    have ex : Rp.xbArr m' c = Mx.xbArr m c := by
      unfold Rp.xbArr Mx.xbArr
      rw [a0, a1, a3, a6, a7]
    have ey : Rp.yArr m' c = Mx.yArr m c := by
      unfold Rp.yArr Mx.yArr
      rw [a0, a1, a2, a4, a5]
    have et : Rp.tailArr m' c = Mx.tailArr m c := by
      unfold Rp.tailArr Mx.tailArr
      rw [ex]
    exact ⟨h0.trans ex, h1.trans ey, h2.trans et, h3⟩

theorem claim : Cert.Claim :=
  ⟨Cert.Kernel.Gen.facts, Cert.KernelIdeal.Gen.facts, Cert.ReferenceIdeal.Gen.facts,
    Cert.QuantX.Gen.facts, Cert.QuantXIdeal.Gen.facts, Cert.XReferenceIdeal.Gen.facts,
    Cert.Mixer.Gen.facts, Cert.MixerIdeal.Gen.facts, Cert.ProjectionsIdeal.Gen.facts,
    fun m ρ _ => Cert.Kernel.Gen.frame m ρ, fun m ρ _ => Cert.KernelIdeal.Gen.frame m ρ, fun m ρ _ => Cert.ReferenceIdeal.Gen.frame m ρ,
    fun m ρ _ => Cert.QuantX.Gen.frame m ρ, fun m ρ _ => Cert.QuantXIdeal.Gen.frame m ρ, fun m ρ _ => Cert.XReferenceIdeal.Gen.frame m ρ,
    fun m ρ _ => Cert.Mixer.Gen.frame m ρ, fun m ρ _ => Cert.MixerIdeal.Gen.frame m ρ, fun m ρ _ => Cert.ProjectionsIdeal.Gen.frame m ρ,
    trivial, out_proj, trivial, quant_x, trivial, mixer⟩

end Cert.Proof

end
